-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_positions_finite [hPre_positions_finite : Cert.Pre_positions_finite.Facts] (m : (ℓ : Loc Cert.CmpIdeal.nD Cert.CmpIdeal.τ Cert.CmpIdeal.sig) → Buf (Elt Ideal) ℓ) : Prop :=
  ∀ c : Dev Cert.CmpIdeal.nD,
    (Cert.Pre_positions_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))).1 = (fun _ => 1#1)
    ∧ (Cert.Pre_positions_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3))).2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_positions_finite [hPre_positions_finite : Cert.Pre_positions_finite.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_positions_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))).1 = (fun _ => 1#1)
    ∧ (Cert.Pre_positions_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4)
      ∧ r.2.mem ((c.tc : Thread Cert.Kvq.nD Cert.Kvq.τ).loc Cert.Kvq.main_arg5) = m ((c.tc : Thread Cert.Kvq.nD Cert.Kvq.τ).loc Cert.Kvq.main_arg5)
      ∧ r.2.mem ((c.tc : Thread Cert.Kvq.nD Cert.Kvq.τ).loc Cert.Kvq.main_arg6) = m ((c.tc : Thread Cert.Kvq.nD Cert.Kvq.τ).loc Cert.Kvq.main_arg6)
      ∧ r.2.mem ((c.tc : Thread Cert.Kvq.nD Cert.Kvq.τ).loc Cert.Kvq.main_arg7) = m ((c.tc : Thread Cert.Kvq.nD Cert.Kvq.τ).loc Cert.Kvq.main_arg7))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
      ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
      ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6)
      ∧ r.2.mem ((c.tc : Thread Cert.KvqIdeal.nD Cert.KvqIdeal.τ).loc Cert.KvqIdeal.main_arg7) = m ((c.tc : Thread Cert.KvqIdeal.nD Cert.KvqIdeal.τ).loc Cert.KvqIdeal.main_arg7))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1)
      ∧ r.2.mem ((c.tc : Thread Cert.KvqRefIdeal.nD Cert.KvqRefIdeal.τ).loc Cert.KvqRefIdeal.main_arg2) = m ((c.tc : Thread Cert.KvqRefIdeal.nD Cert.KvqRefIdeal.τ).loc Cert.KvqRefIdeal.main_arg2)
      ∧ r.2.mem ((c.tc : Thread Cert.KvqRefIdeal.nD Cert.KvqRefIdeal.τ).loc Cert.KvqRefIdeal.main_arg3) = m ((c.tc : Thread Cert.KvqRefIdeal.nD Cert.KvqRefIdeal.τ).loc Cert.KvqRefIdeal.main_arg3)
      ∧ r.2.mem ((c.tc : Thread Cert.KvqRefIdeal.nD Cert.KvqRefIdeal.τ).loc Cert.KvqRefIdeal.main_arg4) = m ((c.tc : Thread Cert.KvqRefIdeal.nD Cert.KvqRefIdeal.τ).loc Cert.KvqRefIdeal.main_arg4)
      ∧ r.2.mem ((c.tc : Thread Cert.KvqRefIdeal.nD Cert.KvqRefIdeal.τ).loc Cert.KvqRefIdeal.main_arg5) = m ((c.tc : Thread Cert.KvqRefIdeal.nD Cert.KvqRefIdeal.τ).loc Cert.KvqRefIdeal.main_arg5)
      ∧ r.2.mem ((c.tc : Thread Cert.KvqRefIdeal.nD Cert.KvqRefIdeal.τ).loc Cert.KvqRefIdeal.main_arg6) = m ((c.tc : Thread Cert.KvqRefIdeal.nD Cert.KvqRefIdeal.τ).loc Cert.KvqRefIdeal.main_arg6)
      ∧ r.2.mem ((c.tc : Thread Cert.KvqRefIdeal.nD Cert.KvqRefIdeal.τ).loc Cert.KvqRefIdeal.main_arg7) = m ((c.tc : Thread Cert.KvqRefIdeal.nD Cert.KvqRefIdeal.τ).loc Cert.KvqRefIdeal.main_arg7))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpIdeal_pre_positions_finite [hCmpIdeal : Cert.CmpIdeal.Facts] [hPre_positions_finite : Cert.Pre_positions_finite.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_positions_finite m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def quiescent_CmpRefIdeal_pre_positions_finite [hCmpRefIdeal : Cert.CmpRefIdeal.Facts] [hPre_positions_finite : Cert.Pre_positions_finite.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_positions_finite m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def preserves_Kernel_KernelIdeal : Prop :=
  IdealRules.named_const.Statement Cert.KernelIdeal.κ "log_zero" .f32 0xC2DC0000#32 ⊥

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v4) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v20) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23) = v0 c
          ∧ r.2.mem ((c.tc : Thread Cert.QkvRefIdeal.nD Cert.QkvRefIdeal.τ).loc Cert.QkvRefIdeal.main_v25) = v1 c
          ∧ r.2.mem ((c.tc : Thread Cert.QkvRefIdeal.nD Cert.QkvRefIdeal.τ).loc Cert.QkvRefIdeal.main_v26) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Kvq_KvqIdeal : Prop :=
  True

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m' ((c.tc : Thread Cert.KvqRefIdeal.nD Cert.KvqRefIdeal.τ).loc Cert.KvqRefIdeal.main_arg0) = m ((c.tc : Thread Cert.KvqIdeal.nD Cert.KvqIdeal.τ).loc Cert.KvqIdeal.main_arg0)
      ∧ m' ((c.tc : Thread Cert.KvqRefIdeal.nD Cert.KvqRefIdeal.τ).loc Cert.KvqRefIdeal.main_arg1) = m ((c.tc : Thread Cert.KvqIdeal.nD Cert.KvqIdeal.τ).loc Cert.KvqIdeal.main_arg1)
      ∧ m' ((c.tc : Thread Cert.KvqRefIdeal.nD Cert.KvqRefIdeal.τ).loc Cert.KvqRefIdeal.main_arg2) = m ((c.tc : Thread Cert.KvqIdeal.nD Cert.KvqIdeal.τ).loc Cert.KvqIdeal.main_arg2)
      ∧ m' ((c.tc : Thread Cert.KvqRefIdeal.nD Cert.KvqRefIdeal.τ).loc Cert.KvqRefIdeal.main_arg3) = m ((c.tc : Thread Cert.KvqIdeal.nD Cert.KvqIdeal.τ).loc Cert.KvqIdeal.main_arg3)
      ∧ m' ((c.tc : Thread Cert.KvqRefIdeal.nD Cert.KvqRefIdeal.τ).loc Cert.KvqRefIdeal.main_arg4) = m ((c.tc : Thread Cert.KvqIdeal.nD Cert.KvqIdeal.τ).loc Cert.KvqIdeal.main_arg4)
      ∧ m' ((c.tc : Thread Cert.KvqRefIdeal.nD Cert.KvqRefIdeal.τ).loc Cert.KvqRefIdeal.main_arg5) = m ((c.tc : Thread Cert.KvqIdeal.nD Cert.KvqIdeal.τ).loc Cert.KvqIdeal.main_arg5)
      ∧ m' ((c.tc : Thread Cert.KvqRefIdeal.nD Cert.KvqRefIdeal.τ).loc Cert.KvqRefIdeal.main_arg6) = m ((c.tc : Thread Cert.KvqIdeal.nD Cert.KvqIdeal.τ).loc Cert.KvqIdeal.main_arg6)
      ∧ m' ((c.tc : Thread Cert.KvqRefIdeal.nD Cert.KvqRefIdeal.τ).loc Cert.KvqRefIdeal.main_arg7) = m ((c.tc : Thread Cert.KvqIdeal.nD Cert.KvqIdeal.τ).loc Cert.KvqIdeal.main_arg7)) →
    ∃ (v0 : (c : Dev Cert.KvqIdeal.nD) → Buf (Elt Ideal) ((c.tc : Thread Cert.KvqIdeal.nD Cert.KvqIdeal.τ).loc Cert.KvqIdeal.main_v37_0)) (v1 : (c : Dev Cert.KvqIdeal.nD) → Buf (Elt Ideal) ((c.tc : Thread Cert.KvqIdeal.nD Cert.KvqIdeal.τ).loc Cert.KvqIdeal.main_v37_1)) (v2 : (c : Dev Cert.KvqIdeal.nD) → Buf (Elt Ideal) ((c.tc : Thread Cert.KvqIdeal.nD Cert.KvqIdeal.τ).loc Cert.KvqIdeal.main_v37_2)) (v3 : (c : Dev Cert.KvqIdeal.nD) → Buf (Elt Ideal) ((c.tc : Thread Cert.KvqIdeal.nD Cert.KvqIdeal.τ).loc Cert.KvqIdeal.main_v37_3)) (v4 : (c : Dev Cert.KvqIdeal.nD) → Buf (Elt Ideal) ((c.tc : Thread Cert.KvqIdeal.nD Cert.KvqIdeal.τ).loc Cert.KvqIdeal.main_v37_4)) (v5 : (c : Dev Cert.KvqIdeal.nD) → Buf (Elt Ideal) ((c.tc : Thread Cert.KvqIdeal.nD Cert.KvqIdeal.τ).loc Cert.KvqIdeal.main_v37_5)) (v6 : (c : Dev Cert.KvqIdeal.nD) → Buf (Elt Ideal) ((c.tc : Thread Cert.KvqIdeal.nD Cert.KvqIdeal.τ).loc Cert.KvqIdeal.main_v37_6)) (v7 : (c : Dev Cert.KvqIdeal.nD) → Buf (Elt Ideal) ((c.tc : Thread Cert.KvqIdeal.nD Cert.KvqIdeal.τ).loc Cert.KvqIdeal.main_v37_7)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v37_0) = v0 c
          ∧ r.2.mem ((c.tc : Thread Cert.KvqIdeal.nD Cert.KvqIdeal.τ).loc Cert.KvqIdeal.main_v37_1) = v1 c
          ∧ r.2.mem ((c.tc : Thread Cert.KvqIdeal.nD Cert.KvqIdeal.τ).loc Cert.KvqIdeal.main_v37_2) = v2 c
          ∧ r.2.mem ((c.tc : Thread Cert.KvqIdeal.nD Cert.KvqIdeal.τ).loc Cert.KvqIdeal.main_v37_3) = v3 c
          ∧ r.2.mem ((c.tc : Thread Cert.KvqIdeal.nD Cert.KvqIdeal.τ).loc Cert.KvqIdeal.main_v37_4) = v4 c
          ∧ r.2.mem ((c.tc : Thread Cert.KvqIdeal.nD Cert.KvqIdeal.τ).loc Cert.KvqIdeal.main_v37_5) = v5 c
          ∧ r.2.mem ((c.tc : Thread Cert.KvqIdeal.nD Cert.KvqIdeal.τ).loc Cert.KvqIdeal.main_v37_6) = v6 c
          ∧ r.2.mem ((c.tc : Thread Cert.KvqIdeal.nD Cert.KvqIdeal.τ).loc Cert.KvqIdeal.main_v37_7) = v7 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
          ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
          ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6)
          ∧ r.2.mem ((c.tc : Thread Cert.KvqIdeal.nD Cert.KvqIdeal.τ).loc Cert.KvqIdeal.main_arg7) = m ((c.tc : Thread Cert.KvqIdeal.nD Cert.KvqIdeal.τ).loc Cert.KvqIdeal.main_arg7))
      ∧ θ_run (Cert.KvqRefIdeal.defs (F := Ideal)) (onTc (τ := Cert.KvqRefIdeal.τ) (Cert.KvqRefIdeal.main (F := Ideal))) ⟨m', fun _ => 0, g'⟩ (fun r => ∀ c : Dev Cert.KvqRefIdeal.nD,
          r.2.mem ((c.tc : Thread Cert.KvqRefIdeal.nD Cert.KvqRefIdeal.τ).loc Cert.KvqRefIdeal.main_v50) = v0 c
          ∧ r.2.mem ((c.tc : Thread Cert.KvqRefIdeal.nD Cert.KvqRefIdeal.τ).loc Cert.KvqRefIdeal.main_v70) = v1 c
          ∧ r.2.mem ((c.tc : Thread Cert.KvqRefIdeal.nD Cert.KvqRefIdeal.τ).loc Cert.KvqRefIdeal.main_v77) = v2 c
          ∧ r.2.mem ((c.tc : Thread Cert.KvqRefIdeal.nD Cert.KvqRefIdeal.τ).loc Cert.KvqRefIdeal.main_v97) = v3 c
          ∧ r.2.mem ((c.tc : Thread Cert.KvqRefIdeal.nD Cert.KvqRefIdeal.τ).loc Cert.KvqRefIdeal.main_v104) = v4 c
          ∧ r.2.mem ((c.tc : Thread Cert.KvqRefIdeal.nD Cert.KvqRefIdeal.τ).loc Cert.KvqRefIdeal.main_v106) = v5 c
          ∧ r.2.mem ((c.tc : Thread Cert.KvqRefIdeal.nD Cert.KvqRefIdeal.τ).loc Cert.KvqRefIdeal.main_v124) = v6 c
          ∧ r.2.mem ((c.tc : Thread Cert.KvqRefIdeal.nD Cert.KvqRefIdeal.τ).loc Cert.KvqRefIdeal.main_v47) = v7 c
          ∧ r.2.mem ((c.tc : Thread Cert.KvqRefIdeal.nD Cert.KvqRefIdeal.τ).loc Cert.KvqRefIdeal.main_arg0) = m' ((c.tc : Thread Cert.KvqRefIdeal.nD Cert.KvqRefIdeal.τ).loc Cert.KvqRefIdeal.main_arg0)
          ∧ r.2.mem ((c.tc : Thread Cert.KvqRefIdeal.nD Cert.KvqRefIdeal.τ).loc Cert.KvqRefIdeal.main_arg1) = m' ((c.tc : Thread Cert.KvqRefIdeal.nD Cert.KvqRefIdeal.τ).loc Cert.KvqRefIdeal.main_arg1)
          ∧ r.2.mem ((c.tc : Thread Cert.KvqRefIdeal.nD Cert.KvqRefIdeal.τ).loc Cert.KvqRefIdeal.main_arg2) = m' ((c.tc : Thread Cert.KvqRefIdeal.nD Cert.KvqRefIdeal.τ).loc Cert.KvqRefIdeal.main_arg2)
          ∧ r.2.mem ((c.tc : Thread Cert.KvqRefIdeal.nD Cert.KvqRefIdeal.τ).loc Cert.KvqRefIdeal.main_arg3) = m' ((c.tc : Thread Cert.KvqRefIdeal.nD Cert.KvqRefIdeal.τ).loc Cert.KvqRefIdeal.main_arg3)
          ∧ r.2.mem ((c.tc : Thread Cert.KvqRefIdeal.nD Cert.KvqRefIdeal.τ).loc Cert.KvqRefIdeal.main_arg4) = m' ((c.tc : Thread Cert.KvqRefIdeal.nD Cert.KvqRefIdeal.τ).loc Cert.KvqRefIdeal.main_arg4)
          ∧ r.2.mem ((c.tc : Thread Cert.KvqRefIdeal.nD Cert.KvqRefIdeal.τ).loc Cert.KvqRefIdeal.main_arg5) = m' ((c.tc : Thread Cert.KvqRefIdeal.nD Cert.KvqRefIdeal.τ).loc Cert.KvqRefIdeal.main_arg5)
          ∧ r.2.mem ((c.tc : Thread Cert.KvqRefIdeal.nD Cert.KvqRefIdeal.τ).loc Cert.KvqRefIdeal.main_arg6) = m' ((c.tc : Thread Cert.KvqRefIdeal.nD Cert.KvqRefIdeal.τ).loc Cert.KvqRefIdeal.main_arg6)
          ∧ r.2.mem ((c.tc : Thread Cert.KvqRefIdeal.nD Cert.KvqRefIdeal.τ).loc Cert.KvqRefIdeal.main_arg7) = m' ((c.tc : Thread Cert.KvqRefIdeal.nD Cert.KvqRefIdeal.τ).loc Cert.KvqRefIdeal.main_arg7))

def preserves_Cmp_CmpIdeal : Prop :=
  True

def algebraic_CmpIdeal_CmpRefIdeal_pre_positions_finite [hCmpIdeal : Cert.CmpIdeal.Facts] [hCmpRefIdeal : Cert.CmpRefIdeal.Facts] [hPre_positions_finite : Cert.Pre_positions_finite.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_positions_finite m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v4_0)) (v1 : (c : Dev Cert.CmpIdeal.nD) → Buf (Elt Ideal) ((c.tc : Thread Cert.CmpIdeal.nD Cert.CmpIdeal.τ).loc Cert.CmpIdeal.main_v4_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v4_0) = v0 c
          ∧ r.2.mem ((c.tc : Thread Cert.CmpIdeal.nD Cert.CmpIdeal.τ).loc Cert.CmpIdeal.main_v4_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v33) = v0 c
          ∧ r.2.mem ((c.tc : Thread Cert.CmpRefIdeal.nD Cert.CmpRefIdeal.τ).loc Cert.CmpRefIdeal.main_v35) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutRefIdeal : Cert.OutRefIdeal.Facts) (hMid : Cert.Mid.Facts) (hMidIdeal : Cert.MidIdeal.Facts) (hMidRefIdeal : Cert.MidRefIdeal.Facts) (hQkv : Cert.Qkv.Facts) (hQkvIdeal : Cert.QkvIdeal.Facts) (hQkvRefIdeal : Cert.QkvRefIdeal.Facts) (hKvq : Cert.Kvq.Facts) (hKvqIdeal : Cert.KvqIdeal.Facts) (hKvqRefIdeal : Cert.KvqRefIdeal.Facts) (hCmp : Cert.Cmp.Facts) (hCmpIdeal : Cert.CmpIdeal.Facts) (hCmpRefIdeal : Cert.CmpRefIdeal.Facts) (hPre_logits_finite : Cert.Pre_logits_finite.Facts) (hPre_positions_finite : Cert.Pre_positions_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Out (hOut := hOut)
    ∧ quiescent_OutIdeal (hOutIdeal := hOutIdeal)
    ∧ quiescent_OutRefIdeal (hOutRefIdeal := hOutRefIdeal)
    ∧ quiescent_Mid (hMid := hMid)
    ∧ quiescent_MidIdeal (hMidIdeal := hMidIdeal)
    ∧ quiescent_MidRefIdeal (hMidRefIdeal := hMidRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Kvq (hKvq := hKvq)
    ∧ quiescent_KvqIdeal (hKvqIdeal := hKvqIdeal)
    ∧ quiescent_KvqRefIdeal (hKvqRefIdeal := hKvqRefIdeal)
    ∧ quiescent_Cmp (hCmp := hCmp)
    ∧ quiescent_CmpIdeal (hCmpIdeal := hCmpIdeal)
    ∧ quiescent_CmpIdeal_pre_positions_finite (hCmpIdeal := hCmpIdeal) (hPre_positions_finite := hPre_positions_finite)
    ∧ quiescent_CmpRefIdeal (hCmpRefIdeal := hCmpRefIdeal)
    ∧ quiescent_CmpRefIdeal_pre_positions_finite (hCmpRefIdeal := hCmpRefIdeal) (hPre_positions_finite := hPre_positions_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Out_OutIdeal
    ∧ algebraic_OutIdeal_OutRefIdeal (hOutIdeal := hOutIdeal) (hOutRefIdeal := hOutRefIdeal)
    ∧ preserves_Mid_MidIdeal
    ∧ algebraic_MidIdeal_MidRefIdeal (hMidIdeal := hMidIdeal) (hMidRefIdeal := hMidRefIdeal)
    ∧ preserves_Qkv_QkvIdeal
    ∧ algebraic_QkvIdeal_QkvRefIdeal (hQkvIdeal := hQkvIdeal) (hQkvRefIdeal := hQkvRefIdeal)
    ∧ preserves_Kvq_KvqIdeal
    ∧ algebraic_KvqIdeal_KvqRefIdeal (hKvqIdeal := hKvqIdeal) (hKvqRefIdeal := hKvqRefIdeal)
    ∧ preserves_Cmp_CmpIdeal
    ∧ algebraic_CmpIdeal_CmpRefIdeal_pre_positions_finite (hCmpIdeal := hCmpIdeal) (hCmpRefIdeal := hCmpRefIdeal) (hPre_positions_finite := hPre_positions_finite)
-- ==== Pre_logits_finite.lean ====
abbrev S16384x1024 : Shape := ⟨2, ![16384, 1024]⟩
abbrev S1024x16384 : Shape := ⟨2, ![1024, 16384]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x16384 : S_.BroadcastsInDim S1024x16384 (![] : Fin 0 → Fin S1024x16384.rank)

variable [Facts]

def fn {F : FTy → Type} [FloatOps F] (main_arg0 : FVec F S16384x1024 .bf16) (main_arg1 : FVec F S1024x16384 .bf16) (main_arg2 : FVec F S16384x1024 .bf16) : IVec S16384x1024 1 × IVec S1024x16384 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S1024x16384 .f32 := (extf .f32 · bitsLt_bf16_f32) main_arg1
  let main_v5 : FVec F S1024x16384 .f32 := Host.absf main_v4
  let main_cst_0 : FVec F S_ .f32 := constant S_ .f32 0x7F800000#32
  let main_v6 : FVec F S1024x16384 .f32 := broadcastInDim S1024x16384 ![] bcast_S_S1024x16384 main_cst_0
  let main_v7 : IVec S1024x16384 1 := cmpf .olt main_v5 main_v6
  (main_v3, main_v7)
-- ==== Pre_positions_finite.lean ====
abbrev S16384x512 : Shape := ⟨2, ![16384, 512]⟩
abbrev S2x32x64 : Shape := ⟨3, ![2, 32, 64]⟩
abbrev S2x2048x256 : Shape := ⟨3, ![2, 2048, 256]⟩
abbrev S2x256x64 : Shape := ⟨3, ![2, 256, 64]⟩
abbrev S_ : Shape := ⟨0, ![]⟩

class Facts : Prop where
  bcast_S_S2x32x64 : S_.BroadcastsInDim S2x32x64 (![] : Fin 0 → Fin S2x32x64.rank)
  bcast_S_S2x2048x256 : S_.BroadcastsInDim S2x2048x256 (![] : Fin 0 → Fin S2x2048x256.rank)

variable [Facts]

def fn {F : FTy → Type} [FloatOps F] (main_arg0 : FVec F S16384x512 .f32) (main_arg1 : FVec F S2x32x64 .f32) (main_arg2 : FVec F S2x2048x256 .f32) (main_arg3 : FVec F S2x256x64 .f32) : IVec S2x32x64 1 × IVec S2x2048x256 1 :=
  let main_v0 : FVec F S2x32x64 .f32 := Host.absf main_arg1
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_v3 : FVec F S2x2048x256 .f32 := Host.absf main_arg2
  let main_cst_0 : FVec F S_ .f32 := constant S_ .f32 0x7F800000#32
  let main_v4 : FVec F S2x2048x256 .f32 := broadcastInDim S2x2048x256 ![] bcast_S_S2x2048x256 main_cst_0
  let main_v5 : IVec S2x2048x256 1 := cmpf .olt main_v3 main_v4
  (main_v2, main_v5)
-- ==== Kernel.lean ====
abbrev S16384x1024 : Shape := ⟨2, ![16384, 1024]⟩
abbrev S1024x16384 : Shape := ⟨2, ![1024, 16384]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S128x512 : Shape := ⟨2, ![128, 512]⟩
abbrev S512x16384 : Shape := ⟨2, ![512, 16384]⟩
abbrev S16384x512 : Shape := ⟨2, ![16384, 512]⟩
abbrev S128x128 : Shape := ⟨2, ![128, 128]⟩
abbrev S128x384 : Shape := ⟨2, ![128, 384]⟩
abbrev S512x384 : Shape := ⟨2, ![512, 384]⟩
abbrev S384x512 : Shape := ⟨2, ![384, 512]⟩
abbrev S128x64 : Shape := ⟨2, ![128, 64]⟩
abbrev S64x384 : Shape := ⟨2, ![64, 384]⟩
abbrev S384x64 : Shape := ⟨2, ![384, 64]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S512x128 : Shape := ⟨2, ![512, 128]⟩
abbrev S64x128 : Shape := ⟨2, ![64, 128]⟩

abbrev nBuf : Space → Nat
  | .hbm => 11
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x16384, .bf16⟩
  | .hbm, ⟨2, _⟩ => ⟨S16384x1024, .bf16⟩
  | .hbm, ⟨3, _⟩ => ⟨S384, .i32⟩
  | .hbm, ⟨4, _⟩ => ⟨S384x1, .i32⟩
  | .hbm, ⟨5, _⟩ => ⟨S1x384, .i32⟩
  | .hbm, ⟨6, _⟩ => ⟨S384x384, .i32⟩
  | .hbm, ⟨7, _⟩ => ⟨S384x384, .i32⟩
  | .hbm, ⟨8, _⟩ => ⟨S384x384, .i1⟩
  | .hbm, ⟨9, _⟩ => ⟨S384x384, .bf16⟩
  | .hbm, ⟨10, _⟩ => ⟨S16384x1024, .bf16⟩
  | .local _ .vmem, ⟨0, _⟩ => ⟨S128x512, .bf16⟩
  | .local _ .vmem, ⟨1, _⟩ => ⟨S128x512, .bf16⟩
  | .local _ .vmem, ⟨2, _⟩ => ⟨S512x16384, .bf16⟩
  | .local _ .vmem, ⟨3, _⟩ => ⟨S16384x512, .bf16⟩
  | .local _ .vmem, ⟨4, _⟩ => ⟨S384x384, .bf16⟩
  | .local _ .vmem, ⟨5, _⟩ => ⟨S128x512, .bf16⟩
  | .local _ .vmem, ⟨6, _⟩ => ⟨S128x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 128], ![false, false]⟩

def k0_mult1 (i : grid0.Coords) : BitVec 32 :=
  let arg1 : BitVec 32 := BitVec.ofNat 32 (i 1).val
  let c128_i32 : BitVec 32 := 128#32
  let v4 : BitVec 32 := Scalar.muli arg1 c128_i32
  let c256_i32 : BitVec 32 := 256#32
  let v5 : BitVec 32 := Scalar.subi v4 c256_i32
  let c0_i32 : BitVec 32 := 0#32
  let v6 : BitVec 32 := Scalar.maxsi v5 c0_i32
  v6
def k0_off1 (i : grid0.Coords) : Fin 2 → Nat :=
  let c0_4 : Index := 0#32
  let arg1 : BitVec 32 := BitVec.ofNat 32 (i 1).val
  let c128_i32 : BitVec 32 := 128#32
  let v4 : BitVec 32 := Scalar.muli arg1 c128_i32
  let c256_i32 : BitVec 32 := 256#32
  let v5 : BitVec 32 := Scalar.subi v4 c256_i32
  let c0_i32 : BitVec 32 := 0#32
  let v6 : BitVec 32 := Scalar.maxsi v5 c0_i32
  let v7 : BitVec 32 := v6
  let v15 : Index := Scalar.indexCast v7
  ![0, v15.toNat]
def k0_off2 (i : grid0.Coords) : Fin 2 → Nat :=
  let arg1 : BitVec 32 := BitVec.ofNat 32 (i 1).val
  let c128_i32 : BitVec 32 := 128#32
  let v4 : BitVec 32 := Scalar.muli arg1 c128_i32
  let c256_i32 : BitVec 32 := 256#32
  let v5 : BitVec 32 := Scalar.subi v4 c256_i32
  let c0_i32 : BitVec 32 := 0#32
  let v6 : BitVec 32 := Scalar.maxsi v5 c0_i32
  let v7 : BitVec 32 := v6
  let v17 : Index := Scalar.indexCast v7
  let c0_5 : Index := 0#32
  ![v17.toNat, 0]
def k0_mult2 (arg7 : BitVec 32) : BitVec 32 :=
  let c128_i32_110 : BitVec 32 := 128#32
  let v350 : BitVec 32 := Scalar.muli arg7 c128_i32_110
  v350

def k0_off3 (arg7 : BitVec 32) : Fin 2 → Nat :=
  let c0_111 : Index := 0#32
  let c128_i32_110 : BitVec 32 := 128#32
  let v350 : BitVec 32 := Scalar.muli arg7 c128_i32_110
  let v351 : BitVec 32 := v350
  let v352 : Index := Scalar.indexCast v351
  ![0, v352.toNat]
def k0_off4 (arg7 : BitVec 32) : Fin 2 → Nat :=
  let c128_i32_110 : BitVec 32 := 128#32
  let v350 : BitVec 32 := Scalar.muli arg7 c128_i32_110
  let v351 : BitVec 32 := v350
  let v354 : Index := Scalar.indexCast v351
  let c0_112 : Index := 0#32
  ![v354.toNat, 0]

def k0_chk1 (arg7 : BitVec 32) : Prop :=
  (128 ∣ (k0_mult2 arg7).toNat) ∧
  (∀ a, (k0_off3 arg7) a + S512x128.size a ≤ S512x16384.size a) ∧
  (∀ a, (k0_off4 arg7) a + S128x512.size a ≤ S16384x512.size a)
theorem k0_mult2_dvd : ∀ (arg7 : BitVec 32) (k0_hw1 : k0_chk1 arg7), 128 ∣ (k0_mult2 arg7).toNat := fun arg7 k0_hw1 => k0_hw1.1
theorem k0_off3_inb : ∀ (arg7 : BitVec 32) (k0_hw1 : k0_chk1 arg7), ∀ a, (k0_off3 arg7) a + S512x128.size a ≤ S512x16384.size a := fun arg7 k0_hw1 => k0_hw1.2.1
theorem k0_off4_inb : ∀ (arg7 : BitVec 32) (k0_hw1 : k0_chk1 arg7), ∀ a, (k0_off4 arg7) a + S128x512.size a ≤ S16384x512.size a := fun arg7 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log_zero" => some ⊥
  | _ => none
-- ==== ReferenceIdeal.lean ====
abbrev S16384x1024 : Shape := ⟨2, ![16384, 1024]⟩
abbrev S1024x16384 : Shape := ⟨2, ![1024, 16384]⟩
abbrev S16384x16x64 : Shape := ⟨3, ![16384, 16, 64]⟩
abbrev S16384 : Shape := ⟨1, ![16384]⟩
abbrev S16x16384x16384 : Shape := ⟨3, ![16, 16384, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S16x64x16384 : Shape := ⟨3, ![16, 64, 16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x16384, .bf16⟩
  | .hbm, ⟨2, _⟩ => ⟨S16384x1024, .bf16⟩
  | .hbm, ⟨3, _⟩ => ⟨S16384x1024, .f32⟩
  | .hbm, ⟨4, _⟩ => ⟨S16384x16x64, .f32⟩
  | .hbm, ⟨5, _⟩ => ⟨S1024x16384, .f32⟩
  | .hbm, ⟨6, _⟩ => ⟨S16384x1024, .f32⟩
  | .hbm, ⟨7, _⟩ => ⟨S16384x16x64, .f32⟩
  | .hbm, ⟨8, _⟩ => ⟨S16384x1024, .f32⟩
  | .hbm, ⟨9, _⟩ => ⟨S16384x16x64, .f32⟩
  | .hbm, ⟨10, _⟩ => ⟨S16384, .i32⟩
  | .hbm, ⟨11, _⟩ => ⟨S16x16384x16384, .f32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S16x16384x16384, .f32⟩
  | .hbm, ⟨18, _⟩ => ⟨S16x16384x16384, .f32⟩
  | .hbm, ⟨19, _⟩ => ⟨S_, .f32⟩
  | .hbm, ⟨20, _⟩ => ⟨S16x16384x16384, .f32⟩
  | .hbm, ⟨21, _⟩ => ⟨S16x16384x16384, .f32⟩
  | .hbm, ⟨22, _⟩ => ⟨S16x16384x16384, .f32⟩
  | .hbm, ⟨23, _⟩ => ⟨S16x16384x16384, .f32⟩
  | .hbm, ⟨24, _⟩ => ⟨S16x16384x16384, .i1⟩
  | .hbm, ⟨25, _⟩ => ⟨S16x16384x16384, .f32⟩
  | .hbm, ⟨26, _⟩ => ⟨S16x16384x16384, .f32⟩
  | .hbm, ⟨27, _⟩ => ⟨S16x16384x16384, .f32⟩
  | .hbm, ⟨28, _⟩ => ⟨S16x16384x16384, .f32⟩
  | .hbm, ⟨29, _⟩ => ⟨S16x16384x16384, .f32⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S_, .f32⟩
  | .hbm, ⟨36, _⟩ => ⟨S16x16384x16384, .i1⟩
  | .hbm, ⟨37, _⟩ => ⟨S16x16384x16384, .f32⟩
  | .hbm, ⟨38, _⟩ => ⟨S16x16384x16384, .f32⟩
  | .hbm, ⟨39, _⟩ => ⟨S_, .f32⟩
  | .hbm, ⟨40, _⟩ => ⟨S_, .f32⟩
  | .hbm, ⟨41, _⟩ => ⟨S16x16384x16384, .f32⟩
  | .hbm, ⟨42, _⟩ => ⟨S16x16384x16384, .f32⟩
  | .hbm, ⟨43, _⟩ => ⟨S16x16384x16384, .f32⟩
  | .hbm, ⟨44, _⟩ => ⟨S_, .f32⟩
  | .hbm, ⟨45, _⟩ => ⟨S16x16384x16384, .f32⟩
  | .hbm, ⟨46, _⟩ => ⟨S16x16384x16384, .f32⟩
  | .hbm, ⟨47, _⟩ => ⟨S16x16384x16384, .f32⟩
  | .hbm, ⟨48, _⟩ => ⟨S16x16384x16384, .f32⟩
  | .hbm, ⟨49, _⟩ => ⟨S16x16384x16384, .i1⟩
  | .hbm, ⟨50, _⟩ => ⟨S16x16384x16384, .f32⟩
  | .hbm, ⟨51, _⟩ => ⟨S16x16384x16384, .f32⟩
  | .hbm, ⟨52, _⟩ => ⟨S16x16384x16384, .f32⟩
  | .hbm, ⟨53, _⟩ => ⟨S16x16384x16384, .f32⟩
  | .hbm, ⟨54, _⟩ => ⟨S16x16384x16384, .f32⟩
  | .hbm, ⟨55, _⟩ => ⟨S16x16384x16384, .f32⟩
  | .hbm, ⟨56, _⟩ => ⟨S16x16384x16384, .f32⟩
  | .hbm, ⟨57, _⟩ => ⟨S16x16384x16384, .f32⟩
  | .hbm, ⟨58, _⟩ => ⟨S16x16384x16384, .f32⟩
  | .hbm, ⟨59, _⟩ => ⟨S16x16384x16384, .f32⟩
  | .hbm, ⟨60, _⟩ => ⟨S16x16384x16384, .f32⟩
  | .hbm, ⟨61, _⟩ => ⟨S_, .f32⟩
  | .hbm, ⟨62, _⟩ => ⟨S_, .f32⟩
  | .hbm, ⟨63, _⟩ => ⟨S16x16384x16384, .i1⟩
  | .hbm, ⟨64, _⟩ => ⟨S16x16384x16384, .f32⟩
  | .hbm, ⟨65, _⟩ => ⟨S16x16384x16384, .f32⟩
  | .hbm, ⟨66, _⟩ => ⟨S16x64x16384, .f32⟩
  | .hbm, ⟨67, _⟩ => ⟨S16384x16x64, .f32⟩
  | .hbm, ⟨68, _⟩ => ⟨S16384x1024, .f32⟩
  | .hbm, ⟨69, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Mid.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MidRefIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x1024, .f32⟩
  | .hbm, ⟨31, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Qkv.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S1024x16384 : Shape := ⟨2, ![1024, 16384]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S256x3072 : Shape := ⟨2, ![256, 3072]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S16384x1024, .bf16⟩
  | .hbm, ⟨6, _⟩ => ⟨S1024x16384, .bf16⟩
  | .hbm, ⟨7, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x3x1024 : Shape := ⟨3, ![16384, 3, 1024]⟩
abbrev S16384x1x1024 : Shape := ⟨3, ![16384, 1, 1024]⟩
abbrev S1024x16384 : Shape := ⟨2, ![1024, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | .hbm, ⟨20, _⟩ => ⟨S16384x3x1024, .f32⟩
  | .hbm, ⟨21, _⟩ => ⟨S16384x1x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S1024x16384, .f32⟩
  | .hbm, ⟨32, _⟩ => ⟨S1024x16384, .bf16⟩
  | .hbm, ⟨33, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kvq.lean ====
abbrev S16384x1024 : Shape := ⟨2, ![16384, 1024]⟩
abbrev S1024 : Shape := ⟨1, ![1024]⟩
abbrev S1024x1536 : Shape := ⟨2, ![1024, 1536]⟩
abbrev S1024x1072 : Shape := ⟨2, ![1024, 1072]⟩
abbrev S48 : Shape := ⟨1, ![48]⟩
abbrev S16384x8 : Shape := ⟨2, ![16384, 8]⟩
abbrev S1024x1024 : Shape := ⟨2, ![1024, 1024]⟩
abbrev S1024x48 : Shape := ⟨2, ![1024, 48]⟩
abbrev S1024x3x4x4 : Shape := ⟨4, ![1024, 3, 4, 4]⟩
abbrev S1024x4x3x4 : Shape := ⟨4, ![1024, 4, 3, 4]⟩
abbrev S1024x4x12 : Shape := ⟨3, ![1024, 4, 12]⟩
abbrev S_ : Shape := ⟨0, ![]⟩
abbrev S1024x4x16 : Shape := ⟨3, ![1024, 4, 16]⟩
abbrev S1024x64 : Shape := ⟨2, ![1024, 64]⟩
abbrev S1024x128 : Shape := ⟨2, ![1024, 128]⟩
abbrev S1024x1152 : Shape := ⟨2, ![1024, 1152]⟩
abbrev S3x4x4 : Shape := ⟨3, ![3, 4, 4]⟩
abbrev S4x3x4 : Shape := ⟨3, ![4, 3, 4]⟩
abbrev S4x12 : Shape := ⟨2, ![4, 12]⟩
abbrev S4x16 : Shape := ⟨2, ![4, 16]⟩
abbrev S64 : Shape := ⟨1, ![64]⟩
abbrev S128 : Shape := ⟨1, ![128]⟩
abbrev S1x128 : Shape := ⟨2, ![1, 128]⟩
abbrev S16384x48 : Shape := ⟨2, ![16384, 48]⟩
abbrev S16384x64 : Shape := ⟨2, ![16384, 64]⟩
abbrev S16384x56 : Shape := ⟨2, ![16384, 56]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S16384x512 : Shape := ⟨2, ![16384, 512]⟩
abbrev S4x16384x64 : Shape := ⟨3, ![4, 16384, 64]⟩
abbrev S4x80x16384 : Shape := ⟨3, ![4, 80, 16384]⟩
abbrev S4x16x16384 : Shape := ⟨3, ![4, 16, 16384]⟩
abbrev S512x1024 : Shape := ⟨2, ![512, 1024]⟩
abbrev S512x128 : Shape := ⟨2, ![512, 128]⟩
abbrev S512x512 : Shape := ⟨2, ![512, 512]⟩
abbrev S4x512x64 : Shape := ⟨3, ![4, 512, 64]⟩
abbrev S4x80x512 : Shape := ⟨3, ![4, 80, 512]⟩
abbrev S4x16x512 : Shape := ⟨3, ![4, 16, 512]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S16x256 : Shape := ⟨2, ![16, 256]⟩
abbrev S256x512 : Shape := ⟨2, ![256, 512]⟩
abbrev S256x256 : Shape := ⟨2, ![256, 256]⟩
abbrev S256x128 : Shape := ⟨2, ![256, 128]⟩
abbrev S256x64 : Shape := ⟨2, ![256, 64]⟩
abbrev S1x256x64 : Shape := ⟨3, ![1, 256, 64]⟩
abbrev S64x256 : Shape := ⟨2, ![64, 256]⟩
abbrev S1x64x256 : Shape := ⟨3, ![1, 64, 256]⟩
abbrev S1x16x256 : Shape := ⟨3, ![1, 16, 256]⟩
abbrev S256x1152 : Shape := ⟨2, ![256, 1152]⟩
abbrev S128x256 : Shape := ⟨2, ![128, 256]⟩

abbrev nBuf : Space → Nat
  | .hbm => 65
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1024, .f32⟩
  | .hbm, ⟨4, _⟩ => ⟨S1024x1072, .f32⟩
  | .hbm, ⟨5, _⟩ => ⟨S48, .f32⟩
  | .hbm, ⟨6, _⟩ => ⟨S16384x8, .f32⟩
  | .hbm, ⟨7, _⟩ => ⟨S16384x8, .f32⟩
  | .hbm, ⟨8, _⟩ => ⟨S1024x1024, .f32⟩
  | .hbm, ⟨9, _⟩ => ⟨S1024x48, .f32⟩
  | .hbm, ⟨10, _⟩ => ⟨S1024x3x4x4, .f32⟩
  | .hbm, ⟨11, _⟩ => ⟨S1024x4x3x4, .f32⟩
  | .hbm, ⟨12, _⟩ => ⟨S1024x4x12, .f32⟩
  | .hbm, ⟨13, _⟩ => ⟨S_, .i32⟩
  | .hbm, ⟨14, _⟩ => ⟨S_, .f32⟩
  | .hbm, ⟨15, _⟩ => ⟨S1024x4x16, .f32⟩
  | .hbm, ⟨16, _⟩ => ⟨S1024x64, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x1152, .f32⟩
  | .hbm, ⟨21, _⟩ => ⟨S1024x1152, .bf16⟩
  | .hbm, ⟨22, _⟩ => ⟨S3x4x4, .f32⟩
  | .hbm, ⟨23, _⟩ => ⟨S4x3x4, .f32⟩
  | .hbm, ⟨24, _⟩ => ⟨S4x12, .f32⟩
  | .hbm, ⟨25, _⟩ => ⟨S_, .i32⟩
  | .hbm, ⟨26, _⟩ => ⟨S_, .f32⟩
  | .hbm, ⟨27, _⟩ => ⟨S4x16, .f32⟩
  | .hbm, ⟨28, _⟩ => ⟨S64, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S1024x1536, .bf16⟩
  | .hbm, ⟨34, _⟩ => ⟨S_, .f32⟩
  | .hbm, ⟨35, _⟩ => ⟨S16384x48, .f32⟩
  | .hbm, ⟨36, _⟩ => ⟨S16384x64, .f32⟩
  | .hbm, ⟨37, _⟩ => ⟨S16384x8, .f32⟩
  | .hbm, ⟨38, _⟩ => ⟨S_, .f32⟩
  | .hbm, ⟨39, _⟩ => ⟨S16384x56, .f32⟩
  | .hbm, ⟨40, _⟩ => ⟨S16384x64, .f32⟩
  | .hbm, ⟨41, _⟩ => ⟨S_, .f32⟩
  | .hbm, ⟨42, _⟩ => ⟨S16384x8, .f32⟩
  | .hbm, ⟨43, _⟩ => ⟨S_, .f32⟩
  | .hbm, ⟨44, _⟩ => ⟨S16384x48, .f32⟩
  | .hbm, ⟨45, _⟩ => ⟨S16384x64, .f32⟩
  | .hbm, ⟨46, _⟩ => ⟨S1x16384x1x64, .f32⟩
  | .hbm, ⟨47, _⟩ => ⟨S1x16384x2x64, .f32⟩
  | .hbm, ⟨48, _⟩ => ⟨S16384x128, .f32⟩
  | .hbm, ⟨49, _⟩ => ⟨S1x16384x1x64, .f32⟩
  | .hbm, ⟨50, _⟩ => ⟨S1x16384x2x64, .f32⟩
  | .hbm, ⟨51, _⟩ => ⟨S16384x128, .f32⟩
  | .hbm, ⟨52, _⟩ => ⟨S1x16384x1x64, .f32⟩
  | .hbm, ⟨53, _⟩ => ⟨S1x16384x2x64, .f32⟩
  | .hbm, ⟨54, _⟩ => ⟨S16384x128, .f32⟩
  | .hbm, ⟨55, _⟩ => ⟨S1x1024, .f32⟩
  | .hbm, ⟨56, _⟩ => ⟨S1x1024, .f32⟩
  | .hbm, ⟨57, _⟩ => ⟨S16384x512, .f32⟩
  | .hbm, ⟨58, _⟩ => ⟨S4x16384x64, .bf16⟩
  | .hbm, ⟨59, _⟩ => ⟨S4x80x16384, .bf16⟩
  | .hbm, ⟨60, _⟩ => ⟨S4x16384x64, .bf16⟩
  | .hbm, ⟨61, _⟩ => ⟨S4x80x16384, .bf16⟩
  | .hbm, ⟨62, _⟩ => ⟨S16384x1024, .bf16⟩
  | .hbm, ⟨63, _⟩ => ⟨S16384x1024, .bf16⟩
  | .hbm, ⟨64, _⟩ => ⟨S4x16x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x1024, .f32⟩
  | .local _ .vmem, ⟨5, _⟩ => ⟨S1024x1152, .bf16⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S4x512x64, .bf16⟩
  | .local _ .vmem, ⟨16, _⟩ => ⟨S4x512x64, .bf16⟩
  | .local _ .vmem, ⟨17, _⟩ => ⟨S4x80x512, .bf16⟩
  | .local _ .vmem, ⟨18, _⟩ => ⟨S4x80x512, .bf16⟩
  | .local _ .vmem, ⟨19, _⟩ => ⟨S4x512x64, .bf16⟩
  | .local _ .vmem, ⟨20, _⟩ => ⟨S4x512x64, .bf16⟩
  | .local _ .vmem, ⟨21, _⟩ => ⟨S4x80x512, .bf16⟩
  | .local _ .vmem, ⟨22, _⟩ => ⟨S4x80x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S4x16x512, .f32⟩
  | .local _ .vmem, ⟨28, _⟩ => ⟨S4x16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v37_4 : Ref sig .tc := ⟨.hbm, 61, rfl⟩
abbrev main_v37_5 : Ref sig .tc := ⟨.hbm, 62, rfl⟩
abbrev main_v37_6 : Ref sig .tc := ⟨.hbm, 63, rfl⟩
abbrev main_v37_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x80x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KvqRefIdeal.lean ====
abbrev S16384x1024 : Shape := ⟨2, ![16384, 1024]⟩
abbrev S1024 : Shape := ⟨1, ![1024]⟩
abbrev S1024x1536 : Shape := ⟨2, ![1024, 1536]⟩
abbrev S1024x1072 : Shape := ⟨2, ![1024, 1072]⟩
abbrev S48 : Shape := ⟨1, ![48]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x3x2x4x64 : Shape := ⟨5, ![16384, 3, 2, 4, 64]⟩
abbrev S16384x1072 : Shape := ⟨2, ![16384, 1072]⟩
abbrev S16384x16x64 : Shape := ⟨3, ![16384, 16, 64]⟩
abbrev S16384x48 : Shape := ⟨2, ![16384, 48]⟩
abbrev S1x48 : Shape := ⟨2, ![1, 48]⟩
abbrev S16384x3x4x4 : Shape := ⟨4, ![16384, 3, 4, 4]⟩
abbrev S4x3x4x16384 : Shape := ⟨4, ![4, 3, 4, 16384]⟩
abbrev S4x12x16384 : Shape := ⟨3, ![4, 12, 16384]⟩
abbrev S4x4x16384 : Shape := ⟨3, ![4, 4, 16384]⟩
abbrev S4x16x16384 : Shape := ⟨3, ![4, 16, 16384]⟩
abbrev S16384x1x2x4x64 : Shape := ⟨5, ![16384, 1, 2, 4, 64]⟩
abbrev S16384x2x4x64 : Shape := ⟨4, ![16384, 2, 4, 64]⟩
abbrev S16384x512 : Shape := ⟨2, ![16384, 512]⟩
abbrev S16384x1x1x4x64 : Shape := ⟨5, ![16384, 1, 1, 4, 64]⟩
abbrev S16384x4x64 : Shape := ⟨3, ![16384, 4, 64]⟩
abbrev S16384x1x8 : Shape := ⟨3, ![16384, 1, 8]⟩
abbrev S16384x4x8 : Shape := ⟨3, ![16384, 4, 8]⟩
abbrev S16384x4x48 : Shape := ⟨3, ![16384, 4, 48]⟩
abbrev S4x16384x64 : Shape := ⟨3, ![4, 16384, 64]⟩
abbrev S4x64x16384 : Shape := ⟨3, ![4, 64, 16384]⟩
abbrev S4x1x16384 : Shape := ⟨3, ![4, 1, 16384]⟩
abbrev S4x15x16384 : Shape := ⟨3, ![4, 15, 16384]⟩
abbrev S4x80x16384 : Shape := ⟨3, ![4, 80, 16384]⟩
abbrev S16384x16x8 : Shape := ⟨3, ![16384, 16, 8]⟩
abbrev S16384x16x48 : Shape := ⟨3, ![16384, 16, 48]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S1024, .f32⟩
  | 2 => ⟨S1024x1536, .f32⟩
  | 3 => ⟨S1024, .f32⟩
  | 4 => ⟨S1024x1072, .f32⟩
  | 5 => ⟨S48, .f32⟩
  | 6 => ⟨S16384x8, .f32⟩
  | 7 => ⟨S16384x8, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x1536, .f32⟩
  | 25 => ⟨S16384x3x2x4x64, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S16384x1072, .f32⟩
  | 43 => ⟨S16384x1024, .f32⟩
  | 44 => ⟨S16384x16x64, .f32⟩
  | 45 => ⟨S_, .f32⟩
  | 46 => ⟨S16384x16x64, .f32⟩
  | 47 => ⟨S16384x16x64, .f32⟩
  | 48 => ⟨S16384x48, .f32⟩
  | 49 => ⟨S1x48, .f32⟩
  | 50 => ⟨S16384x48, .f32⟩
  | 51 => ⟨S16384x48, .f32⟩
  | 52 => ⟨S16384x48, .f32⟩
  | 53 => ⟨S16384x48, .f32⟩
  | 54 => ⟨S_, .f32⟩
  | 55 => ⟨S16384x48, .f32⟩
  | 56 => ⟨S16384x48, .f32⟩
  | 57 => ⟨S_, .f32⟩
  | 58 => ⟨S16384x48, .f32⟩
  | 59 => ⟨S16384x48, .f32⟩
  | 60 => ⟨S16384x3x4x4, .f32⟩
  | 61 => ⟨S4x3x4x16384, .f32⟩
  | 62 => ⟨S4x12x16384, .f32⟩
  | 63 => ⟨S_, .f32⟩
  | 64 => ⟨S4x4x16384, .f32⟩
  | 65 => ⟨S4x16x16384, .f32⟩
  | 66 => ⟨S16384x1x2x4x64, .f32⟩
  | 67 => ⟨S16384x2x4x64, .f32⟩
  | 68 => ⟨S16384x512, .f32⟩
  | 69 => ⟨S16384x1x1x4x64, .f32⟩
  | 70 => ⟨S16384x4x64, .f32⟩
  | 71 => ⟨S16384x1x8, .f32⟩
  | 72 => ⟨S16384x1x8, .f32⟩
  | 73 => ⟨S16384x4x8, .f32⟩
  | 74 => ⟨S16384x4x8, .f32⟩
  | 75 => ⟨S16384x4x8, .f32⟩
  | 76 => ⟨S16384x4x8, .f32⟩
  | 77 => ⟨S16384x4x8, .f32⟩
  | 78 => ⟨S16384x4x8, .f32⟩
  | 79 => ⟨S16384x4x8, .f32⟩
  | 80 => ⟨S16384x4x8, .f32⟩
  | 81 => ⟨S16384x4x8, .f32⟩
  | 82 => ⟨S16384x4x8, .f32⟩
  | 83 => ⟨S16384x4x8, .f32⟩
  | 84 => ⟨S16384x4x8, .f32⟩
  | 85 => ⟨S16384x4x48, .f32⟩
  | 86 => ⟨S16384x4x64, .f32⟩
  | 87 => ⟨S4x16384x64, .f32⟩
  | 88 => ⟨S4x16384x64, .bf16⟩
  | 89 => ⟨S16384x1x1x4x64, .f32⟩
  | 90 => ⟨S16384x4x64, .f32⟩
  | 91 => ⟨S4x64x16384, .f32⟩
  | 92 => ⟨S_, .f32⟩
  | 93 => ⟨S4x1x16384, .f32⟩
  | 94 => ⟨S_, .f32⟩
  | 95 => ⟨S4x15x16384, .f32⟩
  | 96 => ⟨S4x80x16384, .f32⟩
  | 97 => ⟨S4x80x16384, .bf16⟩
  | 98 => ⟨S16384x1x1x4x64, .f32⟩
  | 99 => ⟨S16384x4x64, .f32⟩
  | 100 => ⟨S16384x1x8, .f32⟩
  | 101 => ⟨S16384x1x8, .f32⟩
  | 102 => ⟨S16384x4x8, .f32⟩
  | 103 => ⟨S16384x4x8, .f32⟩
  | 104 => ⟨S16384x4x8, .f32⟩
  | 105 => ⟨S16384x4x8, .f32⟩
  | 106 => ⟨S16384x4x8, .f32⟩
  | 107 => ⟨S16384x4x8, .f32⟩
  | 108 => ⟨S16384x4x8, .f32⟩
  | 109 => ⟨S16384x4x8, .f32⟩
  | 110 => ⟨S16384x4x8, .f32⟩
  | 111 => ⟨S16384x4x8, .f32⟩
  | 112 => ⟨S16384x4x8, .f32⟩
  | 113 => ⟨S16384x4x8, .f32⟩
  | 114 => ⟨S16384x4x48, .f32⟩
  | 115 => ⟨S16384x4x64, .f32⟩
  | 116 => ⟨S4x16384x64, .f32⟩
  | 117 => ⟨S4x16384x64, .bf16⟩
  | 118 => ⟨S16384x1x1x4x64, .f32⟩
  | 119 => ⟨S16384x4x64, .f32⟩
  | 120 => ⟨S4x64x16384, .f32⟩
  | 121 => ⟨S_, .f32⟩
  | 122 => ⟨S4x1x16384, .f32⟩
  | 123 => ⟨S_, .f32⟩
  | 124 => ⟨S4x15x16384, .f32⟩
  | 125 => ⟨S4x80x16384, .f32⟩
  | 126 => ⟨S4x80x16384, .bf16⟩
  | 127 => ⟨S16384x1024, .f32⟩
  | _ => ⟨S16384x1024, .f32⟩

abbrev hbmTy0_1 (i : Nat) : BufTy := match i % 128 with
  | 0 => ⟨S16384x1024, .bf16⟩
  | 1 => ⟨S16384x1x8, .f32⟩
  | 2 => ⟨S16384x1x8, .f32⟩
  | 3 => ⟨S16384x16x8, .f32⟩
  | 4 => ⟨S16384x16x8, .f32⟩
  | 5 => ⟨S16384x16x8, .f32⟩
  | 6 => ⟨S16384x16x8, .f32⟩
  | 7 => ⟨S16384x16x8, .f32⟩
  | 8 => ⟨S16384x16x8, .f32⟩
  | 9 => ⟨S16384x16x8, .f32⟩
  | 10 => ⟨S16384x16x8, .f32⟩
  | 11 => ⟨S16384x16x8, .f32⟩
  | 12 => ⟨S16384x16x8, .f32⟩
  | 13 => ⟨S16384x16x8, .f32⟩
  | 14 => ⟨S16384x16x8, .f32⟩
  | 15 => ⟨S16384x16x48, .f32⟩
  | 16 => ⟨S16384x16x64, .f32⟩
  | 17 => ⟨S16384x1024, .f32⟩
  | 18 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_cst_12 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩

abbrev nD : Nat := 1
abbrev τ : Topo := Topo.v7x

variable {F : FTy → Type} [FloatOps F]
-- ==== Cmp.lean ====
abbrev S16384x512 : Shape := ⟨2, ![16384, 512]⟩
abbrev S2x32x64 : Shape := ⟨3, ![2, 32, 64]⟩
abbrev S2x2048x256 : Shape := ⟨3, ![2, 2048, 256]⟩
abbrev S2x256x64 : Shape := ⟨3, ![2, 256, 64]⟩
abbrev S2x1x2048 : Shape := ⟨3, ![2, 1, 2048]⟩
abbrev S2x8x2048 : Shape := ⟨3, ![2, 8, 2048]⟩
abbrev S2x4x1024x64 : Shape := ⟨4, ![2, 4, 1024, 64]⟩
abbrev S2x4x80x1024 : Shape := ⟨4, ![2, 4, 80, 1024]⟩
abbrev S16384x128 : Shape := ⟨2, ![16384, 128]⟩
abbrev S1x8x2048 : Shape := ⟨3, ![1, 8, 2048]⟩
abbrev S1x2048x256 : Shape := ⟨3, ![1, 2048, 256]⟩
abbrev S1x256x64 : Shape := ⟨3, ![1, 256, 64]⟩
abbrev S1x2x1024x64 : Shape := ⟨4, ![1, 2, 1024, 64]⟩
abbrev S1x2x80x1024 : Shape := ⟨4, ![1, 2, 80, 1024]⟩
abbrev S2048x256 : Shape := ⟨2, ![2048, 256]⟩
abbrev S8x2048 : Shape := ⟨2, ![8, 2048]⟩
abbrev S8x256 : Shape := ⟨2, ![8, 256]⟩
abbrev S1x256 : Shape := ⟨2, ![1, 256]⟩
abbrev S1024x256 : Shape := ⟨2, ![1024, 256]⟩
abbrev S1024x128 : Shape := ⟨2, ![1024, 128]⟩
abbrev S64x256 : Shape := ⟨2, ![64, 256]⟩
abbrev S1024x64 : Shape := ⟨2, ![1024, 64]⟩
abbrev S16x1024 : Shape := ⟨2, ![16, 1024]⟩
abbrev S256x64 : Shape := ⟨2, ![256, 64]⟩
abbrev S1x1x1024x64 : Shape := ⟨4, ![1, 1, 1024, 64]⟩
abbrev S128x1024 : Shape := ⟨2, ![128, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x1x2048, .f32⟩
  | .hbm, ⟨5, _⟩ => ⟨S2x8x2048, .f32⟩
  | .hbm, ⟨6, _⟩ => ⟨S2x2048x256, .bf16⟩
  | .hbm, ⟨7, _⟩ => ⟨S2x256x64, .bf16⟩
  | .hbm, ⟨8, _⟩ => ⟨S2x4x1024x64, .bf16⟩
  | .hbm, ⟨9, _⟩ => ⟨S2x4x80x1024, .bf16⟩
  | .local _ .vmem, ⟨0, _⟩ => ⟨S16384x128, .f32⟩
  | .local _ .vmem, ⟨1, _⟩ => ⟨S16384x128, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x256, .bf16⟩
  | .local _ .vmem, ⟨5, _⟩ => ⟨S1x2048x256, .bf16⟩
  | .local _ .vmem, ⟨6, _⟩ => ⟨S1x256x64, .bf16⟩
  | .local _ .vmem, ⟨7, _⟩ => ⟨S1x256x64, .bf16⟩
  | .local _ .vmem, ⟨8, _⟩ => ⟨S1x2x1024x64, .bf16⟩
  | .local _ .vmem, ⟨9, _⟩ => ⟨S1x2x1024x64, .bf16⟩
  | .local _ .vmem, ⟨10, _⟩ => ⟨S1x2x80x1024, .bf16⟩
  | .local _ .vmem, ⟨11, _⟩ => ⟨S1x2x80x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x80x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpRefIdeal.lean ====
abbrev S16384x512 : Shape := ⟨2, ![16384, 512]⟩
abbrev S2x32x64 : Shape := ⟨3, ![2, 32, 64]⟩
abbrev S2x2048x256 : Shape := ⟨3, ![2, 2048, 256]⟩
abbrev S2x256x64 : Shape := ⟨3, ![2, 256, 64]⟩
abbrev S1024x16x2x4x64 : Shape := ⟨5, ![1024, 16, 2, 4, 64]⟩
abbrev S1023x16x2x4x64 : Shape := ⟨5, ![1023, 16, 2, 4, 64]⟩
abbrev S1023x32x2x4x64 : Shape := ⟨5, ![1023, 32, 2, 4, 64]⟩
abbrev S32x2x64 : Shape := ⟨3, ![32, 2, 64]⟩
abbrev S1x32x2x1x64 : Shape := ⟨5, ![1, 32, 2, 1, 64]⟩
abbrev S1023x2x4x32x64 : Shape := ⟨5, ![1023, 2, 4, 32, 64]⟩
abbrev S1023x2x4x2048 : Shape := ⟨4, ![1023, 2, 4, 2048]⟩
abbrev S2x256x1023x4 : Shape := ⟨4, ![2, 256, 1023, 4]⟩
abbrev S1023x2x4x256 : Shape := ⟨4, ![1023, 2, 4, 256]⟩
abbrev S_ : Shape := ⟨0, ![]⟩
abbrev S2x64x1023x4 : Shape := ⟨4, ![2, 64, 1023, 4]⟩
abbrev S1023x2x4x64 : Shape := ⟨4, ![1023, 2, 4, 64]⟩
abbrev S2x4x1023x64 : Shape := ⟨4, ![2, 4, 1023, 64]⟩
abbrev S2x4x1x64 : Shape := ⟨4, ![2, 4, 1, 64]⟩
abbrev S2x4x1024x64 : Shape := ⟨4, ![2, 4, 1024, 64]⟩
abbrev S2x4x64x1024 : Shape := ⟨4, ![2, 4, 64, 1024]⟩
abbrev S2x4x1x1024 : Shape := ⟨4, ![2, 4, 1, 1024]⟩
abbrev S2x4x15x1024 : Shape := ⟨4, ![2, 4, 15, 1024]⟩
abbrev S2x4x80x1024 : Shape := ⟨4, ![2, 4, 80, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S1024x16x2x4x64, .f32⟩
  | .hbm, ⟨5, _⟩ => ⟨S1023x16x2x4x64, .f32⟩
  | .hbm, ⟨6, _⟩ => ⟨S1023x16x2x4x64, .f32⟩
  | .hbm, ⟨7, _⟩ => ⟨S1023x32x2x4x64, .f32⟩
  | .hbm, ⟨8, _⟩ => ⟨S32x2x64, .f32⟩
  | .hbm, ⟨9, _⟩ => ⟨S1x32x2x1x64, .f32⟩
  | .hbm, ⟨10, _⟩ => ⟨S1023x32x2x4x64, .f32⟩
  | .hbm, ⟨11, _⟩ => ⟨S1023x32x2x4x64, .f32⟩
  | .hbm, ⟨12, _⟩ => ⟨S1023x2x4x32x64, .f32⟩
  | .hbm, ⟨13, _⟩ => ⟨S1023x2x4x2048, .f32⟩
  | .hbm, ⟨14, _⟩ => ⟨S2x256x1023x4, .f32⟩
  | .hbm, ⟨15, _⟩ => ⟨S1023x2x4x256, .f32⟩
  | .hbm, ⟨16, _⟩ => ⟨S1023x2x4x256, .f32⟩
  | .hbm, ⟨17, _⟩ => ⟨S1023x2x4x256, .f32⟩
  | .hbm, ⟨18, _⟩ => ⟨S_, .f32⟩
  | .hbm, ⟨19, _⟩ => ⟨S1023x2x4x256, .f32⟩
  | .hbm, ⟨20, _⟩ => ⟨S1023x2x4x256, .f32⟩
  | .hbm, ⟨21, _⟩ => ⟨S1023x2x4x256, .f32⟩
  | .hbm, ⟨22, _⟩ => ⟨S_, .f32⟩
  | .hbm, ⟨23, _⟩ => ⟨S1023x2x4x256, .f32⟩
  | .hbm, ⟨24, _⟩ => ⟨S1023x2x4x256, .f32⟩
  | .hbm, ⟨25, _⟩ => ⟨S1023x2x4x256, .f32⟩
  | .hbm, ⟨26, _⟩ => ⟨S_, .f32⟩
  | .hbm, ⟨27, _⟩ => ⟨S1023x2x4x256, .f32⟩
  | .hbm, ⟨28, _⟩ => ⟨S1023x2x4x256, .f32⟩
  | .hbm, ⟨29, _⟩ => ⟨S_, .f32⟩
  | .hbm, ⟨30, _⟩ => ⟨S1023x2x4x256, .f32⟩
  | .hbm, ⟨31, _⟩ => ⟨S1023x2x4x256, .f32⟩
  | .hbm, ⟨32, _⟩ => ⟨S1023x2x4x256, .f32⟩
  | .hbm, ⟨33, _⟩ => ⟨S2x64x1023x4, .f32⟩
  | .hbm, ⟨34, _⟩ => ⟨S1023x2x4x64, .f32⟩
  | .hbm, ⟨35, _⟩ => ⟨S2x4x1023x64, .f32⟩
  | .hbm, ⟨36, _⟩ => ⟨S_, .f32⟩
  | .hbm, ⟨37, _⟩ => ⟨S2x4x1x64, .f32⟩
  | .hbm, ⟨38, _⟩ => ⟨S2x4x1024x64, .f32⟩
  | .hbm, ⟨39, _⟩ => ⟨S2x4x64x1024, .f32⟩
  | .hbm, ⟨40, _⟩ => ⟨S_, .f32⟩
  | .hbm, ⟨41, _⟩ => ⟨S2x4x1x1024, .f32⟩
  | .hbm, ⟨42, _⟩ => ⟨S_, .f32⟩
  | .hbm, ⟨43, _⟩ => ⟨S2x4x15x1024, .f32⟩
  | .hbm, ⟨44, _⟩ => ⟨S2x4x1024x64, .bf16⟩
  | .hbm, ⟨45, _⟩ => ⟨S2x4x80x1024, .f32⟩
  | .hbm, ⟨46, _⟩ => ⟨S2x4x80x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.KernelIdeal.Blocks.lean ====
/- What one grid point of the stick-breaking attention computes, as plain functions of its blocks: the logits of a
   head against a tile of keys, the near tile (the 384 columns that end with the point's own, masked), a far tile of
   128 columns (the loop's trip), and the loop as a recursion on the number of tiles left. One definition serves all
   eight heads of the point. -/
module

public import proofs.«01_k».proof.Proof.Gen.KernelIdeal.Skeleton
public import Idealize.ShloMosaic.Lib.Pointwise

@[expose] public section

noncomputable section

namespace Cert.KernelIdeal.Sb

open Cert.KernelIdeal Cert.KernelIdeal.Gen Idealize.ShloMosaic Idealize.SL.Sem

variable {F : FTy → Type} [FloatOps F] [Named F]

/-! ## Heads of a block -/

theorem slices_q : ∀ h : Fin 8, S128x512.Slices ![0, 64 * h.val] S128x64 := by decide
theorem slices_v : ∀ h : Fin 8, S384x512.Slices ![0, 64 * h.val] S384x64 := by decide
theorem slices_k : ∀ h : Fin 8, S512x384.Slices ![64 * h.val, 0] S64x384 := by decide
theorem slices_kf : ∀ h : Fin 8, S512x128.Slices ![64 * h.val, 0] S64x128 := by decide

/-- Head `h` of 128 rows (the queries, or a far tile of values): its 64 columns. -/
def headQ (x : Vec F S128x512 .bf16) (h : Fin 8) : FVec F S128x64 .bf16 :=
  extractStridedSlice S128x64 ![0, 64 * h.val] x (slices_q h)
/-- Head `h` of the near tile's values: its 64 columns. -/
def headV (x : Vec F S384x512 .bf16) (h : Fin 8) : FVec F S384x64 .bf16 :=
  extractStridedSlice S384x64 ![0, 64 * h.val] x (slices_v h)
/-- Head `h` of the near tile's keys: its 64 rows. -/
def headK (x : Vec F S512x384 .bf16) (h : Fin 8) : FVec F S64x384 .bf16 :=
  extractStridedSlice S64x384 ![64 * h.val, 0] x (slices_k h)
/-- Head `h` of a far tile's keys: its 64 rows. -/
def headKf (x : Vec F S512x128 .bf16) (h : Fin 8) : FVec F S64x128 .bf16 :=
  extractStridedSlice S64x128 ![64 * h.val, 0] x (slices_kf h)

/-! ## A tile's weights -/

/-- The softplus of the logits, `max(z, 0) + log(1 + exp(-|z|))`. -/
def softp {s : Shape} (z : FVec F s .f32) : FVec F s .f32 :=
  addf (maximumf z (broadcast s (Scalar.ofBits .f32 0x00000000#32)))
    (log (addf (broadcast s (Scalar.ofBits .f32 0x3F800000#32))
      (exp (subf (broadcast s (Scalar.ofBits .f32 0x00000000#32)) (absf z)))))

/-- The logarithm of one minus the stick's share: minus the softplus. -/
def logOne {s : Shape} (z : FVec F s .f32) : FVec F s .f32 :=
  subf (broadcast s (Scalar.ofBits .f32 0x00000000#32)) (softp z)

/-- A masked array: zero off the mask. -/
def masked {s : Shape} (msk : IVec s 1) (x : FVec F s .f32) : FVec F s .f32 :=
  select msk x (broadcast s (Scalar.ofBits .f32 0x00000000#32))

/-! ## The near tile -/

/-- A head's logits against the near tile. -/
def nearZ (q : FVec F S128x64 .bf16) (k : FVec F S64x384 .bf16) : FVec F S128x384 .f32 :=
  matmul dot_S128x64_S64x384_S128x384_1_0_0_1_n_n none q k (constant S128x384 .f32 0x00000000#32)

/-- The masked logarithms of the near tile. -/
def nearLog (msk : IVec S128x384 1) (z : FVec F S128x384 .f32) : FVec F S128x384 .f32 := masked msk (logOne z)

/-- No tile precedes the near one: its carry is zero. -/
def zeroCarry : FVec F S128x1 .f32 := broadcast S128x1 (Scalar.ofBits .f32 0x00000000#32)

/-- The near tile's weights. -/
def nearW (tri : FVec F S384x384 .bf16) (msk : IVec S128x384 1) (z : FVec F S128x384 .f32) : FVec F S128x384 .f32 :=
  masked msk (exp (addf (subf z (softp z))
    (addf (matmul dot_S128x384_S384x384_S128x384_1_0_0_1_n_n none (truncf .bf16 (nearLog msk z) bitsLt_bf16_f32) tri
        (constant S128x384 .f32 0x00000000#32))
      (broadcastTo S128x384 zeroCarry broadcasts_S128x1_S128x384))))

/-- What the near tile gives a head's output. -/
def nearOut (tri : FVec F S384x384 .bf16) (msk : IVec S128x384 1) (z : FVec F S128x384 .f32) (v : FVec F S384x64 .bf16) :
    FVec F S128x64 .f32 :=
  matmul dot_S128x384_S384x64_S128x64_1_0_0_1_n_n none (truncf .bf16 (nearW tri msk z) bitsLt_bf16_f32) v
    (constant S128x64 .f32 0x00000000#32)

/-- The sum of the near tile's logarithms, row by row. -/
def nearCarry (msk : IVec S128x384 1) (z : FVec F S128x384 .f32) : FVec F S128x1 .f32 :=
  addf zeroCarry (shapeCast S128x1 (multiReduction .add [1] S128 (nearLog msk z) 0x00000000#32 reduces_S128x384_S128
    (.inl rfl) rfl) shapeCasts_S128_S128x1)

/-! ## A far tile -/

/-- A head's logits against a far tile. -/
def farZ (q : FVec F S128x64 .bf16) (k : FVec F S64x128 .bf16) : FVec F S128x128 .f32 :=
  matmul dot_S128x64_S64x128_S128x128_1_0_0_1_n_n none q k (constant S128x128 .f32 0x00000000#32)

/-- A far tile's weights, past the carry `c` of the columns after it. -/
def farW (tri : FVec F S128x128 .bf16) (c : FVec F S128x1 .f32) (z : FVec F S128x128 .f32) : FVec F S128x128 .f32 :=
  exp (addf (subf z (softp z))
    (addf (matmul dot_S128x128_S128x128_S128x128_1_0_0_1_n_n none (truncf .bf16 (logOne z) bitsLt_bf16_f32) tri
        (constant S128x128 .f32 0x00000000#32))
      (broadcastTo S128x128 c broadcasts_S128x1_S128x128)))

/-- What a far tile adds to a head's output. -/
def farOut (tri : FVec F S128x128 .bf16) (c : FVec F S128x1 .f32) (z : FVec F S128x128 .f32) (v : FVec F S128x64 .bf16) :
    FVec F S128x64 .f32 :=
  matmul dot_S128x128_S128x64_S128x64_1_0_0_1_n_n none (truncf .bf16 (farW tri c z) bitsLt_bf16_f32) v
    (constant S128x64 .f32 0x00000000#32)

/-- The carry past a far tile. -/
def farCarry (c : FVec F S128x1 .f32) (z : FVec F S128x128 .f32) : FVec F S128x1 .f32 :=
  addf c (shapeCast S128x1 (multiReduction .add [1] S128 (logOne z) 0x00000000#32 reduces_S128x128_S128
    (.inl rfl) rfl) shapeCasts_S128_S128x1)

/-! ## The loop -/

/-- The largest entry of one head's carry. -/
def top1 (c : FVec F S128x1 .f32) : F .f32 :=
  extractAt ![0, 0, 0] (shapeCast S1x1x1 (multiReduction .maximumf [1, 2] S1
    (shapeCast S1x128x1 c shapeCasts_S128x1_S1x128x1) 0xFF800000#32 reduces_S1x128x1_S1 (.inl rfl) rfl)
    shapeCasts_S1_S1x1x1) inpos_S1x1x1_p0_0_0

/-- The largest entry of all the carries. -/
def worst (c : Fin 8 → FVec F S128x1 .f32) : F .f32 :=
  Scalar.maximumf (Scalar.maximumf (Scalar.maximumf (Scalar.maximumf (Scalar.maximumf (Scalar.maximumf
    (Scalar.maximumf (top1 (c 0)) (top1 (c 1))) (top1 (c 2))) (top1 (c 3))) (top1 (c 4))) (top1 (c 5))) (top1 (c 6)))
    (top1 (c 7))

/-- The loop's test on its second carried value. -/
def alive (w : F .f32) : BitVec 1 := Scalar.cmpf .ogt w (Named.named κ "log_zero" 0xC2DC0000#32)

/-- Tile `n` of the keys: columns `128 n` to `128 n + 127`. -/
def tileK (x : Vec F S512x16384 .bf16) (n : ℕ) : Vec F S512x128 .bf16 :=
  fun j => x (ix2 (j 0) ⟨(128 * n + (j 1).val) % 16384, Nat.mod_lt _ (by decide)⟩)
/-- Tile `n` of the values: rows `128 n` to `128 n + 127`. -/
def tileV (x : Vec F S16384x512 .bf16) (n : ℕ) : Vec F S128x512 .bf16 :=
  fun j => x (ix2 ⟨(128 * n + (j 0).val) % 16384, Nat.mod_lt _ (by decide)⟩ (j 1))

/-- One trip on the outputs: every head's far tile (keys `X`, values `Y`) added to what it holds. -/
def stepOut (X : Vec F S512x128 .bf16) (Y : Vec F S128x512 .bf16) (q : Fin 8 → FVec F S128x64 .bf16)
    (tri : FVec F S128x128 .bf16) (o : Fin 8 → FVec F S128x64 .f32) (c : Fin 8 → FVec F S128x1 .f32)
    (h : Fin 8) : FVec F S128x64 .f32 :=
  addf (o h) (farOut tri (c h) (farZ (q h) (headKf X h)) (headQ Y h))
/-- One trip on the carries. -/
def stepCarry (X : Vec F S512x128 .bf16) (q : Fin 8 → FVec F S128x64 .bf16)
    (c : Fin 8 → FVec F S128x1 .f32) (h : Fin 8) : FVec F S128x1 .f32 :=
  farCarry (c h) (farZ (q h) (headKf X h))

/-- The loop's carried values as the program passes them: the next tile's number, the largest carry, the eight
    outputs and the eight carries. -/
abbrev Res (F : FTy → Type) : Type :=
  BitVec 32 × F .f32 × FVec F S128x64 .f32 × FVec F S128x64 .f32 × FVec F S128x64 .f32 × FVec F S128x64 .f32
    × FVec F S128x64 .f32 × FVec F S128x64 .f32 × FVec F S128x64 .f32 × FVec F S128x64 .f32 × FVec F S128x1 .f32
    × FVec F S128x1 .f32 × FVec F S128x1 .f32 × FVec F S128x1 .f32 × FVec F S128x1 .f32 × FVec F S128x1 .f32
    × FVec F S128x1 .f32 × FVec F S128x1 .f32

/-- The carried values from the outputs and carries by head. -/
abbrev mkRes (b : BitVec 32) (w : F .f32) (o : Fin 8 → FVec F S128x64 .f32) (c : Fin 8 → FVec F S128x1 .f32) : Res F :=
  (b, w, o 0, o 1, o 2, o 3, o 4, o 5, o 6, o 7, c 0, c 1, c 2, c 3, c 4, c 5, c 6, c 7)

/-- The outputs after the loop, from `n` tiles still to run: it goes on while a tile is left and the largest carry
    passes the test. -/
def loop (x1 : Vec F S512x16384 .bf16) (x2 : Vec F S16384x512 .bf16) (q : Fin 8 → FVec F S128x64 .bf16)
    (tri : FVec F S128x128 .bf16) : ℕ → F .f32 → (Fin 8 → FVec F S128x64 .f32) → (Fin 8 → FVec F S128x1 .f32) →
    Fin 8 → FVec F S128x64 .f32
  | 0, _, o, _ => o
  | n + 1, w, o, c =>
    if alive w = 1#1 then
      loop x1 x2 q tri n (worst (stepCarry (tileK x1 n) q c)) (stepOut (tileK x1 n) (tileV x2 n) q tri o c)
        (stepCarry (tileK x1 n) q c)
    else o

/-! ## A grid point -/

/-- The tiles before the near one at a grid point: two fewer than the tiles before the point's own. -/
def left (i : grid0.Coords) : ℕ := (i 1).val - 2

/-- The near tile's keys, the 384 columns from column `128 n`. -/
def nearK (x : Vec F S512x16384 .bf16) (n : ℕ) : Vec F S512x384 .bf16 :=
  fun j => x (ix2 (j 0) ⟨(128 * n + (j 1).val) % 16384, Nat.mod_lt _ (by decide)⟩)
/-- The near tile's values, the 384 rows from row `128 n`. -/
def nearV (x : Vec F S16384x512 .bf16) (n : ℕ) : Vec F S384x512 .bf16 :=
  fun j => x (ix2 ⟨(128 * n + (j 0).val) % 16384, Nat.mod_lt _ (by decide)⟩ (j 1))

/-- The outputs the near tile starts the loop with (queries `x0`, keys `X`, values `Y`, triangle `x3`). -/
def startOut (i : grid0.Coords) (x0 : Vec F S128x512 .bf16) (X : Vec F S512x384 .bf16) (Y : Vec F S384x512 .bf16)
    (x3 : Vec F S384x384 .bf16) (h : Fin 8) : FVec F S128x64 .f32 :=
  nearOut (k0_pay10 x3) (k0_pay12 i) (nearZ (headQ x0 h) (headK X h)) (headV Y h)
/-- The carries the near tile starts the loop with. -/
def startCarry (i : grid0.Coords) (x0 : Vec F S128x512 .bf16) (X : Vec F S512x384 .bf16) (h : Fin 8) : FVec F S128x1 .f32 :=
  nearCarry (k0_pay12 i) (nearZ (headQ x0 h) (headK X h))

/-- A head's output at a grid point. -/
def headsOut (i : grid0.Coords) (x0 : Vec F S128x512 .bf16) (x1 : Vec F S512x16384 .bf16) (x2 : Vec F S16384x512 .bf16)
    (x3 : Vec F S384x384 .bf16) : Fin 8 → FVec F S128x64 .f32 :=
  loop x1 x2 (headQ x0) (k0_pay11 x3) (left i) (worst (startCarry i x0 (nearK x1 (left i))))
    (startOut i x0 (nearK x1 (left i)) (nearV x2 (left i)) x3) (startCarry i x0 (nearK x1 (left i)))

/-- Eight heads side by side, rounded: the block written. -/
def joinHeads (o : Fin 8 → FVec F S128x64 .f32) : Vec F S128x512 .bf16 := fun j =>
  truncf .bf16 (o ⟨(j 1).val / 64, by have h : (j 1).val < 512 := (j 1).isLt; omega⟩) bitsLt_bf16_f32
    (ix2 (j 0) ⟨(j 1).val % 64, Nat.mod_lt _ (by decide)⟩)

end Cert.KernelIdeal.Sb

end
-- ==== Proof.KernelIdeal.Loop.lean ====
/- The loop of a grid point: from `n` tiles still to run it leaves the two blocks it reads as they were and returns
   the outputs `Sb.loop` names. By induction on the tiles left, which is the variant its calls descend by. -/
module

public import proofs.«01_k».proof.Proof.KernelIdeal.Blocks
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tile a trip loads -/

/-- The next tile's number as the loop carries it, from the tiles left. -/
abbrev kb (n : ℕ) : BitVec 32 := BitVec.ofNat 32 n - 1#32

theorem off3_eq : ∀ n : Fin 128, k0_off3 (kb (n.val + 1)) = ![0, 128 * n.val] := by decide +kernel
theorem off4_eq : ∀ n : Fin 128, k0_off4 (kb (n.val + 1)) = ![128 * n.val, 0] := by decide +kernel
theorem mult_eq : ∀ n : Fin 128, (k0_mult2 (kb (n.val + 1))).toNat = 128 * n.val := by decide +kernel
theorem kb_sge : ∀ n : Fin 128, Scalar.cmpi .sge (kb (n.val + 1)) 0#32 = 1#1 := by decide +kernel
theorem kb_step : ∀ n : Fin 128, Scalar.subi (kb (n.val + 1)) 1#32 = kb n.val := by decide +kernel
theorem kb_zero : Scalar.cmpi .sge (kb 0) 0#32 = 0#1 := by decide

/-- What the body assumes of the tile's number holds while at most 128 tiles are left. -/
theorem chk (n : ℕ) (hn : n < 128) : k0_chk1 (kb (n + 1)) := by
  have h3 := off3_eq ⟨n, hn⟩; have h4 := off4_eq ⟨n, hn⟩; have hm := mult_eq ⟨n, hn⟩
  refine ⟨?_, ?_, ?_⟩
  · rw [hm]; exact ⟨n, rfl⟩
  · rw [h3, Fin.forall_fin_two]
    exact ⟨by show 0 + 512 ≤ 512; omega, by show 128 * n + 128 ≤ 16384; omega⟩
  · rw [h4, Fin.forall_fin_two]
    exact ⟨by show 128 * n + 128 ≤ 16384; omega, by show 0 + 512 ≤ 512; omega⟩

/-- The trip's load of the keys is tile `n`. -/
theorem load_k (arg3 : Memref sig .tc .vmem S512x16384 .bf16) (harg3 : arg3.IsWhole) (x1 : Vec F S512x16384 .bf16)
    (n : ℕ) (hn : n < 128) (inb) :
    View.readAt (Elt F) arg3.view (Rect.unit (s := S512x16384) (k0_off3 (kb (n + 1))) S512x128.size inb).toLoadRect
      (harg3.unread x1) = tileK x1 n := by
  funext j
  refine (harg3.readAt_unread x1 _ j).trans (congrArg x1 ?_)
  have h3 := off3_eq ⟨n, hn⟩
  have hj : (j 1).val < 128 := (j 1).isLt
  funext a; apply Fin.ext
  revert a; rw [Fin.forall_fin_two]
  refine ⟨?_, ?_⟩
  · rw [LoadRect.idx_apply]
    show k0_off3 (kb (n + 1)) 0 + 1 * (j 0).val = (j 0).val
    rw [congrFun h3 0]; show 0 + 1 * (j 0).val = (j 0).val; omega
  · rw [LoadRect.idx_apply]
    show k0_off3 (kb (n + 1)) 1 + 1 * (j 1).val = (128 * n + (j 1).val) % 16384
    rw [congrFun h3 1]; show 128 * n + 1 * (j 1).val = _; omega

/-- The trip's load of the values is tile `n`. -/
theorem load_v (arg4 : Memref sig .tc .vmem S16384x512 .bf16) (harg4 : arg4.IsWhole) (x2 : Vec F S16384x512 .bf16)
    (n : ℕ) (hn : n < 128) (inb) :
    View.readAt (Elt F) arg4.view (Rect.unit (s := S16384x512) (k0_off4 (kb (n + 1))) S128x512.size inb).toLoadRect
      (harg4.unread x2) = tileV x2 n := by
  funext j
  refine (harg4.readAt_unread x2 _ j).trans (congrArg x2 ?_)
  have h4 := off4_eq ⟨n, hn⟩
  have hj : (j 0).val < 128 := (j 0).isLt
  funext a; apply Fin.ext
  revert a; rw [Fin.forall_fin_two]
  refine ⟨?_, ?_⟩
  · rw [LoadRect.idx_apply]
    show k0_off4 (kb (n + 1)) 0 + 1 * (j 0).val = (128 * n + (j 0).val) % 16384
    rw [congrFun h4 0]; show 128 * n + 1 * (j 0).val = _; omega
  · rw [LoadRect.idx_apply]
    show k0_off4 (kb (n + 1)) 1 + 1 * (j 1).val = (j 1).val
    rw [congrFun h4 1]; show 0 + 1 * (j 1).val = (j 1).val; omega

/-! ## The loop -/

/-- The loop's label at what it carries. -/
abbrev mkArg (i : grid0.Coords) (arg3 : Memref sig .tc .vmem S512x16384 .bf16) (harg3 : arg3.IsWhole)
    (arg4 : Memref sig .tc .vmem S16384x512 .bf16) (harg4 : arg4.IsWhole) (q : Fin 8 → FVec F S128x64 .bf16)
    (tri : FVec F S128x128 .bf16) (b : BitVec 32) (w : F .f32) (o : Fin 8 → FVec F S128x64 .f32)
    (c : Fin 8 → FVec F S128x1 .f32) : Cc0While1 F :=
  ⟨i, arg3, harg3, arg4, harg4, q 0, q 1, q 2, q 3, q 4, q 5, q 6, q 7, tri, b, w, o 0, o 1, o 2, o 3, o 4, o 5, o 6,
    o 7, c 0, c 1, c 2, c 3, c 4, c 5, c 6, c 7⟩

/-- The loop's specification: holding the two blocks, it hands them back with the outputs `Sb.loop` names (what its
    number, largest carry and carries end as is not said). -/
def LoopSpec (d : Dev nD) (arg3 : Memref sig .tc .vmem S512x16384 .bf16) (harg3 : arg3.IsWhole)
    (arg4 : Memref sig .tc .vmem S16384x512 .bf16) (harg4 : arg4.IsWhole)
    (x1 : Vec F S512x16384 .bf16) (x2 : Vec F S16384x512 .bf16) (o : Fin 8 → FVec F S128x64 .f32) :
    (Res F → sProp 𝕄) → sProp 𝕄 := fun K =>
  iprop((arg3.view.loc (d : Thread nD τ) ↦[arg3.view.set]{fullShare} harg3.unread x1)
    ∗ (arg4.view.loc (d : Thread nD τ) ↦[arg4.view.set]{fullShare} harg4.unread x2)
    ∗ (∀ b, ∀ w, ∀ c, (arg3.view.loc (d : Thread nD τ) ↦[arg3.view.set]{fullShare} harg3.unread x1)
      -∗ (arg4.view.loc (d : Thread nD τ) ↦[arg4.view.set]{fullShare} harg4.unread x2)
      -∗ K (mkRes b w o c)))

/-- A call at an argument is a call at an equal one. -/
theorem call_arg {α : Type} (d : Dev nD) (E : Set ℕ) (a a' : Cc0While1 F) (h : a = a') (bd : Option ℕ)
    (k : Res F → Prog (TpuEff nD τ sig (Elt F) (Λ₀ F) .tc) α) (K : α → sProp 𝕄) (P : sProp 𝕄)
    (hp : P ⊢ wp frame (wpE (defs₀ (F := F)) Variants.nat d bd) E (.op (.call (1 : (Λ₀ F).Label) a') k) K) :
    P ⊢ wp frame (wpE (defs₀ (F := F)) Variants.nat d bd) E (.op (.call (1 : (Λ₀ F).Label) a) k) K := h ▸ hp

set_option maxHeartbeats 4000000 in
theorem loop_spec (d : Dev nD) (E : Set ℕ) (i : grid0.Coords) (arg3 : Memref sig .tc .vmem S512x16384 .bf16)
    (harg3 : arg3.IsWhole) (arg4 : Memref sig .tc .vmem S16384x512 .bf16) (harg4 : arg4.IsWhole)
    (x1 : Vec F S512x16384 .bf16) (x2 : Vec F S16384x512 .bf16) (q : Fin 8 → FVec F S128x64 .bf16)
    (tri : FVec F S128x128 .bf16) (n : ℕ) :
    n ≤ 128 → ∀ (w : F .f32) (o : Fin 8 → FVec F S128x64 .f32) (c : Fin 8 → FVec F S128x1 .f32) (K : Res F → sProp 𝕄),
      LoopSpec d arg3 harg3 arg4 harg4 x1 x2 (loop x1 x2 q tri n w o c) K
        ⊢ wp frame (wpE (defs₀ (F := F)) Variants.nat d (some n)) E
            (defs₀ (F := F) .tc (1 : (Λ₀ F).Label) (mkArg i arg3 harg3 arg4 harg4 q tri (kb n) w o c)) K := by
  induction n with
  | zero =>
    intro _ w o c K
    unfold LoopSpec
    show _ ⊢ wp frame _ E (cc0_while1 i arg3 harg3 arg4 harg4 (q 0) (q 1) (q 2) (q 3) (q 4) (q 5) (q 6) (q 7) tri (kb 0) w
      (o 0) (o 1) (o 2) (o 3) (o 4) (o 5) (o 6) (o 7) (c 0) (c 1) (c 2) (c 3) (c 4) (c 5) (c 6) (c 7)) K
    rw [cc0_while1_eq_skeleton]; unfold cc0_while1_skel
    have hc : ¬ (Scalar.andi (Scalar.cmpi .sge (kb 0) 0#32) (Scalar.cmpf .ogt w (Named.named κ "log_zero" 0xC2DC0000#32)) = 1#1) := by
      rw [kb_zero]; generalize Scalar.cmpf .ogt w (Named.named κ "log_zero" 0xC2DC0000#32) = b; revert b; decide
    rw [if_neg hc, show loop x1 x2 q tri 0 w o c = o from rfl]
    iintro ⟨H3, H4, Hk⟩
    sl_step
    iapply Hk $$ %(kb 0) %w %c H3 H4
  | succ n ih =>
    intro hn w o c K
    have hlt : n < 128 := by omega
    have hchk := chk n hlt
    unfold LoopSpec
    show _ ⊢ wp frame _ E (cc0_while1 i arg3 harg3 arg4 harg4 (q 0) (q 1) (q 2) (q 3) (q 4) (q 5) (q 6) (q 7) tri (kb (n + 1)) w
      (o 0) (o 1) (o 2) (o 3) (o 4) (o 5) (o 6) (o 7) (c 0) (c 1) (c 2) (c 3) (c 4) (c 5) (c 6) (c 7)) K
    rw [cc0_while1_eq_skeleton]; unfold cc0_while1_skel
    by_cases hal : alive w = 1#1
    · have hc : Scalar.andi (Scalar.cmpi .sge (kb (n + 1)) 0#32) (Scalar.cmpf .ogt w (Named.named κ "log_zero" 0xC2DC0000#32)) = 1#1 := by
        rw [kb_sge ⟨n, hlt⟩]; unfold alive at hal; rw [hal]; decide
      rw [if_pos hc]
      simp only [k0_part9_eq_skeleton, k0_part10_eq_skeleton, k0_part11_eq_skeleton, k0_part12_eq_skeleton, k0_part13_eq_skeleton]
      rw [show loop x1 x2 q tri (n + 1) w o c = loop x1 x2 q tri n (worst (stepCarry (tileK x1 n) q c))
        (stepOut (tileK x1 n) (tileV x2 n) q tri o c) (stepCarry (tileK x1 n) q c) from by
        rw [loop, if_pos hal]]
      iintro ⟨H3, H4, Hk⟩
      sl_exec
      refine call_arg d E _ (mkArg i arg3 harg3 arg4 harg4 q tri (kb n) (worst (stepCarry (tileK x1 n) q c))
        (stepOut (tileK x1 n) (tileV x2 n) q tri o c) (stepCarry (tileK x1 n) q c)) ?_ (some (n + 1)) .ret K _ ?_
      · rw [← load_k arg3 harg3 x1 n hlt (k0_off3_inb _ hchk), ← load_v arg4 harg4 x2 n hlt (k0_off4_inb _ hchk),
          ← kb_step ⟨n, hlt⟩]
        rfl
      · iintro ⟨⟨H3, H4⟩, Hk⟩
        iapply (wp_call Variants.nat (d : Thread nD τ) (some (n + 1)) E n (fun u hu => by cases hu; exact Nat.lt_succ_self n))
        iapply (ih (by omega) _ _ _ _)
        unfold LoopSpec
        isplitl [H3]
        · iexact H3
        isplitl [H4]
        · iexact H4
        iintro %b %w' %c' H3 H4
        beta_reduce
        sl_step
        iapply Hk $$ %b %w' %c' H3 H4
    · have hc : ¬ (Scalar.andi (Scalar.cmpi .sge (kb (n + 1)) 0#32) (Scalar.cmpf .ogt w (Named.named κ "log_zero" 0xC2DC0000#32)) = 1#1) := by
        rw [kb_sge ⟨n, hlt⟩]; intro h; apply hal; unfold alive
        revert h; generalize Scalar.cmpf .ogt w (Named.named κ "log_zero" 0xC2DC0000#32) = b; revert b; decide
      rw [if_neg hc]
      rw [show loop x1 x2 q tri (n + 1) w o c = o from by rw [loop, if_neg hal]]
      iintro ⟨H3, H4, Hk⟩
      sl_step
      iapply Hk $$ %(kb (n + 1)) %w %c H3 H4

end Cert.KernelIdeal.Sb

end
-- ==== Proof.KernelIdeal.Body.lean ====
/- One grid point's body: from its four input blocks it writes the eight heads' outputs `Sb.headsOut` side by side into
   the output block, and leaves the input blocks as they were. -/
module

public import proofs.«01_k».proof.Proof.KernelIdeal.Loop
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body loads -/

/-- The grid's second coordinate as the program counts with it. -/
theorem off1_val : ∀ b : Fin 128, (Scalar.maxsi (Scalar.subi (Scalar.muli (BitVec.ofNat 32 b.val) 128#32) 256#32) 0#32).toNat
    = 128 * (b.val - 2) := by decide +kernel

theorem off1_eq (i : grid0.Coords) : k0_off1 i = ![0, 128 * left i] := by
  unfold k0_off1 left; exact congrArg (fun n => ![0, n]) (off1_val (i 1))
theorem off2_eq (i : grid0.Coords) : k0_off2 i = ![128 * left i, 0] := by
  unfold k0_off2 left; exact congrArg (fun n => ![n, 0]) (off1_val (i 1))

/-- A load of a whole block is the block. -/
theorem load_whole {s : Shape} {e : EltTy} (M : Memref sig .tc .vmem s e) (h : M.IsWhole) (X : s.Idx → Elt F e)
    (off : Fin s.rank → ℕ) (hoff : ∀ a, off a = 0) (inb) :
    View.readAt (Elt F) M.view (Rect.unit (s := s) off s.size inb).toLoadRect (h.unread X) = X := by
  funext j
  refine (h.readAt_unread X _ j).trans (congrArg X ?_)
  funext a; apply Fin.ext
  rw [LoadRect.idx_apply]
  show off a + 1 * (j a).val = (j a).val
  rw [hoff]; omega

theorem left_le (i : grid0.Coords) : left i ≤ 125 := by
  have h : (i 1).val < 128 := (i 1).isLt
  unfold left; omega

/-- The body's load of the near tile's keys. -/
theorem load_nearK (arg3 : Memref sig .tc .vmem S512x16384 .bf16) (harg3 : arg3.IsWhole) (x1 : Vec F S512x16384 .bf16)
    (i : grid0.Coords) (inb) :
    View.readAt (Elt F) arg3.view (Rect.unit (s := S512x16384) (k0_off1 i) S512x384.size inb).toLoadRect
      (harg3.unread x1) = nearK x1 (left i) := by
  funext j
  refine (harg3.readAt_unread x1 _ j).trans (congrArg x1 ?_)
  have hl := left_le i
  have hj : (j 1).val < 384 := (j 1).isLt
  funext a; apply Fin.ext
  revert a; rw [Fin.forall_fin_two]
  refine ⟨?_, ?_⟩
  · rw [LoadRect.idx_apply]
    show k0_off1 i 0 + 1 * (j 0).val = (j 0).val
    rw [congrFun (off1_eq i) 0]; show 0 + 1 * (j 0).val = (j 0).val; omega
  · rw [LoadRect.idx_apply]
    show k0_off1 i 1 + 1 * (j 1).val = (128 * left i + (j 1).val) % 16384
    rw [congrFun (off1_eq i) 1]; show 128 * left i + 1 * (j 1).val = _; omega

/-- The body's load of the near tile's values. -/
theorem load_nearV (arg4 : Memref sig .tc .vmem S16384x512 .bf16) (harg4 : arg4.IsWhole) (x2 : Vec F S16384x512 .bf16)
    (i : grid0.Coords) (inb) :
    View.readAt (Elt F) arg4.view (Rect.unit (s := S16384x512) (k0_off2 i) S384x512.size inb).toLoadRect
      (harg4.unread x2) = nearV x2 (left i) := by
  funext j
  refine (harg4.readAt_unread x2 _ j).trans (congrArg x2 ?_)
  have hl := left_le i
  have hj : (j 0).val < 384 := (j 0).isLt
  funext a; apply Fin.ext
  revert a; rw [Fin.forall_fin_two]
  refine ⟨?_, ?_⟩
  · rw [LoadRect.idx_apply]
    show k0_off2 i 0 + 1 * (j 0).val = (128 * left i + (j 0).val) % 16384
    rw [congrFun (off2_eq i) 0]; show 128 * left i + 1 * (j 0).val = _; omega
  · rw [LoadRect.idx_apply]
    show k0_off2 i 1 + 1 * (j 1).val = (j 1).val
    rw [congrFun (off2_eq i) 1]; show 0 + 1 * (j 1).val = (j 1).val; omega

/-! ## What the body stores -/

theorem inb_head : ∀ h : Fin 8, ∀ a, (![0, 64 * h.val] : Fin 2 → ℕ) a + S128x64.size a ≤ S128x512.size a := by decide

/-- The body's stores, last first: each head's output rounded, at its 64 columns. -/
abbrev pieces (o : Fin 8 → FVec F S128x64 .f32) : List (View.Piece (Elt F) S128x512 .bf16) :=
  [⟨Rect.unit (s := S128x512) ![0, 448] S128x64.size (inb_head 7), truncf .bf16 (o 7) bitsLt_bf16_f32⟩,
   ⟨Rect.unit (s := S128x512) ![0, 384] S128x64.size (inb_head 6), truncf .bf16 (o 6) bitsLt_bf16_f32⟩,
   ⟨Rect.unit (s := S128x512) ![0, 320] S128x64.size (inb_head 5), truncf .bf16 (o 5) bitsLt_bf16_f32⟩,
   ⟨Rect.unit (s := S128x512) ![0, 256] S128x64.size (inb_head 4), truncf .bf16 (o 4) bitsLt_bf16_f32⟩,
   ⟨Rect.unit (s := S128x512) ![0, 192] S128x64.size (inb_head 3), truncf .bf16 (o 3) bitsLt_bf16_f32⟩,
   ⟨Rect.unit (s := S128x512) ![0, 128] S128x64.size (inb_head 2), truncf .bf16 (o 2) bitsLt_bf16_f32⟩,
   ⟨Rect.unit (s := S128x512) ![0, 64] S128x64.size (inb_head 1), truncf .bf16 (o 1) bitsLt_bf16_f32⟩,
   ⟨Rect.unit (s := S128x512) ![0, 0] S128x64.size (inb_head 0), truncf .bf16 (o 0) bitsLt_bf16_f32⟩]

/-- One store is the joined block at its columns. -/
theorem piece_eq (o : Fin 8 → FVec F S128x64 .f32) (h : Fin 8) (off : Fin 2 → ℕ) (ho : off = ![0, 64 * h.val]) (inb)
    (x : S128x64.Idx) :
    truncf .bf16 (o h) bitsLt_bf16_f32 x = joinHeads o ((Rect.unit (s := S128x512) off S128x64.size inb).emb x) := by
  subst ho
  have hx : (x 1).val < 64 := (x 1).isLt
  have hh : h.val < 8 := h.isLt
  have e1 : (((Rect.unit (s := S128x512) ![0, 64 * h.val] S128x64.size inb).emb x) 1).val = 64 * h.val + (x 1).val := by
    show 64 * h.val + 1 * (x 1).val = _; omega
  have e0 : (((Rect.unit (s := S128x512) ![0, 64 * h.val] S128x64.size inb).emb x) 0).val = (x 0).val := by
    show 0 + 1 * (x 0).val = _; omega
  unfold joinHeads
  have hd : (⟨(((Rect.unit (s := S128x512) ![0, 64 * h.val] S128x64.size inb).emb x) 1).val / 64, by rw [e1]; omega⟩ : Fin 8) = h :=
    Fin.ext (by show _ / 64 = h.val; rw [e1]; omega)
  rw [hd]
  congr 1
  funext a; apply Fin.ext
  revert a; rw [Fin.forall_fin_two]
  exact ⟨e0.symm, by show (x 1).val = _ % 64; rw [e1]; omega⟩

/-- The body's stores leave the joined block. -/
theorem read_pieces (o : Fin 8 → FVec F S128x64 .f32) {sp} (v : View sig .tc sp S128x512 .bf16) (f : v.ty.Contents (Elt F)) :
    v.read (Elt F) (v.writes (Elt F) f (pieces o)) = joinHeads o := by
  funext y
  refine View.read_writes_apply_of_pieces v f (joinHeads o) (pieces o) ?_ y ?_
  · simp only [pieces, List.forall_mem_cons, List.not_mem_nil, false_implies, implies_true, and_true]
    exact ⟨piece_eq o 7 _ rfl _, piece_eq o 6 _ rfl _, piece_eq o 5 _ rfl _, piece_eq o 4 _ rfl _, piece_eq o 3 _ rfl _,
      piece_eq o 2 _ rfl _, piece_eq o 1 _ rfl _, piece_eq o 0 _ rfl _⟩
  · exact View.cover_of_tiledL (pieces o) S128x64.size (by sl_kernel_rfl) y

/-! ## The body -/

/-- The tiles left as the program computes them for the loop: the near tile's start over 128, less one, is the number of
    the tile before. -/
theorem kb_start : ∀ b : Fin 128,
    (let v7 := Scalar.maxsi (Scalar.subi (Scalar.muli (BitVec.ofNat 32 b.val) 128#32) 256#32) 0#32
     Scalar.subi (Scalar.select (Scalar.andi (Scalar.cmpi .ne
        (Scalar.subi (Scalar.extui (Scalar.cmpi .sgt v7 0#32)) (Scalar.extui (Scalar.cmpi .slt v7 0#32)))
        (Scalar.subi (Scalar.extui (Scalar.cmpi .sgt 128#32 0#32)) (Scalar.extui (Scalar.cmpi .slt 128#32 0#32))))
        (Scalar.cmpi .ne (Scalar.remsi v7 128#32) 0#32))
      (Scalar.subi (Scalar.divsi v7 128#32) 1#32) (Scalar.divsi v7 128#32)) 1#32 : BitVec 32) = kb (b.val - 2) := by
  decide +kernel

/-- The loop's argument on entry, from the blocks the body has loaded. -/
abbrev startArg (i : grid0.Coords) (arg3 : Memref sig .tc .vmem S512x16384 .bf16) (harg3 : arg3.IsWhole)
    (arg4 : Memref sig .tc .vmem S16384x512 .bf16) (harg4 : arg4.IsWhole) (b : BitVec 32)
    (x0 : Vec F S128x512 .bf16) (X : Vec F S512x384 .bf16) (Y : Vec F S384x512 .bf16) (x3 : Vec F S384x384 .bf16) : Cc0While1 F :=
  mkArg i arg3 harg3 arg4 harg4 (headQ x0) (k0_pay11 x3) b (worst (startCarry i x0 X)) (startOut i x0 X Y x3) (startCarry i x0 X)

set_option maxHeartbeats 4000000 in
/-- The body's run at whole staging buffers. -/
theorem body_run (d : Dev nD) (i : grid0.Coords) (arg2 : Memref sig .tc .vmem S128x512 .bf16) (harg2 : arg2.IsWhole) (arg3 : Memref sig .tc .vmem S512x16384 .bf16) (harg3 : arg3.IsWhole) (arg4 : Memref sig .tc .vmem S16384x512 .bf16) (harg4 : arg4.IsWhole) (arg5 : Memref sig .tc .vmem S384x384 .bf16) (harg5 : arg5.IsWhole) (arg6 : Memref sig .tc .vmem S128x512 .bf16) (harg6 : arg6.IsWhole)
    (x0 : Vec F S128x512 .bf16) (x1 : Vec F S512x16384 .bf16) (x2 : Vec F S16384x512 .bf16) (x3 : Vec F S384x384 .bf16)
    (E : Set ℕ) (K : PUnit → sProp 𝕄) :
    iprop(owns (d : Thread nD τ) arg2 fullShare x0 ∗ owns (d : Thread nD τ) arg3 fullShare x1 ∗ owns (d : Thread nD τ) arg4 fullShare x2 ∗ owns (d : Thread nD τ) arg5 fullShare x3 ∗ (∃ e, owns (d : Thread nD τ) arg6 fullShare e)
        ∗ (iprop(owns (d : Thread nD τ) arg2 fullShare x0 ∗ owns (d : Thread nD τ) arg3 fullShare x1 ∗ owns (d : Thread nD τ) arg4 fullShare x2 ∗ owns (d : Thread nD τ) arg5 fullShare x3 ∗ (∃ f, arg6.view.loc (d : Thread nD τ) ↦[arg6.view.set]{fullShare} arg6.view.writes (Elt F) f (pieces (headsOut i x0 x1 x2 x3)))) -∗ K ⟨⟩))
      ⊢ wp frame (wpE (defs₀ (F := F)) Variants.nat d none) E (cc0_sb_attention i arg2 harg2 arg3 harg3 arg4 harg4 arg5 harg5 arg6 harg6) K := by
  simp only [cc0_sb_attention_eq_skeleton]; unfold cc0_sb_attention_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  refine call_arg d E _ (startArg i arg3 harg3 arg4 harg4 (kb (left i)) x0 (nearK x1 (left i)) (nearV x2 (left i)) x3)
    ?_ none _ _ _ ?_
  · refine (show _ = startArg i arg3 harg3 arg4 harg4 _
      (View.readAt (Elt F) arg2.view (Rect.unit (s := S128x512) ![0, 0] S128x512.size inb_S128x512_S128x512_0_0).toLoadRect (harg2.unread x0))
      (View.readAt (Elt F) arg3.view (Rect.unit (s := S512x16384) (k0_off1 i) S512x384.size (k0_off1_inb i)).toLoadRect (harg3.unread x1))
      (View.readAt (Elt F) arg4.view (Rect.unit (s := S16384x512) (k0_off2 i) S384x512.size (k0_off2_inb i)).toLoadRect (harg4.unread x2))
      (View.readAt (Elt F) arg5.view (Rect.unit (s := S384x384) ![0, 0] S384x384.size inb_S384x384_S384x384_0_0).toLoadRect (harg5.unread x3))
      from rfl).trans ?_
    rw [load_whole arg2 harg2 x0 ![0, 0] (by decide), load_nearK arg3 harg3 x1 i, load_nearV arg4 harg4 x2 i,
      load_whole arg5 harg5 x3 ![0, 0] (by decide)]
    exact congrArg (fun b => startArg i arg3 harg3 arg4 harg4 b x0 (nearK x1 (left i)) (nearV x2 (left i)) x3) (kb_start (i 1))
  iintro ⟨⟨⟨⟨⟨H0, H1⟩, H2⟩, H3⟩, H4⟩, Hk⟩
  iapply (wp_call Variants.nat (d : Thread nD τ) none E (left i) (fun u hu => by cases hu))
  iapply (loop_spec d E i arg3 harg3 arg4 harg4 x1 x2 (headQ x0) (k0_pay11 x3) (left i) (by have := left_le i; omega) _ _ _ _)
  unfold LoopSpec
  isplitl [H1]
  · iexact H1
  isplitl [H2]
  · iexact H2
  iintro %b %w %c H1 H2
  beta_reduce
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists f4
  iexact H4

end Cert.KernelIdeal.Sb

end
-- ==== Proof.KernelIdeal.Frame.lean ====
/- The kernel's launch: every grid point's body meets the pipeline's obligation (Body.lean), so every run terminates
   with the arguments as they were, every counter at zero, and the output array at what the points wrote back. -/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch's contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- `main` is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's staging buffer holds its block at every point, whether or not it was fetched there. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not it was fetched there. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not it was fetched there. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether or not it was fetched there. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers at a point -/
abbrev ms0_0 (t : Fin (cfg0 (F := F)).N) : Memref sig .tc .vmem S128x512 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S512x16384 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S16384x512 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S384x384 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S128x512 .bf16 := win0_4.stage ((cfg0 (F := F)).slots t 4)
abbrev hs0_4 (t : Fin (cfg0 (F := F)).N) : (ms0_4 t).IsWhole := hstage0_4 (((cfg0 (F := F)).slots t 4).cast nbuf0_4)

/-! ## The pipeline's proof data -/

/-- What the body leaves in the output's staging buffer at point `t`. -/
def outAt (c : Dev nD) (t : Fin (cfg0 (F := F)).N) : Vec F S128x512 .bf16 :=
  joinHeads (headsOut (grid0.coords t) (iblk m c 0 t) (iblk m c 1 t) (iblk m c 2 t) (iblk m c 3 t))

/-- The proof data: the arrays as the region finds them; after the body each input's buffer at its block and the
    output's at `outAt`; nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- The proof data's arrays are what the region finds. -/
theorem A_eq (c : Dev nD) (w : Fin (cfg0 (F := F)).W) : (dats m 0 c).A w = V m c (Pipeline.arrRef spec0 w) := by
  dsimp only [dats]

/-- What the body leaves, window by window. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = outAt m c t := by dsimp only [dats]; rfl

/-- Each input's staging buffer holds its block when the body starts. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t`, window by window. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at point `t`, window by window. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact read_pieces _ _ _

/-- The body table's row at point `t`'s slots is the body at the point's staging buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation on the body, at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run -/

set_option backward.isDefEq.respectTransparency.types false in
/-- Every run terminates at the arrays the points' blocks make, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The run read at the result and the arguments: the output array, the arguments unchanged, every counter at zero. -/
theorem run : θ_run defs (onTc (τ := τ) (main (F := F))) ⟨m, fun _ => 0, ρ⟩ (fun r => (∀ c : Dev nD,
      r.2.mem ((c.tc : Thread nD τ).loc main_v7) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩)
    (run_main m ρ)

/-- The frame: the arguments end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Sb

end
-- ==== Proof.Value.Stick.lean ====
/- The stick-breaking weights of one query over the reals, away from any program: the softplus, the logarithm each
   earlier key leaves, the weight of a key, and the sums a tile of keys adds to. The keys are numbered by naturals and
   there are 16384 of them. -/
module

public import Idealize.ShloMosaic.Lib.Pointwise

@[expose] public section

noncomputable section

namespace Cert.Stick

open Idealize.ShloMosaic Finset

/-! ## Real sums in the extended reals -/

/-- A finite sum of reals is the same in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [sum_insert h, sum_insert h, EReal.coe_add, ih]

/-- A sum of products of two families without infinities is a real. -/
theorem sum_mul_real {ι : Type*} [Fintype ι] (f g : ι → EReal) (hf : ∀ i, f i ≠ ⊤ ∧ f i ≠ ⊥) (hg : ∀ i, g i ≠ ⊤ ∧ g i ≠ ⊥) :
    ∑ i, f i * g i = ((∑ i, (f i).toReal * (g i).toReal : ℝ) : EReal) := by
  rw [coe_sum]
  refine sum_congr rfl fun i _ => ?_
  rw [EReal.coe_mul, EReal.coe_toReal (hf i).1 (hf i).2, EReal.coe_toReal (hg i).1 (hg i).2]

/-- A sum over a tile of `K` keys from key `b`, over the keys themselves. -/
theorem sum_tile {M : Type*} [AddCommMonoid M] (b K : ℕ) (f : ℕ → M) : ∑ j : Fin K, f (b + j.val) = ∑ t ∈ Ico b (b + K), f t := by
  rw [sum_Ico_eq_sum_range, Nat.add_sub_cancel_left, Finset.sum_range]

/-! ## The weights -/

/-- The softplus, `log (1 + e^x)`, in the spelling that overflows nowhere. -/
def sp (x : ℝ) : ℝ := max x 0 + Real.log (1 + Real.exp (-|x|))

/-- Minus the softplus of the negated number is the number less its softplus. -/
theorem neg_sp_neg (x : ℝ) : -sp (-x) = x - sp x := by
  unfold sp
  rw [abs_neg]
  rcases le_total 0 x with h | h
  · rw [max_eq_left h, max_eq_right (by linarith)]; ring
  · rw [max_eq_right h, max_eq_left (by linarith)]; ring

/-- The logarithm the sum is of, over the extended reals. -/
theorem log_one_add_exp (x : ℝ) : Ideal.log (1 + Ideal.exp ((-|x| : ℝ) : EReal)) = ((Real.log (1 + Real.exp (-|x|)) : ℝ) : EReal) := by
  rw [Ideal.exp_coe, ← EReal.coe_one, ← EReal.coe_add, Ideal.log_coe, if_neg (by have := Real.exp_pos (-|x|); linarith)]

/-- The larger of a real and its negation, over the extended reals. -/
theorem max_neg_coe (x : ℝ) : max (x : EReal) (-(x : EReal)) = ((|x| : ℝ) : EReal) := by
  rw [← EReal.coe_neg, ← EReal.coe_strictMono.monotone.map_max]; rfl

theorem max_zero_coe (x : ℝ) : max (x : EReal) 0 = ((max x 0 : ℝ) : EReal) := by
  rw [← EReal.coe_zero, ← EReal.coe_strictMono.monotone.map_max]

/-- The softplus as both programs write it. -/
theorem softplus_coe (x : ℝ) :
    max (x : EReal) 0 + Ideal.log (1 + Ideal.exp (-max (x : EReal) (-(x : EReal)))) = (sp x : EReal) := by
  rw [max_neg_coe, max_zero_coe, ← EReal.coe_neg, log_one_add_exp, ← EReal.coe_add]; rfl

/-- What key `s` leaves of the stick of query `r`, as a logarithm: nothing taken at or after the query. -/
def lg (z : ℕ → ℝ) (r s : ℕ) : ℝ := if s < r then -sp (z s) else 0

/-- What the keys after `s` leave. -/
def after (z : ℕ → ℝ) (r s : ℕ) : ℝ := ∑ t ∈ Ico (s + 1) 16384, lg z r t

/-- The weight of key `s` for query `r`. -/
def wt (z : ℕ → ℝ) (r s : ℕ) : ℝ := if s < r then Real.exp (z s - sp (z s) + after z r s) else 0

/-- The logarithms from key `b` on. -/
def carry (z : ℕ → ℝ) (r b : ℕ) : ℝ := ∑ t ∈ Ico b 16384, lg z r t

/-- The weighted values from key `b` on. -/
def att (z : ℕ → ℝ) (v : ℕ → EReal) (r b : ℕ) : EReal := ∑ t ∈ Ico b 16384, (wt z r t : EReal) * v t

/-! ## A tile -/

/-- The carry before a tile is the carry after it and the tile's own logarithms. -/
theorem carry_tile (z : ℕ → ℝ) (r b K : ℕ) (h : b + K ≤ 16384) :
    (carry z r (b + K) : EReal) + ∑ j : Fin K, ((lg z r (b + j.val) : ℝ) : EReal) = (carry z r b : EReal) := by
  rw [← coe_sum, ← EReal.coe_add, sum_tile b K (lg z r), carry, carry, add_comm, sum_Ico_consecutive _ (by omega) h]

/-- The output before a tile likewise. -/
theorem att_tile (z : ℕ → ℝ) (v : ℕ → EReal) (r b K : ℕ) (h : b + K ≤ 16384) :
    att z v r (b + K) + ∑ j : Fin K, (wt z r (b + j.val) : EReal) * v (b + j.val) = att z v r b := by
  rw [sum_tile b K fun t => (wt z r t : EReal) * v t, att, att, add_comm, sum_Ico_consecutive _ (by omega) h]

/-- Inside a tile the keys after the `j`-th: those of the tile that a triangle of ones picks, and the carry. -/
theorem after_tile (z : ℕ → ℝ) (r b K : ℕ) (h : b + K ≤ 16384) (j : Fin K) :
    (∑ a : Fin K, ((lg z r (b + a.val) : ℝ) : EReal) * (if j.val < a.val then 1 else 0)) + (carry z r (b + K) : EReal)
      = (after z r (b + j.val) : EReal) := by
  have h1 : ∀ a : Fin K, ((lg z r (b + a.val) : ℝ) : EReal) * (if j.val < a.val then 1 else 0)
      = ((if b + j.val < b + a.val then lg z r (b + a.val) else 0 : ℝ) : EReal) := fun a => by
    by_cases hja : j.val < a.val
    · rw [if_pos hja, if_pos (by omega), mul_one]
    · rw [if_neg hja, if_neg (by omega), mul_zero]; rfl
  rw [sum_congr rfl fun a _ => h1 a, ← coe_sum, ← EReal.coe_add,
    sum_tile b K fun t => if b + j.val < t then lg z r t else 0]
  congr 1
  have hj := j.isLt
  rw [← sum_Ico_consecutive _ (show b ≤ b + j.val + 1 by omega) (show b + j.val + 1 ≤ b + K by omega),
    sum_eq_zero (s := Ico b (b + j.val + 1)) (fun t ht => by rw [mem_Ico] at ht; rw [if_neg (by omega)]), zero_add,
    sum_congr rfl (s₁ := Ico (b + j.val + 1) (b + K)) (g := lg z r) (fun t ht => by rw [mem_Ico] at ht; rw [if_pos (by omega)]),
    carry, after, sum_Ico_consecutive _ (by omega) h]

/-- Past the query there is no carry … -/
theorem carry_past (z : ℕ → ℝ) (r b : ℕ) (h : r ≤ b) : carry z r b = 0 :=
  sum_eq_zero fun t ht => by rw [mem_Ico] at ht; rw [lg, if_neg (by omega)]

/-- … and no output, whatever the values are. -/
theorem att_past (z : ℕ → ℝ) (v : ℕ → EReal) (r b : ℕ) (h : r ≤ b) : att z v r b = 0 :=
  sum_eq_zero fun t ht => by rw [mem_Ico] at ht; rw [wt, if_neg (by omega), EReal.coe_zero, zero_mul]

/-- The keys from `s` on less key `s` are the keys after it. -/
theorem carry_sub (z : ℕ → ℝ) (r s : ℕ) (h : s < 16384) : (carry z r s : EReal) - (lg z r s : EReal) = (after z r s : EReal) := by
  rw [← EReal.coe_sub, carry, sum_eq_sum_Ico_succ_bot h, add_sub_cancel_left]; rfl

/-! ## A suffix sum -/

/-- The elements from `s` on, as a window of all 16384 positions that starts at `s` and holds zeros past the end. -/
theorem sum_window_suffix {M : Type*} [AddCommMonoid M] (s : ℕ) (h : s ≤ 16384) (f : ℕ → M) :
    ∑ k : Fin 16384, (if s + k.val < 16384 then f (s + k.val) else 0) = ∑ t ∈ Ico s 16384, f t := by
  rw [sum_tile s 16384 fun t => if t < 16384 then f t else 0,
    ← sum_Ico_consecutive _ h (show 16384 ≤ s + 16384 by omega),
    sum_eq_zero (s := Ico 16384 (s + 16384)) (fun t ht => by rw [mem_Ico] at ht; rw [if_neg (by omega)]), add_zero]
  exact sum_congr rfl fun t ht => by rw [mem_Ico] at ht; rw [if_pos ht.2]

/-- A left fold of sums over the positions of a shape is the sum over its indices. -/
theorem foldl_positions {M : Type*} [AddCommMonoid M] (W : Shape) (f : W.Idx → M) :
    (List.finRange W.numel).foldl (fun r n => r + f (W.rowMajor.symm n)) 0 = ∑ i : W.Idx, f i := by
  have h1 : ∀ (l : List (Fin W.numel)) (a : M), l.foldl (fun r n => r + f (W.rowMajor.symm n)) a
      = a + (l.map fun n => f (W.rowMajor.symm n)).sum := fun l => by
    induction l with
    | nil => intro a; simp
    | cons n l ih => intro a; rw [List.foldl_cons, ih, List.map_cons, List.sum_cons, add_assoc]
  rw [h1, zero_add, ← Fin.sum_univ_def, Equiv.sum_comp W.rowMajor.symm f]

end Cert.Stick

end
-- ==== Proof.Value.Tiles.lean ====
/- A tile of the stick-breaking attention at one query and one head, over the extended reals: what the near tile gives
   and what one trip of the loop adds, as the sums of `Stick` from the tile's first key on. -/
module

public import proofs.«01_k».proof.Proof.KernelIdeal.Blocks
public import proofs.«01_k».proof.Proof.Value.Stick

@[expose] public section

noncomputable section

namespace Cert.KernelIdeal.Sb

open Cert.KernelIdeal Cert.KernelIdeal.Gen Idealize.ShloMosaic Idealize.SL.Sem Cert.Stick

/-! ## The pieces at an index -/

theorem softp_apply {s : Shape} (z : FVec Ideal s .f32) (j : s.Idx) (x : ℝ) (h : z j = (x : EReal)) :
    softp z j = (sp x : EReal) := by
  rw [← softplus_coe x, ← h]
  pointwise [softp]
  rw [zero_sub]; rfl

theorem logOne_apply {s : Shape} (z : FVec Ideal s .f32) (j : s.Idx) (x : ℝ) (h : z j = (x : EReal)) :
    logOne z j = ((-sp x : ℝ) : EReal) := by
  pointwise [logOne]
  rw [softp_apply z j x h, zero_sub, EReal.coe_neg]

theorem nearZ_apply (q : FVec Ideal S128x64 .bf16) (k : FVec Ideal S64x384 .bf16) (r : Fin 128) (j : Fin 384) :
    nearZ q k (ix2 r j) = ∑ e : Fin 64, q (ix2 r e) * k (ix2 e j) := by
  pointwise [nearZ]

theorem farZ_apply (q : FVec Ideal S128x64 .bf16) (k : FVec Ideal S64x128 .bf16) (r : Fin 128) (j : Fin 128) :
    farZ q k (ix2 r j) = ∑ e : Fin 64, q (ix2 r e) * k (ix2 e j) := by
  pointwise [farZ]

theorem headQ_apply (x : Vec Ideal S128x512 .bf16) (h : Fin 8) (r : Fin 128) (e : Fin 64) :
    headQ x h (ix2 r e) = x (ix2 r ⟨64 * h.val + e.val, by omega⟩) := by
  pointwise [headQ]

theorem headV_apply (x : Vec Ideal S384x512 .bf16) (h : Fin 8) (r : Fin 384) (e : Fin 64) :
    headV x h (ix2 r e) = x (ix2 r ⟨64 * h.val + e.val, by omega⟩) := by
  pointwise [headV]

theorem headK_apply (x : Vec Ideal S512x384 .bf16) (h : Fin 8) (e : Fin 64) (j : Fin 384) :
    headK x h (ix2 e j) = x (ix2 ⟨64 * h.val + e.val, by omega⟩ j) := by
  pointwise [headK]

theorem headKf_apply (x : Vec Ideal S512x128 .bf16) (h : Fin 8) (e : Fin 64) (j : Fin 128) :
    headKf x h (ix2 e j) = x (ix2 ⟨64 * h.val + e.val, by omega⟩ j) := by
  pointwise [headKf]

/-- A real number chosen or zero, over the extended reals. -/
theorem select_coe (p : Prop) [Decidable p] (x : ℝ) :
    Scalar.select (if p then 1#1 else 0#1) (x : EReal) 0 = ((if p then x else 0 : ℝ) : EReal) := by
  by_cases h : p
  · rw [if_pos h, if_pos h]; rfl
  · rw [if_neg h, if_neg h]; rfl

/-- A masked factor is the masked product: zero times anything is zero. -/
theorem select_mul (c : BitVec 1) (x y : EReal) : Scalar.select c (x * y) 0 = Scalar.select c x 0 * y := by
  unfold Scalar.select; split
  · rfl
  · exact (zero_mul y).symm

/-! ## The near tile -/

section Near

variable (tri : FVec Ideal S384x384 .bf16) (msk : IVec S128x384 1) (z : FVec Ideal S128x384 .f32)
  (v : FVec Ideal S384x64 .bf16) (ρ : Fin 128) (d : Fin 64) (zz : ℕ → ℝ) (vv : ℕ → EReal) (r b : ℕ)

theorem nearLog_apply (hz : ∀ j, z (ix2 ρ j) = (zz (b + j.val) : EReal))
    (hm : ∀ j, msk (ix2 ρ j) = if b + j.val < r then 1#1 else 0#1) (j : Fin 384) :
    Scalar.select (msk (ix2 ρ j)) (logOne z (ix2 ρ j)) 0 = ((lg zz r (b + j.val) : ℝ) : EReal) := by
  rw [logOne_apply z _ _ (hz j), hm j, select_coe]; rfl

theorem nearCarry_apply (hz : ∀ j, z (ix2 ρ j) = (zz (b + j.val) : EReal))
    (hm : ∀ j, msk (ix2 ρ j) = if b + j.val < r then 1#1 else 0#1) (hb : b + 384 ≤ 16384) (hr : r ≤ b + 384) :
    nearCarry msk z (ix2 ρ 0) = (carry zz r b : EReal) := by
  pointwise [nearCarry, nearLog, masked, zeroCarry]
  rw [← carry_tile zz r b 384 hb, carry_past zz r _ hr, EReal.coe_zero, zero_add]
  exact Finset.sum_congr rfl fun j _ => nearLog_apply msk z ρ zz r b hz hm j

theorem nearW_apply (htri : ∀ a j, tri (ix2 a j) = if j.val < a.val then 1 else 0)
    (hz : ∀ j, z (ix2 ρ j) = (zz (b + j.val) : EReal))
    (hm : ∀ j, msk (ix2 ρ j) = if b + j.val < r then 1#1 else 0#1) (hb : b + 384 ≤ 16384) (hr : r ≤ b + 384) (j : Fin 384) :
    nearW tri msk z (ix2 ρ j) = (wt zz r (b + j.val) : EReal) := by
  pointwise [nearW, nearLog, masked, zeroCarry]
  have h2 := after_tile zz r b 384 hb j
  rw [carry_past zz r _ hr, EReal.coe_zero, add_zero] at h2
  rw [Finset.sum_congr rfl fun a _ => (select_mul _ _ _).trans
      (congrArg₂ (· * ·) (nearLog_apply msk z ρ zz r b hz hm a) (htri a j)), h2, softp_apply z _ _ (hz j), hz j,
    ← EReal.coe_sub, ← EReal.coe_add, Ideal.exp_coe, hm j, select_coe]
  rfl

theorem nearOut_apply (htri : ∀ a j, tri (ix2 a j) = if j.val < a.val then 1 else 0)
    (hz : ∀ j, z (ix2 ρ j) = (zz (b + j.val) : EReal))
    (hm : ∀ j, msk (ix2 ρ j) = if b + j.val < r then 1#1 else 0#1) (hb : b + 384 ≤ 16384) (hr : r ≤ b + 384)
    (hv : ∀ j, v (ix2 j d) = vv (b + j.val)) :
    nearOut tri msk z v (ix2 ρ d) = att zz vv r b := by
  pointwise [nearOut]
  rw [← att_tile zz vv r b 384 hb, att_past zz vv r _ hr, zero_add]
  exact Finset.sum_congr rfl fun j _ => by rw [nearW_apply tri msk z ρ zz r b htri hz hm hb hr j, hv j]

end Near

/-! ## A far tile -/

section Far

variable (tri : FVec Ideal S128x128 .bf16) (c : FVec Ideal S128x1 .f32) (z : FVec Ideal S128x128 .f32)
  (v : FVec Ideal S128x64 .bf16) (ρ : Fin 128) (d : Fin 64) (zz : ℕ → ℝ) (vv : ℕ → EReal) (r b : ℕ)

theorem farLog_apply (hz : ∀ j, z (ix2 ρ j) = (zz (b + j.val) : EReal)) (hr : b + 128 ≤ r) (j : Fin 128) :
    logOne z (ix2 ρ j) = ((lg zz r (b + j.val) : ℝ) : EReal) := by
  rw [logOne_apply z _ _ (hz j), lg, if_pos (by omega)]

theorem farCarry_apply (hz : ∀ j, z (ix2 ρ j) = (zz (b + j.val) : EReal)) (hb : b + 128 ≤ 16384) (hr : b + 128 ≤ r)
    (hc : c (ix2 ρ 0) = (carry zz r (b + 128) : EReal)) :
    farCarry c z (ix2 ρ 0) = (carry zz r b : EReal) := by
  pointwise [farCarry]
  rw [hc, ← carry_tile zz r b 128 hb]
  exact congrArg _ (Finset.sum_congr rfl fun j _ => farLog_apply z ρ zz r b hz hr j)

theorem farW_apply (htri : ∀ a j, tri (ix2 a j) = if j.val < a.val then 1 else 0)
    (hz : ∀ j, z (ix2 ρ j) = (zz (b + j.val) : EReal)) (hb : b + 128 ≤ 16384) (hr : b + 128 ≤ r)
    (hc : c (ix2 ρ 0) = (carry zz r (b + 128) : EReal)) (j : Fin 128) :
    farW tri c z (ix2 ρ j) = (wt zz r (b + j.val) : EReal) := by
  pointwise [farW]
  rw [Finset.sum_congr rfl fun a _ => congrArg₂ (· * ·) (farLog_apply z ρ zz r b hz hr a) (htri a j), hc,
    after_tile zz r b 128 hb j, softp_apply z _ _ (hz j), hz j, ← EReal.coe_sub, ← EReal.coe_add, Ideal.exp_coe, wt,
    if_pos (by omega)]

theorem farOut_apply (htri : ∀ a j, tri (ix2 a j) = if j.val < a.val then 1 else 0)
    (hz : ∀ j, z (ix2 ρ j) = (zz (b + j.val) : EReal)) (hb : b + 128 ≤ 16384) (hr : b + 128 ≤ r)
    (hc : c (ix2 ρ 0) = (carry zz r (b + 128) : EReal)) (hv : ∀ j, v (ix2 j d) = vv (b + j.val)) :
    att zz vv r (b + 128) + farOut tri c z v (ix2 ρ d) = att zz vv r b := by
  pointwise [farOut]
  rw [← att_tile zz vv r b 128 hb]
  exact congrArg _ (Finset.sum_congr rfl fun j _ => by rw [farW_apply tri c z ρ zz r b htri hz hb hr hc j, hv j])

end Far

end Cert.KernelIdeal.Sb

end
-- ==== Proof.Value.Heads.lean ====
/- One grid point of the stick-breaking attention over the extended reals: the loop runs through every tile before the
   near one, and each head leaves in each of its rows the weighted values of all the keys before that row's query. -/
module

public import proofs.«01_k».proof.Proof.Value.Tiles

@[expose] public section

noncomputable section

namespace Cert.KernelIdeal.Sb

open Cert.KernelIdeal Cert.KernelIdeal.Gen Idealize.ShloMosaic Idealize.SL.Sem Cert.Stick

/-! ## The loop's test -/

/-- A carry's largest entry is above minus infinity as soon as one entry is. -/
theorem bot_lt_top1 (c : FVec Ideal S128x1 .f32) (h : (⊥ : EReal) < c (ix2 0 0)) : (⊥ : EReal) < top1 c := by
  pointwise [top1]
  exact (Finset.lt_fold_max (c := (⊥ : EReal))).2 (.inr ⟨(0, 0), Finset.mem_univ _, h⟩)

/-- The loop goes on while one carry is a real number. -/
theorem alive_worst (c : Fin 8 → FVec Ideal S128x1 .f32) (x : ℝ) (h : c 0 (ix2 0 0) = (x : EReal)) :
    alive (worst c) = 1#1 := by
  have h1 : (⊥ : EReal) < top1 (c 0) := bot_lt_top1 _ (by rw [h]; exact EReal.bot_lt_coe x)
  have h2 : (⊥ : EReal) < worst c := by
    unfold worst
    exact lt_max_of_lt_left (lt_max_of_lt_left (lt_max_of_lt_left (lt_max_of_lt_left (lt_max_of_lt_left
      (lt_max_of_lt_left (lt_max_of_lt_left h1))))))
  have h3 : (Named.named κ "log_zero" 0xC2DC0000#32 : Ideal .f32) = (⊥ : EReal) := by
    simp [Named.named, κ]
  pointwise [alive]
  rw [h3, decide_eq_true h2]; rfl

/-! ## The mask -/

theorem mask_word : ∀ b : Fin 128, Scalar.subi (Scalar.muli (BitVec.ofNat 32 b.val) 128#32)
    (Scalar.maxsi (Scalar.subi (Scalar.muli (BitVec.ofNat 32 b.val) 128#32) 256#32) 0#32)
      = BitVec.ofNat 32 (128 * b.val - 128 * (b.val - 2)) := by decide +kernel

/-- Small numbers subtracted as words and compared with a third. -/
theorem slt_words (j r u : ℕ) (hj : j < 1024) (hr : r < 1024) (hu : u < 1024) :
    IntOp.cmpi .slt (IntOp.subi (BitVec.ofNat 32 j) (BitVec.ofNat 32 r)) (BitVec.ofNat 32 u)
      = if j < u + r then 1#1 else 0#1 := by
  have h1 : (BitVec.ofNat 32 j - BitVec.ofNat 32 r).toInt = (j : ℤ) - r := by
    rw [BitVec.toInt_sub, BitVec.toInt_ofNat', BitVec.toInt_ofNat']
    simp only [Int.bmod]; omega
  have h2 : (BitVec.ofNat 32 u).toInt = (u : ℤ) := by
    rw [BitVec.toInt_ofNat']; simp only [Int.bmod]; omega
  show BitVec.ofBool ((BitVec.ofNat 32 j - BitVec.ofNat 32 r).slt (BitVec.ofNat 32 u)) = _
  rw [BitVec.slt, h1, h2]
  by_cases h : j < u + r
  · rw [if_pos h, decide_eq_true (by omega)]; rfl
  · rw [if_neg h, decide_eq_false (by omega)]; rfl

/-- The near tile's mask: the keys before the query. -/
theorem mask_apply (i : grid0.Coords) (ρ : Fin 128) (j : Fin 384) :
    k0_pay12 i (ix2 ρ j) = if 128 * left i + j.val < 128 * (i 1).val + ρ.val then 1#1 else 0#1 := by
  have hi : (i 1).val < 128 := (i 1).isLt
  pointwise [k0_pay12]
  rw [mask_word (i 1), slt_words _ _ _ (by omega) (by omega) (by omega)]
  unfold left
  refine if_congr ?_ rfl rfl
  omega

/-- The triangle both tiles use. -/
theorem triNear_apply (x : Vec Ideal S384x384 .bf16) (a j : Fin 384) : k0_pay10 x (ix2 a j) = x (ix2 a j) := by
  pointwise [k0_pay10]

theorem triFar_apply (x : Vec Ideal S384x384 .bf16) (a j : Fin 128) :
    k0_pay11 x (ix2 a j) = x (ix2 ⟨a.val, by omega⟩ ⟨j.val, by omega⟩) := by
  pointwise [k0_pay11, k0_pay10]

/-! ## The loop -/

section Point

variable (x0 : Vec Ideal S128x512 .bf16) (x1 : Vec Ideal S512x16384 .bf16) (x2 : Vec Ideal S16384x512 .bf16)
  (Z : Fin 8 → Fin 128 → ℕ → ℝ) (R : Fin 128 → ℕ)

/-- Head `h`'s column `d` of the values, by key. -/
def vals (h : Fin 8) (d : Fin 64) : ℕ → EReal := fun t =>
  x2 (ix2 ⟨t % 16384, Nat.mod_lt _ (by decide)⟩ ⟨64 * h.val + d.val, by omega⟩)

/-- The logits of the point's queries are the reals `Z`. -/
def Logits : Prop := ∀ (h : Fin 8) (ρ : Fin 128) (s : Fin 16384),
  ∑ e : Fin 64, x0 (ix2 ρ ⟨64 * h.val + e.val, by omega⟩) * x1 (ix2 ⟨64 * h.val + e.val, by omega⟩ s)
    = (Z h ρ s.val : EReal)

variable {x0 x1 x2 Z R}

theorem far_logits (hZ : Logits x0 x1 Z) (n : ℕ) (hn : 128 * n + 128 ≤ 16384) (h : Fin 8) (ρ j : Fin 128) :
    farZ (headQ x0 h) (headKf (tileK x1 n) h) (ix2 ρ j) = (Z h ρ (128 * n + j.val) : EReal) := by
  rw [farZ_apply, ← show (128 * n + j.val) % 16384 = 128 * n + j.val by omega]
  refine Eq.trans ?_ (hZ h ρ ⟨(128 * n + j.val) % 16384, Nat.mod_lt _ (by decide)⟩)
  refine Finset.sum_congr rfl fun e _ => ?_
  rw [headQ_apply, headKf_apply]; rfl

theorem near_logits (hZ : Logits x0 x1 Z) (n : ℕ) (hn : 128 * n + 384 ≤ 16384) (h : Fin 8) (ρ : Fin 128) (j : Fin 384) :
    nearZ (headQ x0 h) (headK (nearK x1 n) h) (ix2 ρ j) = (Z h ρ (128 * n + j.val) : EReal) := by
  rw [nearZ_apply, ← show (128 * n + j.val) % 16384 = 128 * n + j.val by omega]
  refine Eq.trans ?_ (hZ h ρ ⟨(128 * n + j.val) % 16384, Nat.mod_lt _ (by decide)⟩)
  refine Finset.sum_congr rfl fun e _ => ?_
  rw [headQ_apply, headK_apply]; rfl

/-- From the sums over the keys past tile `n` on, the loop reaches the sums over all keys. -/
theorem loop_apply (tri : FVec Ideal S128x128 .bf16) (htri : ∀ a j, tri (ix2 a j) = if j.val < a.val then 1 else 0)
    (hZ : Logits x0 x1 Z) : ∀ (n : ℕ) (_ : 128 * n ≤ 16384) (_ : ∀ ρ, 128 * n ≤ R ρ)
    (o : Fin 8 → FVec Ideal S128x64 .f32) (c : Fin 8 → FVec Ideal S128x1 .f32)
    (_ : ∀ h ρ, c h (ix2 ρ 0) = (carry (Z h ρ) (R ρ) (128 * n) : EReal))
    (_ : ∀ h ρ d, o h (ix2 ρ d) = att (Z h ρ) (vals x2 h d) (R ρ) (128 * n)) (h : Fin 8) (ρ : Fin 128) (d : Fin 64),
    loop x1 x2 (headQ x0) tri n (worst c) o c h (ix2 ρ d) = att (Z h ρ) (vals x2 h d) (R ρ) 0
  | 0, _, _, o, c, _, ho, h, ρ, d => by rw [loop]; exact ho h ρ d
  | n + 1, hn, hR, o, c, hc, ho, h, ρ, d => by
    rw [loop, if_pos (alive_worst c _ (hc 0 0))]
    refine loop_apply tri htri hZ n (by omega) (fun ρ => le_trans (by omega) (hR ρ)) _ _ (fun h ρ => ?_) (fun h ρ d => ?_) h ρ d
    · exact farCarry_apply _ _ ρ (Z h ρ) (R ρ) (128 * n) (far_logits hZ n (by omega) h ρ) (by omega)
        (by have := hR ρ; omega) (hc h ρ)
    · have hstep := farOut_apply tri (c h) (farZ (headQ x0 h) (headKf (tileK x1 n) h)) (headQ (tileV x2 n) h) ρ d (Z h ρ)
        (vals x2 h d) (R ρ) (128 * n) htri (far_logits hZ n (by omega) h ρ) (by omega) (by have := hR ρ; omega) (hc h ρ)
        (fun j => by rw [headQ_apply]; rfl)
      refine Eq.trans ?_ hstep
      show o h (ix2 ρ d) + _ = _
      rw [ho h ρ d]; rfl

/-- A grid point's heads. -/
theorem headsOut_apply (i : grid0.Coords) (x3 : Vec Ideal S384x384 .bf16)
    (htri : ∀ a j : Fin 384, x3 (ix2 a j) = if j.val < a.val then 1 else 0) (hZ : Logits x0 x1 Z)
    (h : Fin 8) (ρ : Fin 128) (d : Fin 64) :
    headsOut i x0 x1 x2 x3 h (ix2 ρ d) = att (Z h ρ) (vals x2 h d) (128 * (i 1).val + ρ.val) 0 := by
  have hi : (i 1).val < 128 := (i 1).isLt
  have hl : left i = (i 1).val - 2 := rfl
  refine loop_apply (R := fun ρ => 128 * (i 1).val + ρ.val) (k0_pay11 x3) (fun a j => ?_) hZ (left i) (by omega)
    (fun ρ => by show _ ≤ 128 * (i 1).val + ρ.val; omega) _ _ (fun h ρ => ?_) (fun h ρ d => ?_) h ρ d
  · rw [triFar_apply, htri]
  · exact nearCarry_apply _ _ ρ (Z h ρ) _ (128 * left i) (near_logits hZ (left i) (by omega) h ρ) (mask_apply i ρ)
      (by omega) (by omega)
  · exact nearOut_apply _ _ _ _ ρ d (Z h ρ) (vals x2 h d) _ (128 * left i) (fun a j => by rw [triNear_apply, htri])
      (near_logits hZ (left i) (by omega) h ρ) (mask_apply i ρ) (by omega) (by omega)
      (fun j => by rw [headV_apply]; rfl)

end Point

end Cert.KernelIdeal.Sb

end
-- ==== Proof.Value.Array.lean ====
/- The array the stick-breaking attention's kernel leaves: entry (r, 64 H + d) is query `r`'s weighted sum of column `d`
   of head `H`'s values over all keys. -/
module

public import proofs.«01_k».proof.Proof.Value.Heads
public import proofs.«01_k».proof.Proof.KernelIdeal.Frame
public import Idealize.ShloMosaic.Lib.Pipeline.ValueKit
public import Idealize.ShloMosaic.Lib.StableHlo.RunClose

@[expose] public section

set_option maxRecDepth 16384

noncomputable section

namespace Cert.KernelIdeal.Sb

open Cert.KernelIdeal Cert.KernelIdeal.Gen Idealize.ShloMosaic Idealize.ShloMosaic.TcCoe Idealize.SL.Sem Cert.Stick

variable (m : (ℓ : Loc nD τ sig) → Buf (Elt Ideal) ℓ)

/-! ## The triangle the host builds -/

/-- Small numbers compared as words. -/
theorem sgt_words (a j : ℕ) (ha : a < 1024) (hj : j < 1024) :
    IntOp.cmpi .sgt (BitVec.ofNat 32 a) (BitVec.ofNat 32 j) = if j < a then 1#1 else 0#1 := by
  have h1 : (BitVec.ofNat 32 a).toInt = (a : ℤ) := by rw [BitVec.toInt_ofNat']; simp only [Int.bmod]; omega
  have h2 : (BitVec.ofNat 32 j).toInt = (j : ℤ) := by rw [BitVec.toInt_ofNat']; simp only [Int.bmod]; omega
  show BitVec.ofBool ((BitVec.ofNat 32 j).slt (BitVec.ofNat 32 a)) = _
  rw [BitVec.slt, h1, h2]
  by_cases h : j < a
  · rw [if_pos h, decide_eq_true (by omega)]; rfl
  · rw [if_neg h, decide_eq_false (by omega)]; rfl

theorem V_tri (c : Dev nD) (a j : Fin 384) : V m c main_v6 (ix2 a j) = (if j.val < a.val then 1 else 0 : EReal) := by
  unfold V
  simp only [hostOps0, List.flatten_cons, List.flatten_nil, List.append_nil, List.cons_append,
      List.nil_append]
  after_results_simp
  pointwise
  refine Eq.trans (congrArg (fun w : BitVec 1 => ((w.toNat : ℝ) : EReal)) (sgt_words a.val j.val (by omega) (by omega))) ?_
  by_cases h : j.val < a.val
  · rw [if_pos h, if_pos h]; simp
  · rw [if_neg h, if_neg h]; simp

/-! ## The blocks at coordinates -/

theorem index0 : ∀ t : Fin (cfg0 (F := Ideal)).N, win0_0.index t = ![(grid0.coords t 1).val, (grid0.coords t 0).val] :=
  (by decide +kernel : ∀ t : Fin grid0.N, _)
theorem index1 : ∀ t : Fin (cfg0 (F := Ideal)).N, win0_1.index t = ![(grid0.coords t 0).val, 0] :=
  (by decide +kernel : ∀ t : Fin grid0.N, _)
theorem index2 : ∀ t : Fin (cfg0 (F := Ideal)).N, win0_2.index t = ![0, (grid0.coords t 0).val] :=
  (by decide +kernel : ∀ t : Fin grid0.N, _)
theorem index3 : ∀ t : Fin (cfg0 (F := Ideal)).N, win0_3.index t = ![0, 0] :=
  (by decide +kernel : ∀ t : Fin grid0.N, _)
theorem index4 : ∀ t : Fin (cfg0 (F := Ideal)).N, win0_4.index t = ![(grid0.coords t 1).val, (grid0.coords t 0).val] :=
  (by decide +kernel : ∀ t : Fin grid0.N, _)

/-- Row `ρ` of row tile `i`, and column `x` of column group `g`. -/
def rowOf (i : Fin 128) (ρ : Fin 128) : Fin 16384 := ⟨128 * i.val + ρ.val, by omega⟩
def colOf (g : Fin 2) (x : Fin 512) : Fin 1024 := ⟨512 * g.val + x.val, by omega⟩
/-- A point's column group and row tile. -/
def groupOf (t : Fin (cfg0 (F := Ideal)).N) : Fin 2 := grid0.coords t 0
def tileOf (t : Fin (cfg0 (F := Ideal)).N) : Fin 128 := grid0.coords t 1

theorem blockQ (c : Dev nD) (t : Fin (cfg0 (F := Ideal)).N) (ρ : Fin 128) (x : Fin 512) :
    iblk m c 0 t (ix2 ρ x) = m ((c : Thread nD τ).loc main_arg0) (ix2 (rowOf (tileOf t) ρ) (colOf (groupOf t) x)) := by
  rw [← V_main_arg0 m c]
  refine congrArg (V m c main_arg0) (funext fun a => Fin.ext ?_)
  match a with
  | ⟨0, _⟩ => show win0_0.index t (0 : Fin 2) * 128 + 1 * ρ.val = 128 * (grid0.coords t 1).val + ρ.val
              rw [index0 t]; show (grid0.coords t 1).val * 128 + 1 * ρ.val = _; omega
  | ⟨1, _⟩ => show win0_0.index t (1 : Fin 2) * 512 + 1 * x.val = 512 * (grid0.coords t 0).val + x.val
              rw [index0 t]; show (grid0.coords t 0).val * 512 + 1 * x.val = _; omega

theorem blockK (c : Dev nD) (t : Fin (cfg0 (F := Ideal)).N) (x : Fin 512) (s : Fin 16384) :
    iblk m c 1 t (ix2 x s) = m ((c : Thread nD τ).loc main_arg1) (ix2 (colOf (groupOf t) x) s) := by
  rw [← V_main_arg1 m c]
  refine congrArg (V m c main_arg1) (funext fun a => Fin.ext ?_)
  match a with
  | ⟨0, _⟩ => show win0_1.index t (0 : Fin 2) * 512 + 1 * x.val = 512 * (grid0.coords t 0).val + x.val
              rw [index1 t]; show (grid0.coords t 0).val * 512 + 1 * x.val = _; omega
  | ⟨1, _⟩ => show win0_1.index t (1 : Fin 2) * 16384 + 1 * s.val = s.val
              rw [index1 t]; show 0 * 16384 + 1 * s.val = _; omega

theorem blockV (c : Dev nD) (t : Fin (cfg0 (F := Ideal)).N) (s : Fin 16384) (x : Fin 512) :
    iblk m c 2 t (ix2 s x) = m ((c : Thread nD τ).loc main_arg2) (ix2 s (colOf (groupOf t) x)) := by
  rw [← V_main_arg2 m c]
  refine congrArg (V m c main_arg2) (funext fun a => Fin.ext ?_)
  match a with
  | ⟨0, _⟩ => show win0_2.index t (0 : Fin 2) * 16384 + 1 * s.val = s.val
              rw [index2 t]; show 0 * 16384 + 1 * s.val = _; omega
  | ⟨1, _⟩ => show win0_2.index t (1 : Fin 2) * 512 + 1 * x.val = 512 * (grid0.coords t 0).val + x.val
              rw [index2 t]; show (grid0.coords t 0).val * 512 + 1 * x.val = _; omega

theorem blockTri (c : Dev nD) (t : Fin (cfg0 (F := Ideal)).N) (a j : Fin 384) :
    iblk m c 3 t (ix2 a j) = (if j.val < a.val then 1 else 0 : EReal) := by
  rw [← V_tri m c a j]
  refine congrArg (V m c main_v6) (funext fun b => Fin.ext ?_)
  match b with
  | ⟨0, _⟩ => show win0_3.index t (0 : Fin 2) * 384 + 1 * a.val = a.val
              rw [index3 t]; show 0 * 384 + 1 * a.val = _; omega
  | ⟨1, _⟩ => show win0_3.index t (1 : Fin 2) * 384 + 1 * j.val = j.val
              rw [index3 t]; show 0 * 384 + 1 * j.val = _; omega

/-- An entry of a result block, in the array. -/
theorem blockOut (t : Fin (cfg0 (F := Ideal)).N) (ρ : Fin 128) (x : Fin 512) :
    (win0_4.blk t).view.emb (ix2 ρ x) = (ix2 (rowOf (tileOf t) ρ) (colOf (groupOf t) x) : S16384x1024.Idx) := by
  refine funext fun a => Fin.ext ?_
  match a with
  | ⟨0, _⟩ => show win0_4.index t (0 : Fin 2) * 128 + 1 * ρ.val = 128 * (grid0.coords t 1).val + ρ.val
              rw [index4 t]; show (grid0.coords t 1).val * 128 + 1 * ρ.val = _; omega
  | ⟨1, _⟩ => show win0_4.index t (1 : Fin 2) * 512 + 1 * x.val = 512 * (grid0.coords t 0).val + x.val
              rw [index4 t]; show (grid0.coords t 0).val * 512 + 1 * x.val = _; omega

/-! ## The array -/

/-- The reals `Z` are the logits of the queries `q` against the keys `k`, head by head. -/
def LogitsOf (q : FVec Ideal S16384x1024 .bf16) (k : FVec Ideal S1024x16384 .bf16) (Z : Fin 16 → Fin 16384 → ℕ → ℝ) : Prop :=
  ∀ (H : Fin 16) (r s : Fin 16384), ∑ e : Fin 64,
    q (ix2 r ⟨64 * H.val + e.val, by omega⟩) * k (ix2 ⟨64 * H.val + e.val, by omega⟩ s) = (Z H r s.val : EReal)

/-- What the kernel's result array is: the weighted sums, for logits `Z` (head, query, key). -/
def result (Z : Fin 16 → Fin 16384 → ℕ → ℝ) (v : FVec Ideal S16384x1024 .bf16) (r : Fin 16384) (x : Fin 1024) : EReal :=
  att (Z ⟨x.val / 64, by omega⟩ r) (fun t => v (ix2 ⟨t % 16384, Nat.mod_lt _ (by decide)⟩ x)) r.val 0

/-- Head `h` of column group `g`. -/
def headOf (g : Fin 2) (h : Fin 8) : Fin 16 := ⟨8 * g.val + h.val, by omega⟩

/-- What a point writes back, entry by entry. -/
theorem outAt_apply (c : Dev nD) (Z : Fin 16 → Fin 16384 → ℕ → ℝ)
    (hZ : LogitsOf (m ((c : Thread nD τ).loc main_arg0)) (m ((c : Thread nD τ).loc main_arg1)) Z)
    (t : Fin (cfg0 (F := Ideal)).N) (ρ : Fin 128) (x : Fin 512) :
    outAt m c t (ix2 ρ x)
      = result Z (m ((c : Thread nD τ).loc main_arg2)) (rowOf (tileOf t) ρ) (colOf (groupOf t) x) := by
  have hL : Logits (iblk m c 0 t) (iblk m c 1 t) (fun h ρ => Z (headOf (groupOf t) h) (rowOf (tileOf t) ρ)) := by
    intro h ρ s
    refine Eq.trans ?_ (hZ (headOf (groupOf t) h) (rowOf (tileOf t) ρ) s)
    refine Finset.sum_congr rfl fun e _ => ?_
    have hc : colOf (groupOf t) ⟨64 * h.val + e.val, by omega⟩ = ⟨64 * (headOf (groupOf t) h).val + e.val, by omega⟩ :=
      Fin.ext (by show 512 * (groupOf t).val + (64 * h.val + e.val) = 64 * (8 * (groupOf t).val + h.val) + e.val; omega)
    rw [blockQ, blockK, hc]
  have hH : headOf (groupOf t) ⟨x.val / 64, by omega⟩ = ⟨(colOf (groupOf t) x).val / 64, by omega⟩ :=
    Fin.ext (by show 8 * (groupOf t).val + x.val / 64 = (512 * (groupOf t).val + x.val) / 64; omega)
  have hx : (⟨64 * (x.val / 64) + x.val % 64, by omega⟩ : Fin 512) = x := Fin.ext (Nat.div_add_mod x.val 64)
  refine (headsOut_apply (grid0.coords t) _ (blockTri m c t) hL ⟨x.val / 64, by omega⟩ ρ ⟨x.val % 64, Nat.mod_lt _ (by decide)⟩).trans ?_
  unfold result
  rw [hH]
  refine congrArg (fun v => att _ v (rowOf (tileOf t) ρ).val 0) (funext fun s => ?_)
  unfold vals
  rw [blockV, hx]

/-- The array after the run. -/
theorem array_eq (c : Dev nD) (Z : Fin 16 → Fin 16384 → ℕ → ℝ)
    (hZ : LogitsOf (m ((c : Thread nD τ).loc main_arg0)) (m ((c : Thread nD τ).loc main_arg1)) Z) :
    (dats m 0 c).arrAt 4 (cfg0 (F := Ideal)).N
      = fun i : S16384x1024.Idx => result Z (m ((c : Thread nD τ).loc main_arg2)) (i 0) (i 1) := by
  refine (dats m 0 c).arrAt_eq_of_covers 4 _ (by decide +kernel) fun t hf y => ?_
  blk_simp
  rw [after0_4]
  have hy : y = (ix2 (y 0) (y 1) : S128x512.Idx) := eq_ix2 (n0 := 128) (n1 := 512) y
  rw [hy]
  refine (outAt_apply m c Z hZ t (y 0) (y 1)).trans ?_
  refine Eq.symm ((congrArg (fun i : S16384x1024.Idx => result Z (m ((c : Thread nD τ).loc main_arg2)) (i 0) (i 1)) (blockOut t (y 0) (y 1))).trans ?_)
  rfl

end Cert.KernelIdeal.Sb

end
-- ==== Proof.Value.Reference.lean ====
/- The stick-breaking attention's reference over the extended reals: its logits, its logarithms of the shares, its sums of
   the later logarithms and its weights, each at an index, and the result. -/
module

public import proofs.«01_k».proof.Proof.Gen.ReferenceIdeal.Run
public import proofs.«01_k».proof.Proof.Value.Stick

@[expose] public section

noncomputable section

namespace Cert.ReferenceIdeal.Sb

open Cert.ReferenceIdeal Cert.ReferenceIdeal.Gen Cert.ReferenceIdeal.Value Idealize.ShloMosaic Idealize.ShloMosaic.TcCoe Idealize.SL.Sem Cert.Stick

/-! ## The reference's pieces -/

/-- The logits of every head, query and key. -/
def logits (q : FVec Ideal S16384x1024 .bf16) (k : FVec Ideal S1024x16384 .bf16) : FVec Ideal S16x16384x16384 .f32 :=
  Host.dotGeneral dot_S16384x16x64_S16384x16x64_S16x16384x16384_2_2_0_0_1_1 none
    (shapeCast _ (extf .f32 q bitsLt_bf16_f32) shapeCasts_S16384x1024_S16384x16x64)
    (shapeCast _ (transpose S16384x1024 [1, 0] (extf .f32 k bitsLt_bf16_f32) transposes_S1024x16384_S16384x1024_1_0)
      shapeCasts_S16384x1024_S16384x16x64)

/-- The zero the reference compares and adds with. -/
def zeros : FVec Ideal S16x16384x16384 .f32 := broadcastInDim S16x16384x16384 ![] bcast_S_S16x16384x16384 (constant S_ .f32 0x00000000#32)

/-- Minus the softplus of `y`: the logarithm of the sigmoid of minus `y`. -/
def negSoftplus (y : FVec Ideal S16x16384x16384 .f32) : FVec Ideal S16x16384x16384 .f32 :=
  Host.negf (select (cmpf .une (subf y zeros) (subf y zeros)) (addf y zeros)
    (addf (maximumf y zeros) (Host.log1p (Host.exp (Host.negf (Host.absf (subf y zeros)))))))

/-- The key comes before the query. -/
def causal : IVec S16x16384x16384 1 :=
  broadcastInDim S16x16384x16384 ![1, 2] bcast_S16384x16384_S16x16384x16384_1_2 (cmpi .slt
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- Kept before the query, zero from it on. -/
def before (x : FVec Ideal S16x16384x16384 .f32) : FVec Ideal S16x16384x16384 .f32 :=
  select causal x (broadcastInDim S16x16384x16384 ![] bcast_S_S16x16384x16384 (id (constant S_ .f32 0x00000000#32)))

/-- The sums from each key on. -/
def suffix (x : FVec Ideal S16x16384x16384 .f32) : FVec Ideal S16x16384x16384 .f32 :=
  Host.reduceWindowAdd ![1, 1, 16384] ![1, 1, 1] ![0, 0, 0] ![0, 0, 16383] x
    (broadcastInDim S_ ![] bcast_S_S_ (constant S_ .f32 0x00000000#32))
    reduceWindows_S16x16384x16384_S16x16384x16384_w1s1p0_0_w1s1p0_0_w16384s1p0_16383 h_S_

/-- What each key leaves, as a logarithm. -/
def logs (z : FVec Ideal S16x16384x16384 .f32) : FVec Ideal S16x16384x16384 .f32 :=
  before (negSoftplus (Host.negf (Host.negf z)))

/-- The weights. -/
def weights (z : FVec Ideal S16x16384x16384 .f32) : FVec Ideal S16x16384x16384 .f32 :=
  before (Host.exp (addf (negSoftplus (Host.negf z)) (subf (suffix (logs z)) (logs z))))

/-- The weighted values. -/
def weighted (a : FVec Ideal S16x16384x16384 .f32) (v : FVec Ideal S16384x1024 .bf16) : FVec Ideal S16384x1024 .bf16 :=
  truncf .bf16 (shapeCast _ (transpose S16384x16x64 [2, 0, 1]
    (Host.dotGeneral dot_S16384x16x64_S16x16384x16384_S16x64x16384_0_2_2_1_1_0 none
      (shapeCast _ (extf .f32 v bitsLt_bf16_f32) shapeCasts_S16384x1024_S16384x16x64) a)
    transposes_S16x64x16384_S16384x16x64_2_0_1) shapeCasts_S16384x16x64_S16384x1024) bitsLt_bf16_f32

/-- The composed term is these. -/
theorem res_eq (m : (ℓ : Loc nD τ sig) → Buf (Elt Ideal) ℓ) (c : Dev nD) :
    res_out0 m c = weighted (weights (logits (m ((c.tc : Thread nD τ).loc main_arg0)) (m ((c.tc : Thread nD τ).loc main_arg1))))
      (m ((c.tc : Thread nD τ).loc main_arg2)) := by
  unfold res_out0 res_main_v26; rfl

/-! ## At an index -/

theorem logits_apply (q : FVec Ideal S16384x1024 .bf16) (k : FVec Ideal S1024x16384 .bf16) (H : Fin 16) (r s : Fin 16384) :
    logits q k (ix3 H r s) = ∑ e : Fin 64, q (ix2 r ⟨64 * H.val + e.val, by omega⟩) * k (ix2 ⟨64 * H.val + e.val, by omega⟩ s) := by
  pointwise [logits]
  refine Finset.sum_congr rfl fun e _ => ?_
  congr 3 <;> exact Fin.ext (by show H.val * 64 + e.val = 64 * H.val + e.val; omega)

theorem negSoftplus_apply (y : FVec Ideal S16x16384x16384 .f32) (j : S16x16384x16384.Idx) (x : ℝ) (h : y j = (x : EReal)) :
    negSoftplus y j = ((-sp x : ℝ) : EReal) := by
  rw [EReal.coe_neg, ← softplus_coe x, ← h]
  pointwise [negSoftplus, zeros]
  rw [if_neg (fun hn => hn rfl)]
  rfl

/-- The logarithm of the sigmoid. -/
theorem negSoftplus_neg (y : FVec Ideal S16x16384x16384 .f32) (j : S16x16384x16384.Idx) (x : ℝ) (h : y j = (x : EReal)) :
    negSoftplus (Host.negf y) j = ((x - sp x : ℝ) : EReal) := by
  rw [negSoftplus_apply _ j (-x) (by rw [EReal.coe_neg, ← h]; pointwise), neg_sp_neg]

/-- The comparison of two positions, as words. -/
theorem slt_positions (s r : ℕ) (hs : s < 16384) (hr : r < 16384) :
    IntOp.cmpi .slt (BitVec.ofNat 32 s) (BitVec.ofNat 32 r) = if s < r then 1#1 else 0#1 := by
  have h1 : (BitVec.ofNat 32 s).toInt = (s : ℤ) := by
    rw [BitVec.toInt_ofNat']; simp only [Int.bmod]; omega
  have h2 : (BitVec.ofNat 32 r).toInt = (r : ℤ) := by
    rw [BitVec.toInt_ofNat']; simp only [Int.bmod]; omega
  show BitVec.ofBool ((BitVec.ofNat 32 s).slt (BitVec.ofNat 32 r)) = _
  rw [BitVec.slt, h1, h2]
  by_cases h : s < r
  · rw [if_pos h, decide_eq_true (by omega)]; rfl
  · rw [if_neg h, decide_eq_false (by omega)]; rfl

theorem causal_apply (H : Fin 16) (r s : Fin 16384) : causal (ix3 H r s) = if s.val < r.val then 1#1 else 0#1 := by
  pointwise [causal]
  exact slt_positions _ _ s.isLt r.isLt

theorem before_apply (x : FVec Ideal S16x16384x16384 .f32) (H : Fin 16) (r s : Fin 16384) :
    before x (ix3 H r s) = if s.val < r.val then x (ix3 H r s) else 0 := by
  pointwise [before]
  rw [causal_apply]
  have h0 : (id (constant S_ .f32 0x00000000#32) : FVec Ideal S_ .f32) ix0 = 0 := by
    rw [id]; pointwise
  rw [h0]
  by_cases h : s.val < r.val
  · rw [if_pos h, if_pos h]; rfl
  · rw [if_neg h, if_neg h]; rfl

theorem weighted_apply (a : FVec Ideal S16x16384x16384 .f32) (v : FVec Ideal S16384x1024 .bf16) (r : Fin 16384) (x : Fin 1024) :
    weighted a v (ix2 r x) = ∑ s : Fin 16384, a (ix3 ⟨x.val / 64, by omega⟩ r s) * v (ix2 s x) := by
  pointwise [weighted]
  exact Finset.sum_congr rfl fun s _ => mul_comm _ _

/-- A window sum is the sum over the window's positions: the element there where the position is inside, zero where not. -/
theorem windowSum {s t u : Shape} (window strides lo hi : Fin s.rank → ℕ) (x : FVec Ideal s .f32) (init : FVec Ideal u .f32)
    (h : s.ReduceWindows window strides lo hi t) (hu : 0 < u.numel) (j : t.Idx) (g : (⟨s.rank, window⟩ : Shape).Idx → EReal)
    (h0 : init (Shape.Idx.first hu) = 0)
    (hin : ∀ (i : (⟨s.rank, window⟩ : Shape).Idx) (p : ∀ a : Fin s.rank, lo a ≤ (j (a.cast h.1.symm)).val * strides a + (i a).val
        ∧ (j (a.cast h.1.symm)).val * strides a + (i a).val - lo a < s.size a), x (fun a => ⟨_, (p a).2⟩) = g i)
    (hout : ∀ i : (⟨s.rank, window⟩ : Shape).Idx, ¬ (∀ a : Fin s.rank, lo a ≤ (j (a.cast h.1.symm)).val * strides a + (i a).val
        ∧ (j (a.cast h.1.symm)).val * strides a + (i a).val - lo a < s.size a) → g i = 0) :
    Host.reduceWindowAdd window strides lo hi x init h hu j = ∑ i, g i := by
  rw [← foldl_positions ⟨s.rank, window⟩ g]
  show (List.finRange _).foldl _ (init (Shape.Idx.first hu)) = _
  rw [h0]
  refine congrArg (fun f => List.foldl f (0 : EReal) _) (funext fun r => funext fun n => ?_)
  refine congrArg (r + ·) ?_
  split
  · rename_i p; exact hin _ p
  · rename_i p; exact (hout _ p).symm

/-- The window from a key on: the keys from it to the last. -/
theorem suffix_apply (x : FVec Ideal S16x16384x16384 .f32) (H : Fin 16) (r s : Fin 16384) (f : ℕ → EReal)
    (hx : ∀ t : Fin 16384, x (ix3 H r t) = f t.val) : suffix x (ix3 H r s) = ∑ t ∈ Finset.Ico s.val 16384, f t := by
  rw [← sum_window_suffix s.val (by omega) f]
  have h1 := sum_idx3 (n0 := 1) (n1 := 1) (n2 := 16384) fun i => if s.val + (i 2).val < 16384 then f (s.val + (i 2).val) else 0
  rw [Fin.sum_univ_one, Fin.sum_univ_one] at h1
  refine Eq.trans ?_ h1
  refine windowSum _ _ _ _ x _ _ _ (ix3 H r s) _ ?_ (fun i p => ?_) (fun i p => ?_)
  · pointwise
  · have h2 : s.val + (i 2).val < 16384 := by
      have h3 : s.val * 1 + (i 2).val - 0 < 16384 := (p 2).2
      omega
    rw [if_pos h2]
    refine Eq.trans ?_ (hx ⟨s.val + (i 2).val, h2⟩)
    refine congrArg x (funext fun a => ?_)
    match a with
    | ⟨0, _⟩ => exact Fin.ext (by
        show H.val * 1 + (i 0).val - 0 = H.val
        have h3 : (i 0).val < 1 := (i 0).isLt
        omega)
    | ⟨1, _⟩ => exact Fin.ext (by
        show r.val * 1 + (i 1).val - 0 = r.val
        have h3 : (i 1).val < 1 := (i 1).isLt
        omega)
    | ⟨2, _⟩ => exact Fin.ext (by
        show s.val * 1 + (i 2).val - 0 = s.val + (i 2).val
        omega)
  · refine if_neg fun h2 => p fun a => ?_
    match a with
    | ⟨0, _⟩ =>
        show 0 ≤ H.val * 1 + (i 0).val ∧ H.val * 1 + (i 0).val - 0 < 16
        have h3 : (i 0).val < 1 := (i 0).isLt
        omega
    | ⟨1, _⟩ =>
        show 0 ≤ r.val * 1 + (i 1).val ∧ r.val * 1 + (i 1).val - 0 < 16384
        have h3 : (i 1).val < 1 := (i 1).isLt
        omega
    | ⟨2, _⟩ =>
        show 0 ≤ s.val * 1 + (i 2).val ∧ s.val * 1 + (i 2).val - 0 < 16384
        omega

/-! ## Where the logits are real -/

variable (z : FVec Ideal S16x16384x16384 .f32) (Z : Fin 16 → Fin 16384 → ℕ → ℝ)
  (hz : ∀ (H : Fin 16) (r s : Fin 16384), z (ix3 H r s) = (Z H r s.val : EReal))

include hz

theorem logs_apply (H : Fin 16) (r s : Fin 16384) : logs z (ix3 H r s) = (lg (Z H r) r.val s.val : EReal) := by
  rw [logs, before_apply, lg]
  by_cases h : s.val < r.val
  · rw [if_pos h, if_pos h]
    refine negSoftplus_apply _ _ _ ?_
    rw [← hz H r s]
    pointwise
    exact neg_neg _
  · rw [if_neg h, if_neg h, EReal.coe_zero]

theorem weights_apply (H : Fin 16) (r s : Fin 16384) : weights z (ix3 H r s) = (wt (Z H r) r.val s.val : EReal) := by
  rw [weights, before_apply, wt]
  by_cases h : s.val < r.val
  · rw [if_pos h, if_pos h]
    have h1 : suffix (logs z) (ix3 H r s) = (carry (Z H r) r.val s.val : EReal) := by
      rw [suffix_apply (logs z) H r s (fun t => (lg (Z H r) r.val t : EReal)) (logs_apply z Z hz H r), carry, coe_sum]
    have h2 : Host.exp (addf (negSoftplus (Host.negf z)) (subf (suffix (logs z)) (logs z))) (ix3 H r s)
        = Ideal.exp (negSoftplus (Host.negf z) (ix3 H r s) + (suffix (logs z) (ix3 H r s) - logs z (ix3 H r s))) := by
      pointwise
    rw [h2, negSoftplus_neg z _ _ (hz H r s), h1, logs_apply z Z hz H r s, carry_sub _ _ _ s.isLt, ← EReal.coe_add, Ideal.exp_coe]
  · rw [if_neg h, if_neg h, EReal.coe_zero]

/-- The reference's result. -/
theorem weighted_weights_apply (v : FVec Ideal S16384x1024 .bf16) (r : Fin 16384) (x : Fin 1024) :
    weighted (weights z) v (ix2 r x)
      = att (Z ⟨x.val / 64, by omega⟩ r) (fun t => v (ix2 ⟨t % 16384, Nat.mod_lt _ (by decide)⟩ x)) r.val 0 := by
  have h1 := sum_tile 0 16384 fun t => (wt (Z ⟨x.val / 64, by omega⟩ r) r.val t : EReal)
    * v (ix2 ⟨t % 16384, Nat.mod_lt _ (by decide)⟩ x)
  rw [Nat.zero_add] at h1
  rw [weighted_apply, att, ← h1]
  refine Finset.sum_congr rfl fun s _ => ?_
  rw [weights_apply z Z hz, Nat.zero_add]
  refine congrArg (_ * ·) (congrArg (fun t => v (ix2 t x)) (Fin.ext ?_))
  exact (Nat.mod_eq_of_lt s.isLt).symm

end Cert.ReferenceIdeal.Sb

end
-- ==== Proof.Value.Equation.lean ====
/- The equation: from finite queries and keys the logits are real, and then the kernel's array is the reference's result. -/
module

public import proofs.«01_k».proof.Defs
public import proofs.«01_k».proof.Proof.Value.Array
public import proofs.«01_k».proof.Proof.Value.Reference

@[expose] public section

noncomputable section

namespace Cert.Sb

open Idealize.ShloMosaic Idealize.ShloMosaic.TcCoe Idealize.SL.Sem Cert.Stick

/-! ## Finite arguments -/

/-- A number whose magnitude is less than infinity is real. -/
theorem real_of_abs (x : EReal) (h : max x (-x) < ⊤) : x ≠ ⊤ ∧ x ≠ ⊥ := by
  rw [max_lt_iff] at h
  refine ⟨h.1.ne, fun hb => ?_⟩
  rw [hb] at h
  exact absurd h.2 (by simp)

/-- The comparison with infinity, at an element. -/
theorem real_of_lt_word (x : EReal)
    (h : FloatOps.cmpf (F := Ideal) (φ := .f32) .olt (FloatOps.absf (F := Ideal) (φ := .f32) x) (FloatOps.ofBits (F := Ideal) .f32 0x7F800000#32) = 1#1) :
    x ≠ ⊤ ∧ x ≠ ⊥ := by
  have h1 : (FloatOps.ofBits (F := Ideal) .f32 0x7F800000#32 : EReal) = ⊤ := by
    rw [Ideal.ofBits_def]; simp [Ideal.ofBits, Ideal.ieee]
  refine real_of_abs x ?_
  rw [h1] at h
  by_contra hn
  have h2 : FloatOps.cmpf (F := Ideal) (φ := .f32) .olt (FloatOps.absf (F := Ideal) (φ := .f32) x) (⊤ : EReal)
      = BitVec.ofBool (decide (max x (-x) < ⊤)) := rfl
  rw [h2, decide_eq_false hn] at h
  exact absurd h (by decide)

variable [Cert.Pre_logits_finite.Facts]

/-- The precondition gives real queries and keys. -/
theorem real_of_pre (q : FVec Ideal Cert.KernelIdeal.S16384x1024 .bf16) (k : FVec Ideal Cert.KernelIdeal.S1024x16384 .bf16)
    (v : FVec Ideal Cert.KernelIdeal.S16384x1024 .bf16)
    (h : (Cert.Pre_logits_finite.fn (F := Ideal) q k v).1 = (fun _ => 1#1) ∧ (Cert.Pre_logits_finite.fn (F := Ideal) q k v).2 = fun _ => 1#1) :
    (∀ r e, q (ix2 r e) ≠ ⊤ ∧ q (ix2 r e) ≠ ⊥) ∧ ∀ e s, k (ix2 e s) ≠ ⊤ ∧ k (ix2 e s) ≠ ⊥ := by
  refine ⟨fun r e => real_of_lt_word _ ?_, fun e s => real_of_lt_word _ ?_⟩
  · have h1 := congrFun h.1 (ix2 r e)
    unfold Cert.Pre_logits_finite.fn at h1
    pointwise at h1
    exact h1
  · have h1 := congrFun h.2 (ix2 e s)
    unfold Cert.Pre_logits_finite.fn at h1
    pointwise at h1
    exact h1

/-! ## The equation -/

/-- The logits as reals. -/
def realLogits (q : FVec Ideal Cert.KernelIdeal.S16384x1024 .bf16) (k : FVec Ideal Cert.KernelIdeal.S1024x16384 .bf16)
    (H : Fin 16) (r : Fin 16384) (t : ℕ) : ℝ :=
  ∑ e : Fin 64, (q (ix2 r ⟨64 * H.val + e.val, by omega⟩)).toReal
    * (k (ix2 ⟨64 * H.val + e.val, by omega⟩ ⟨t % 16384, Nat.mod_lt _ (by decide)⟩)).toReal

omit [Cert.Pre_logits_finite.Facts] in
/-- Real queries and keys have real logits. -/
theorem logitsOf_real (q : FVec Ideal Cert.KernelIdeal.S16384x1024 .bf16) (k : FVec Ideal Cert.KernelIdeal.S1024x16384 .bf16)
    (hq : ∀ r e, q (ix2 r e) ≠ ⊤ ∧ q (ix2 r e) ≠ ⊥) (hk : ∀ e s, k (ix2 e s) ≠ ⊤ ∧ k (ix2 e s) ≠ ⊥) :
    Cert.KernelIdeal.Sb.LogitsOf q k (realLogits q k) := fun H r s => by
  have h1 : (⟨s.val % 16384, Nat.mod_lt _ (by decide)⟩ : Fin 16384) = s := Fin.ext (Nat.mod_eq_of_lt s.isLt)
  rw [realLogits, h1]
  exact sum_mul_real _ _ (fun e => hq r _) fun e => hk _ s

/-- The kernel's array is the reference's result of the same arguments. -/
theorem array_eq_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_logits_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c
      = (Cert.KernelIdeal.Sb.dats m 0 c).arrAt 4 (Cert.KernelIdeal.cfg0 (F := Ideal)).N := by
  obtain ⟨hq, hk⟩ := real_of_pre _ _ _ (hpre c)
  have hZ := logitsOf_real _ _ hq hk
  rw [Cert.KernelIdeal.Sb.array_eq m c _ hZ, Cert.ReferenceIdeal.Sb.res_eq m' c, h0, h1, h2]
  funext i
  have hi : i = ix2 (i 0) (i 1) := (ix2_eta i).symm
  refine (congrArg _ hi).trans ?_
  exact Cert.ReferenceIdeal.Sb.weighted_weights_apply _ _
    (fun H r s => (Cert.ReferenceIdeal.Sb.logits_apply _ _ H r s).trans (hZ H r s)) _ (i 0) (i 1)

end Cert.Sb

end
-- ==== Proof.Mlp.Row.lean ====
/- One row of the feed-forward block: the row over its root mean square times a gain, and the two matmuls around the
   squared positive part, whose sum over the 4096 hidden units splits into eight chunks of 512. -/
module

public import Idealize.ShloMosaic.Lib.Pointwise

@[expose] public section

noncomputable section

namespace Cert.Mlp

open Idealize.ShloMosaic

/-- A row over its root mean square, times a gain: the kernels' and the references' constants are the same two words. -/
def rms (h g : Fin 1024 → EReal) (x : Fin 1024) : EReal :=
  h x * Ideal.rsqrt (Ideal.div (∑ e, h e * h e) (Ideal.ofBits FTy.f32 1149239296#32) + Ideal.ofBits FTy.f32 925353388#32) * g x

/-- The row `h` of the residual stream after the row `o` of the attention's output is projected onto it. -/
def stream (h o : Fin 1024 → EReal) (wo : Fin 1024 → Fin 1024 → EReal) (x : Fin 1024) : EReal :=
  h x + ∑ e, o e * wo e x

/-- What hidden unit `j` adds to output `x`. -/
def unit (n : Fin 1024 → EReal) (w1 : Fin 1024 → Fin 4096 → EReal) (w2 : Fin 4096 → Fin 1024 → EReal) (x : Fin 1024) (j : Fin 4096) : EReal :=
  max (∑ e, n e * w1 e j) 0 * max (∑ e, n e * w1 e j) 0 * w2 j x

/-- The feed-forward block on the row `n`. -/
def ff (n : Fin 1024 → EReal) (w1 : Fin 1024 → Fin 4096 → EReal) (w2 : Fin 4096 → Fin 1024 → EReal) (x : Fin 1024) : EReal :=
  ∑ j, unit n w1 w2 x j

/-- Unit `j` of chunk `b`. -/
def unitOf (b : Fin 8) (j : Fin 512) : Fin 4096 := ⟨512 * b.val + j.val, by omega⟩

/-- What chunk `b` of the hidden units adds. -/
def chunk (n : Fin 1024 → EReal) (w1 : Fin 1024 → Fin 4096 → EReal) (w2 : Fin 4096 → Fin 1024 → EReal) (x : Fin 1024) (b : Fin 8) : EReal :=
  ∑ j, unit n w1 w2 x (unitOf b j)

/-- The eight chunks are all the units. -/
theorem sum_unitOf (f : Fin 4096 → EReal) : ∑ j, f j = ∑ b : Fin 8, ∑ j : Fin 512, f (unitOf b j) := by
  rw [← Fintype.sum_prod_type' (f := fun b j => f (unitOf b j))]
  refine (Fintype.sum_equiv (finProdFinEquiv (m := 8) (n := 512)) _ f fun p => congrArg f (Fin.ext ?_)).symm
  show 512 * p.1.val + p.2.val = p.2.val + 512 * p.1.val
  omega

/-- Eight chunks added one after the other onto `a` add the block's output. -/
theorem chunks (n : Fin 1024 → EReal) (w1 : Fin 1024 → Fin 4096 → EReal) (w2 : Fin 4096 → Fin 1024 → EReal) (x : Fin 1024) (a : EReal) :
    a + chunk n w1 w2 x 0 + chunk n w1 w2 x 1 + chunk n w1 w2 x 2 + chunk n w1 w2 x 3 + chunk n w1 w2 x 4 + chunk n w1 w2 x 5
      + chunk n w1 w2 x 6 + chunk n w1 w2 x 7 = a + ff n w1 w2 x := by
  have hs : ff n w1 w2 x = ∑ b : Fin 8, chunk n w1 w2 x b := sum_unitOf _
  rw [hs, Fin.sum_univ_eight]
  simp only [add_assoc]

/-- One row of the layer after its attention: the stream with the feed-forward block on its normed row added. -/
def row (h o : Fin 1024 → EReal) (wo : Fin 1024 → Fin 1024 → EReal) (g : Fin 1024 → EReal) (w1 : Fin 1024 → Fin 4096 → EReal)
    (w2 : Fin 4096 → Fin 1024 → EReal) (x : Fin 1024) : EReal :=
  stream h o wo x + ff (rms (stream h o wo) g) w1 w2 x

end Cert.Mlp

end
-- ==== Proof.Mlp.Mid.lean ====
/- The array the first attention's output projection and feed-forward block leave: each row is `Mlp.row` of the arguments' rows. -/
module

public import proofs.«01_k».proof.Proof.Gen.MidIdeal.Value
public import proofs.«01_k».proof.Proof.Mlp.Row
public import Idealize.ShloMosaic.Lib.Pipeline.ValueKit
public import Idealize.ShloMosaic.Lib.StableHlo.RunClose

@[expose] public section

set_option maxRecDepth 16384

noncomputable section

namespace Cert.MidIdeal.Mlp

open Cert.MidIdeal Cert.MidIdeal.Gen Idealize.ShloMosaic Idealize.ShloMosaic.TcCoe Idealize.SL.Sem Idealize.ShloMosaic.Tactic
open Idealize.ShloMosaic.Pipeline (Dat)
open Cert.Mlp (unitOf)

variable (m : (ℓ : Loc nD τ sig) → Buf (Elt Ideal) ℓ)

/-! ## What the body computes on its blocks -/

/-- The rows of a matrix. -/
abbrev rowsOf {n k : ℕ} (A : (⟨2, ![n, k]⟩ : Shape).Idx → EReal) (r : Fin n) (x : Fin k) : EReal := A (ix2 r x)

/-- The columns of chunk `b` of the first matrix. -/
def Cols (W : FVec Ideal S1024x4096 .bf16) (b : Fin 8) (a : FVec Ideal S1024x512 .bf16) : Prop :=
  ∀ (e : Fin 1024) (j : Fin 512), a (ix2 e j) = W (ix2 e (unitOf b j))
/-- The rows of chunk `b` of the second matrix. -/
def Rows (W : FVec Ideal S4096x1024 .bf16) (b : Fin 8) (a : FVec Ideal S512x1024 .bf16) : Prop :=
  ∀ (j : Fin 512) (x : Fin 1024), a (ix2 j x) = W (ix2 (unitOf b j) x)

theorem cols (W : FVec Ideal S1024x4096 .bf16) (b : Fin 8) (o : ℕ) (h) (ho : o = 512 * b.val) :
    Cols W b (View.ld (Val := Elt Ideal) (e' := .bf16) W (Rect.unit (s := S1024x4096) ![0, o] ![1024, 512] h)) := by
  intro e j
  refine congrArg W (funext fun a => Fin.ext ?_)
  match a with
  | ⟨0, _⟩ => show 0 + 1 * e.val = e.val; omega
  | ⟨1, _⟩ => show o + 1 * j.val = 512 * b.val + j.val; omega

theorem rows (W : FVec Ideal S4096x1024 .bf16) (b : Fin 8) (o : ℕ) (h) (ho : o = 512 * b.val) :
    Rows W b (View.ld (Val := Elt Ideal) (e' := .bf16) W (Rect.unit (s := S4096x1024) ![o, 0] ![512, 1024] h)) := by
  intro j x
  refine congrArg W (funext fun a => Fin.ext ?_)
  match a with
  | ⟨0, _⟩ => show o + 1 * j.val = 512 * b.val + j.val; omega
  | ⟨1, _⟩ => show 0 + 1 * x.val = x.val; omega

/-- A chunk's step: the chunk's units added onto the loaded output. -/
def step (xn : FVec Ideal S512x1024 .bf16) (a : FVec Ideal S1024x512 .bf16) (acc : FVec Ideal S512x1024 .f32) (b : FVec Ideal S512x1024 .bf16) :
    FVec Ideal S512x1024 .f32 := k0_pay5 (F := Ideal) xn a acc b

theorem step_apply (xn : FVec Ideal S512x1024 .bf16) (acc : FVec Ideal S512x1024 .f32) (W1 : FVec Ideal S1024x4096 .bf16)
    (W2 : FVec Ideal S4096x1024 .bf16) (b : Fin 8) {a c} (ha : Cols W1 b a) (hc : Rows W2 b c) (r : Fin 512) (x : Fin 1024) :
    step xn a acc c (ix2 r x) = acc (ix2 r x) + Cert.Mlp.chunk (rowsOf xn r) (rowsOf W1) (rowsOf W2) x b := by
  pointwise [step, k0_pay5]
  refine congrArg (acc (ix2 r x) + ·) (Finset.sum_congr rfl fun j _ => ?_)
  unfold Cert.Mlp.unit
  rw [hc j x]
  simp only [ha _ j]

theorem stream_apply (h : FVec Ideal S512x1024 .f32) (o : FVec Ideal S512x1024 .bf16) (w : FVec Ideal S1024x1024 .bf16)
    (r : Fin 512) (x : Fin 1024) : k0_pay2 (F := Ideal) h o w (ix2 r x) = Cert.Mlp.stream (rowsOf h r) (rowsOf o r) (rowsOf w) x := by
  pointwise [k0_pay2]
  rfl

theorem normed_apply (h : FVec Ideal S512x1024 .f32) (o : FVec Ideal S512x1024 .bf16) (w : FVec Ideal S1024x1024 .bf16) (g : FVec Ideal S1x1024 .f32)
    (r : Fin 512) (x : Fin 1024) :
    k0_pay3 (F := Ideal) h o w g (ix2 r x) = Cert.Mlp.rms (Cert.Mlp.stream (rowsOf h r) (rowsOf o r) (rowsOf w)) (rowsOf g 0) x := by
  have hs : Cert.Mlp.stream (rowsOf h r) (rowsOf o r) (rowsOf w) = fun x => k0_pay2 (F := Ideal) h o w (ix2 r x) :=
    funext fun x => (stream_apply h o w r x).symm
  rw [hs]
  unfold k0_pay3
  generalize k0_pay2 (F := Ideal) h o w = H
  pointwise
  rfl

/-- What a point leaves: eight steps from the stream. -/
def out (o : FVec Ideal S512x1024 .bf16) (h : FVec Ideal S512x1024 .f32) (w : FVec Ideal S1024x1024 .bf16) (g : FVec Ideal S1x1024 .f32)
    (a : Fin 8 → FVec Ideal S1024x512 .bf16) (b : Fin 8 → FVec Ideal S512x1024 .bf16) : FVec Ideal S512x1024 .f32 :=
  let n := k0_pay3 (F := Ideal) h o w g
  step n (a 7) (step n (a 6) (step n (a 5) (step n (a 4) (step n (a 3) (step n (a 2) (step n (a 1) (step n (a 0)
    (k0_pay2 (F := Ideal) h o w) (b 0)) (b 1)) (b 2)) (b 3)) (b 4)) (b 5)) (b 6)) (b 7)

theorem out_apply (o : FVec Ideal S512x1024 .bf16) (h : FVec Ideal S512x1024 .f32) (w : FVec Ideal S1024x1024 .bf16) (g : FVec Ideal S1x1024 .f32)
    (W1 : FVec Ideal S1024x4096 .bf16) (W2 : FVec Ideal S4096x1024 .bf16)
    (a : Fin 8 → FVec Ideal S1024x512 .bf16) (b : Fin 8 → FVec Ideal S512x1024 .bf16) (ha : ∀ i, Cols W1 i (a i)) (hb : ∀ i, Rows W2 i (b i))
    (r : Fin 512) (x : Fin 1024) :
    out o h w g a b (ix2 r x) = Cert.Mlp.row (rowsOf h r) (rowsOf o r) (rowsOf w) (rowsOf g 0) (rowsOf W1) (rowsOf W2) x := by
  have hn : rowsOf (k0_pay3 (F := Ideal) h o w g) r = Cert.Mlp.rms (Cert.Mlp.stream (rowsOf h r) (rowsOf o r) (rowsOf w)) (rowsOf g 0) :=
    funext fun x => normed_apply h o w g r x
  unfold out
  rw [step_apply _ _ W1 W2 7 (ha 7) (hb 7), step_apply _ _ W1 W2 6 (ha 6) (hb 6), step_apply _ _ W1 W2 5 (ha 5) (hb 5),
    step_apply _ _ W1 W2 4 (ha 4) (hb 4), step_apply _ _ W1 W2 3 (ha 3) (hb 3), step_apply _ _ W1 W2 2 (ha 2) (hb 2),
    step_apply _ _ W1 W2 1 (ha 1) (hb 1), step_apply _ _ W1 W2 0 (ha 0) (hb 0), Cert.Mlp.chunks, stream_apply, hn]
  rfl

/-! ## The blocks -/

/-- The chunks of the first matrix's block, in the body's spelling. -/
def colsAt (W : FVec Ideal S1024x4096 .bf16) : Fin 8 → FVec Ideal S1024x512 .bf16 :=
  ![View.ld (Val := Elt Ideal) (e' := .bf16) W (Rect.unit (s := S1024x4096) ![0, 0] ![1024, 512] inb_S1024x4096_S1024x512_0_0),
    View.ld (Val := Elt Ideal) (e' := .bf16) W (Rect.unit (s := S1024x4096) ![0, 512] ![1024, 512] inb_S1024x4096_S1024x512_0_512),
    View.ld (Val := Elt Ideal) (e' := .bf16) W (Rect.unit (s := S1024x4096) ![0, 1024] ![1024, 512] inb_S1024x4096_S1024x512_0_1024),
    View.ld (Val := Elt Ideal) (e' := .bf16) W (Rect.unit (s := S1024x4096) ![0, 1536] ![1024, 512] inb_S1024x4096_S1024x512_0_1536),
    View.ld (Val := Elt Ideal) (e' := .bf16) W (Rect.unit (s := S1024x4096) ![0, 2048] ![1024, 512] inb_S1024x4096_S1024x512_0_2048),
    View.ld (Val := Elt Ideal) (e' := .bf16) W (Rect.unit (s := S1024x4096) ![0, 2560] ![1024, 512] inb_S1024x4096_S1024x512_0_2560),
    View.ld (Val := Elt Ideal) (e' := .bf16) W (Rect.unit (s := S1024x4096) ![0, 3072] ![1024, 512] inb_S1024x4096_S1024x512_0_3072),
    View.ld (Val := Elt Ideal) (e' := .bf16) W (Rect.unit (s := S1024x4096) ![0, 3584] ![1024, 512] inb_S1024x4096_S1024x512_0_3584)]
def rowsAt (W : FVec Ideal S4096x1024 .bf16) : Fin 8 → FVec Ideal S512x1024 .bf16 :=
  ![View.ld (Val := Elt Ideal) (e' := .bf16) W (Rect.unit (s := S4096x1024) ![0, 0] ![512, 1024] inb_S4096x1024_S512x1024_0_0),
    View.ld (Val := Elt Ideal) (e' := .bf16) W (Rect.unit (s := S4096x1024) ![512, 0] ![512, 1024] inb_S4096x1024_S512x1024_512_0),
    View.ld (Val := Elt Ideal) (e' := .bf16) W (Rect.unit (s := S4096x1024) ![1024, 0] ![512, 1024] inb_S4096x1024_S512x1024_1024_0),
    View.ld (Val := Elt Ideal) (e' := .bf16) W (Rect.unit (s := S4096x1024) ![1536, 0] ![512, 1024] inb_S4096x1024_S512x1024_1536_0),
    View.ld (Val := Elt Ideal) (e' := .bf16) W (Rect.unit (s := S4096x1024) ![2048, 0] ![512, 1024] inb_S4096x1024_S512x1024_2048_0),
    View.ld (Val := Elt Ideal) (e' := .bf16) W (Rect.unit (s := S4096x1024) ![2560, 0] ![512, 1024] inb_S4096x1024_S512x1024_2560_0),
    View.ld (Val := Elt Ideal) (e' := .bf16) W (Rect.unit (s := S4096x1024) ![3072, 0] ![512, 1024] inb_S4096x1024_S512x1024_3072_0),
    View.ld (Val := Elt Ideal) (e' := .bf16) W (Rect.unit (s := S4096x1024) ![3584, 0] ![512, 1024] inb_S4096x1024_S512x1024_3584_0)]

theorem colsAt_cols (W : FVec Ideal S1024x4096 .bf16) : ∀ i, Cols W i (colsAt W i)
  | 0 => cols W 0 _ _ rfl | 1 => cols W 1 _ _ rfl | 2 => cols W 2 _ _ rfl | 3 => cols W 3 _ _ rfl
  | 4 => cols W 4 _ _ rfl | 5 => cols W 5 _ _ rfl | 6 => cols W 6 _ _ rfl | 7 => cols W 7 _ _ rfl
theorem rowsAt_rows (W : FVec Ideal S4096x1024 .bf16) : ∀ i, Rows W i (rowsAt W i)
  | 0 => rows W 0 _ _ rfl | 1 => rows W 1 _ _ rfl | 2 => rows W 2 _ _ rfl | 3 => rows W 3 _ _ rfl
  | 4 => rows W 4 _ _ rfl | 5 => rows W 5 _ _ rfl | 6 => rows W 6 _ _ rfl | 7 => rows W 7 _ _ rfl

/-- What a point leaves in its output block. -/
theorem after_eq (c : Dev nD) (t : Fin cfg0.N) :
    (dats m 0 c).after 6 t = out (iblk m c 0 t) (iblk m c 1 t) (iblk m c 2 t) (iblk m c 3 t) (colsAt (iblk m c 4 t)) (rowsAt (iblk m c 5 t)) := by
  rw [after0_6]
  unfold outsAt0
  frame_out
  rfl

/-! ## The windows -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

/-- Row `r` of tile `t`. -/
def rowOf (t : Fin cfg0.N) (r : Fin 512) : Fin 16384 :=
  ⟨512 * t.val + r.val, by have h : t.val < 32 := t.isLt; omega⟩

theorem block0 (c : Dev nD) (t : Fin cfg0.N) (r : Fin 512) (x : Fin 1024) :
    iblk m c 0 t (ix2 r x) = m ((c : Thread nD τ).loc main_arg0) (ix2 (rowOf t r) x) := by
  rw [← V_main_arg0 m c]
  refine congrArg (V m c main_arg0) (funext fun a => Fin.ext ?_)
  match a with
  | ⟨0, _⟩ => show win0_0.index t (0 : Fin 2) * 512 + 1 * r.val = 512 * t.val + r.val
              rw [index0 t]; show t.val * 512 + 1 * r.val = _; omega
  | ⟨1, _⟩ => show win0_0.index t (1 : Fin 2) * 1024 + 1 * x.val = x.val
              rw [index0 t]; show 0 * 1024 + 1 * x.val = _; omega

theorem block1 (c : Dev nD) (t : Fin cfg0.N) (r : Fin 512) (x : Fin 1024) :
    iblk m c 1 t (ix2 r x) = m ((c : Thread nD τ).loc main_arg1) (ix2 (rowOf t r) x) := by
  rw [← V_main_arg1 m c]
  refine congrArg (V m c main_arg1) (funext fun a => Fin.ext ?_)
  match a with
  | ⟨0, _⟩ => show win0_1.index t (0 : Fin 2) * 512 + 1 * r.val = 512 * t.val + r.val
              rw [index1 t]; show t.val * 512 + 1 * r.val = _; omega
  | ⟨1, _⟩ => show win0_1.index t (1 : Fin 2) * 1024 + 1 * x.val = x.val
              rw [index1 t]; show 0 * 1024 + 1 * x.val = _; omega

theorem blockOut (t : Fin cfg0.N) (r : Fin 512) (x : Fin 1024) :
    (win0_6.blk t).view.emb (ix2 r x) = (ix2 (rowOf t r) x : S16384x1024.Idx) := by
  refine funext fun a => Fin.ext ?_
  match a with
  | ⟨0, _⟩ => show win0_6.index t (0 : Fin 2) * 512 + 1 * r.val = 512 * t.val + r.val
              rw [index6 t]; show t.val * 512 + 1 * r.val = _; omega
  | ⟨1, _⟩ => show win0_6.index t (1 : Fin 2) * 1024 + 1 * x.val = x.val
              rw [index6 t]; show 0 * 1024 + 1 * x.val = _; omega

theorem block2 (c : Dev nD) (t : Fin cfg0.N) : iblk m c 2 t = V m c (Pipeline.arrRef spec0 2) := by blk_ext! [iblk, index2 t]
theorem block3 (c : Dev nD) (t : Fin cfg0.N) : iblk m c 3 t = V m c (Pipeline.arrRef spec0 3) := by blk_ext! [iblk, index3 t]
theorem block4 (c : Dev nD) (t : Fin cfg0.N) : iblk m c 4 t = V m c (Pipeline.arrRef spec0 4) := by blk_ext! [iblk, index4 t]
theorem block5 (c : Dev nD) (t : Fin cfg0.N) : iblk m c 5 t = V m c (Pipeline.arrRef spec0 5) := by blk_ext! [iblk, index5 t]

/-! ## What the host hands over: the matrices and the gain, the casts exact -/

theorem V_w (c : Dev nD) : V m c (Pipeline.arrRef spec0 2) = (m ((c : Thread nD τ).loc main_arg2) : FVec Ideal S1024x1024 .f32) := by
  unfold V
  simp only [hostOps0, List.flatten_cons, List.flatten_nil, List.append_nil, List.cons_append, List.nil_append]
  after_results_simp
  rfl
theorem V_g (c : Dev nD) (x : Fin 1024) :
    V m c (Pipeline.arrRef spec0 3) (ix2 (0 : Fin 1) x : S1x1024.Idx) = m ((c : Thread nD τ).loc main_arg3) (ix1 x : S1024.Idx) := by
  unfold V
  simp only [hostOps0, List.flatten_cons, List.flatten_nil, List.append_nil, List.cons_append, List.nil_append]
  after_results_simp
  pointwise
theorem V_w1 (c : Dev nD) : V m c (Pipeline.arrRef spec0 4) = (m ((c : Thread nD τ).loc main_arg4) : FVec Ideal S1024x4096 .f32) := by
  unfold V
  simp only [hostOps0, List.flatten_cons, List.flatten_nil, List.append_nil, List.cons_append, List.nil_append]
  after_results_simp
  rfl
theorem V_w2 (c : Dev nD) : V m c (Pipeline.arrRef spec0 5) = (m ((c : Thread nD τ).loc main_arg5) : FVec Ideal S4096x1024 .f32) := by
  unfold V
  simp only [hostOps0, List.flatten_cons, List.flatten_nil, List.append_nil, List.cons_append, List.nil_append]
  after_results_simp
  rfl

/-! ## The array -/

/-- The array of the arguments. -/
def result (o : FVec Ideal S16384x1024 .bf16) (h : FVec Ideal S16384x1024 .f32) (w : FVec Ideal S1024x1024 .f32) (g : FVec Ideal S1024 .f32)
    (w1 : FVec Ideal S1024x4096 .f32) (w2 : FVec Ideal S4096x1024 .f32) (r : Fin 16384) (x : Fin 1024) : EReal :=
  Cert.Mlp.row (rowsOf h r) (rowsOf o r) (rowsOf w) (fun e => g (ix1 e)) (rowsOf w1) (rowsOf w2) x

theorem after_apply (c : Dev nD) (t : Fin cfg0.N) (r : Fin 512) (x : Fin 1024) :
    (dats m 0 c).after 6 t (ix2 r x : S512x1024.Idx)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (rowOf t r) x := by
  rw [after_eq]
  refine (out_apply _ _ _ _ _ _ _ _ (colsAt_cols _) (rowsAt_rows _) r x).trans ?_
  unfold result
  have h0 : rowsOf (iblk m c 0 t : FVec Ideal S512x1024 .bf16) r = rowsOf (m ((c : Thread nD τ).loc main_arg0) : FVec Ideal S16384x1024 .bf16) (rowOf t r) :=
    funext fun x => block0 m c t r x
  have h1 : rowsOf (iblk m c 1 t : FVec Ideal S512x1024 .f32) r = rowsOf (m ((c : Thread nD τ).loc main_arg1) : FVec Ideal S16384x1024 .f32) (rowOf t r) :=
    funext fun x => block1 m c t r x
  have h3 : rowsOf (iblk m c 3 t : FVec Ideal S1x1024 .f32) 0 = fun x => (m ((c : Thread nD τ).loc main_arg3) : FVec Ideal S1024 .f32) (ix1 x) :=
    funext fun x => (congrFun (block3 m c t) _).trans (V_g m c x)
  have h2 : (iblk m c 2 t : FVec Ideal S1024x1024 .bf16) = (m ((c : Thread nD τ).loc main_arg2) : FVec Ideal S1024x1024 .f32) := (block2 m c t).trans (V_w m c)
  have h4 : (iblk m c 4 t : FVec Ideal S1024x4096 .bf16) = (m ((c : Thread nD τ).loc main_arg4) : FVec Ideal S1024x4096 .f32) := (block4 m c t).trans (V_w1 m c)
  have h5 : (iblk m c 5 t : FVec Ideal S4096x1024 .bf16) = (m ((c : Thread nD τ).loc main_arg5) : FVec Ideal S4096x1024 .f32) := (block5 m c t).trans (V_w2 m c)
  rw [h0, h1, h3, h2, h4, h5]

/-- The array after the run. -/
theorem array_eq (c : Dev nD) :
    (dats m 0 c).arrAt 6 cfg0.N = fun i : S16384x1024.Idx =>
      result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  have hy : y = (ix2 (y 0) (y 1) : S512x1024.Idx) := eq_ix2 (n0 := 512) (n1 := 1024) y
  rw [hy]
  refine (after_apply m c t (y 0) (y 1)).trans ?_
  refine Eq.symm ((congrArg (fun i : S16384x1024.Idx => result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1)) (blockOut t (y 0) (y 1))).trans ?_)
  rfl

end Cert.MidIdeal.Mlp

end
-- ==== Proof.Mlp.Out.lean ====
/- The array the last attention's output projection and feed-forward block leave: each row is `Mlp.row` of the arguments' rows,
   over its root mean square. The steps before the last norm are the first attention's (`Mid.lean`). -/
module

public import proofs.«01_k».proof.Proof.Gen.OutIdeal.Value
public import proofs.«01_k».proof.Proof.Mlp.Mid

@[expose] public section

set_option maxRecDepth 16384

noncomputable section

namespace Cert.OutIdeal.Mlp

open Cert.OutIdeal Cert.OutIdeal.Gen Idealize.ShloMosaic Idealize.ShloMosaic.TcCoe Idealize.SL.Sem Idealize.ShloMosaic.Tactic
open Idealize.ShloMosaic.Pipeline (Dat)
open Cert.MidIdeal.Mlp (rowsOf out out_apply colsAt rowsAt colsAt_cols rowsAt_rows)

variable (m : (ℓ : Loc nD τ sig) → Buf (Elt Ideal) ℓ)

/-! ## What the body computes on its blocks -/

/-- The last norm of the finished block. -/
def last (H : FVec Ideal S512x1024 .f32) (g : FVec Ideal S1x1024 .f32) : FVec Ideal S512x1024 .f32 := k0_pay2 (F := Ideal) H g

theorem last_apply (H : FVec Ideal S512x1024 .f32) (g : FVec Ideal S1x1024 .f32) (r : Fin 512) (x : Fin 1024) :
    last H g (ix2 r x) = Cert.Mlp.rms (rowsOf H r) (rowsOf g 0) x := by
  pointwise [last, k0_pay2]
  rfl

/-- What a point leaves in its output block. -/
theorem after_eq (c : Dev nD) (t : Fin cfg0.N) :
    (dats m 0 c).after 7 t
      = last (out (iblk m c 0 t) (iblk m c 1 t) (iblk m c 2 t) (iblk m c 3 t) (colsAt (iblk m c 4 t)) (rowsAt (iblk m c 5 t))) (iblk m c 6 t) := by
  rw [after0_7]
  unfold outsAt0
  frame_out
  rfl

/-! ## The windows -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- Row `r` of tile `t`. -/
def rowOf (t : Fin cfg0.N) (r : Fin 512) : Fin 16384 :=
  ⟨512 * t.val + r.val, by have h : t.val < 32 := t.isLt; omega⟩

theorem block0 (c : Dev nD) (t : Fin cfg0.N) (r : Fin 512) (x : Fin 1024) :
    iblk m c 0 t (ix2 r x) = m ((c : Thread nD τ).loc main_arg0) (ix2 (rowOf t r) x) := by
  rw [← V_main_arg0 m c]
  refine congrArg (V m c main_arg0) (funext fun a => Fin.ext ?_)
  match a with
  | ⟨0, _⟩ => show win0_0.index t (0 : Fin 2) * 512 + 1 * r.val = 512 * t.val + r.val
              rw [index0 t]; show t.val * 512 + 1 * r.val = _; omega
  | ⟨1, _⟩ => show win0_0.index t (1 : Fin 2) * 1024 + 1 * x.val = x.val
              rw [index0 t]; show 0 * 1024 + 1 * x.val = _; omega

theorem block1 (c : Dev nD) (t : Fin cfg0.N) (r : Fin 512) (x : Fin 1024) :
    iblk m c 1 t (ix2 r x) = m ((c : Thread nD τ).loc main_arg1) (ix2 (rowOf t r) x) := by
  rw [← V_main_arg1 m c]
  refine congrArg (V m c main_arg1) (funext fun a => Fin.ext ?_)
  match a with
  | ⟨0, _⟩ => show win0_1.index t (0 : Fin 2) * 512 + 1 * r.val = 512 * t.val + r.val
              rw [index1 t]; show t.val * 512 + 1 * r.val = _; omega
  | ⟨1, _⟩ => show win0_1.index t (1 : Fin 2) * 1024 + 1 * x.val = x.val
              rw [index1 t]; show 0 * 1024 + 1 * x.val = _; omega

theorem blockOut (t : Fin cfg0.N) (r : Fin 512) (x : Fin 1024) :
    (win0_7.blk t).view.emb (ix2 r x) = (ix2 (rowOf t r) x : S16384x1024.Idx) := by
  refine funext fun a => Fin.ext ?_
  match a with
  | ⟨0, _⟩ => show win0_7.index t (0 : Fin 2) * 512 + 1 * r.val = 512 * t.val + r.val
              rw [index7 t]; show t.val * 512 + 1 * r.val = _; omega
  | ⟨1, _⟩ => show win0_7.index t (1 : Fin 2) * 1024 + 1 * x.val = x.val
              rw [index7 t]; show 0 * 1024 + 1 * x.val = _; omega

theorem block2 (c : Dev nD) (t : Fin cfg0.N) : iblk m c 2 t = V m c (Pipeline.arrRef spec0 2) := by blk_ext! [iblk, index2 t]
theorem block3 (c : Dev nD) (t : Fin cfg0.N) : iblk m c 3 t = V m c (Pipeline.arrRef spec0 3) := by blk_ext! [iblk, index3 t]
theorem block4 (c : Dev nD) (t : Fin cfg0.N) : iblk m c 4 t = V m c (Pipeline.arrRef spec0 4) := by blk_ext! [iblk, index4 t]
theorem block5 (c : Dev nD) (t : Fin cfg0.N) : iblk m c 5 t = V m c (Pipeline.arrRef spec0 5) := by blk_ext! [iblk, index5 t]
theorem block6 (c : Dev nD) (t : Fin cfg0.N) : iblk m c 6 t = V m c (Pipeline.arrRef spec0 6) := by blk_ext! [iblk, index6 t]

/-! ## What the host hands over: the matrices and the gains, the casts exact -/

theorem V_w (c : Dev nD) : V m c (Pipeline.arrRef spec0 2) = (m ((c : Thread nD τ).loc main_arg2) : FVec Ideal S1024x1024 .f32) := by
  unfold V
  simp only [hostOps0, List.flatten_cons, List.flatten_nil, List.append_nil, List.cons_append, List.nil_append]
  after_results_simp
  rfl
theorem V_g (c : Dev nD) (x : Fin 1024) :
    V m c (Pipeline.arrRef spec0 3) (ix2 (0 : Fin 1) x : S1x1024.Idx) = m ((c : Thread nD τ).loc main_arg3) (ix1 x : S1024.Idx) := by
  unfold V
  simp only [hostOps0, List.flatten_cons, List.flatten_nil, List.append_nil, List.cons_append, List.nil_append]
  after_results_simp
  pointwise
theorem V_f (c : Dev nD) (x : Fin 1024) :
    V m c (Pipeline.arrRef spec0 6) (ix2 (0 : Fin 1) x : S1x1024.Idx) = m ((c : Thread nD τ).loc main_arg6) (ix1 x : S1024.Idx) := by
  unfold V
  simp only [hostOps0, List.flatten_cons, List.flatten_nil, List.append_nil, List.cons_append, List.nil_append]
  after_results_simp
  pointwise
theorem V_w1 (c : Dev nD) : V m c (Pipeline.arrRef spec0 4) = (m ((c : Thread nD τ).loc main_arg4) : FVec Ideal S1024x4096 .f32) := by
  unfold V
  simp only [hostOps0, List.flatten_cons, List.flatten_nil, List.append_nil, List.cons_append, List.nil_append]
  after_results_simp
  rfl
theorem V_w2 (c : Dev nD) : V m c (Pipeline.arrRef spec0 5) = (m ((c : Thread nD τ).loc main_arg5) : FVec Ideal S4096x1024 .f32) := by
  unfold V
  simp only [hostOps0, List.flatten_cons, List.flatten_nil, List.append_nil, List.cons_append, List.nil_append]
  after_results_simp
  rfl

/-! ## The array -/

/-- The array of the arguments. -/
def result (o : FVec Ideal S16384x1024 .bf16) (h : FVec Ideal S16384x1024 .f32) (w : FVec Ideal S1024x1024 .f32) (g : FVec Ideal S1024 .f32)
    (w1 : FVec Ideal S1024x4096 .f32) (w2 : FVec Ideal S4096x1024 .f32) (f : FVec Ideal S1024 .f32) (r : Fin 16384) (x : Fin 1024) : EReal :=
  Cert.Mlp.rms (Cert.Mlp.row (rowsOf h r) (rowsOf o r) (rowsOf w) (fun e => g (ix1 e)) (rowsOf w1) (rowsOf w2)) (fun e => f (ix1 e)) x

theorem after_apply (c : Dev nD) (t : Fin cfg0.N) (r : Fin 512) (x : Fin 1024) :
    (dats m 0 c).after 7 t (ix2 r x : S512x1024.Idx)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (rowOf t r) x := by
  rw [after_eq]
  refine (last_apply _ _ r x).trans ?_
  have hrow : rowsOf (out (iblk m c 0 t) (iblk m c 1 t) (iblk m c 2 t) (iblk m c 3 t) (colsAt (iblk m c 4 t)) (rowsAt (iblk m c 5 t))) r
      = Cert.Mlp.row (rowsOf (iblk m c 1 t : FVec Ideal S512x1024 .f32) r) (rowsOf (iblk m c 0 t : FVec Ideal S512x1024 .bf16) r)
          (rowsOf (iblk m c 2 t : FVec Ideal S1024x1024 .bf16)) (rowsOf (iblk m c 3 t : FVec Ideal S1x1024 .f32) 0)
          (rowsOf (iblk m c 4 t : FVec Ideal S1024x4096 .bf16)) (rowsOf (iblk m c 5 t : FVec Ideal S4096x1024 .bf16)) :=
    funext fun x => out_apply _ _ _ _ _ _ _ _ (colsAt_cols _) (rowsAt_rows _) r x
  unfold result
  have h0 : rowsOf (iblk m c 0 t : FVec Ideal S512x1024 .bf16) r = rowsOf (m ((c : Thread nD τ).loc main_arg0) : FVec Ideal S16384x1024 .bf16) (rowOf t r) :=
    funext fun x => block0 m c t r x
  have h1 : rowsOf (iblk m c 1 t : FVec Ideal S512x1024 .f32) r = rowsOf (m ((c : Thread nD τ).loc main_arg1) : FVec Ideal S16384x1024 .f32) (rowOf t r) :=
    funext fun x => block1 m c t r x
  have h3 : rowsOf (iblk m c 3 t : FVec Ideal S1x1024 .f32) 0 = fun x => (m ((c : Thread nD τ).loc main_arg3) : FVec Ideal S1024 .f32) (ix1 x) :=
    funext fun x => (congrFun (block3 m c t) _).trans (V_g m c x)
  have h2 : (iblk m c 2 t : FVec Ideal S1024x1024 .bf16) = (m ((c : Thread nD τ).loc main_arg2) : FVec Ideal S1024x1024 .f32) := (block2 m c t).trans (V_w m c)
  have h4 : (iblk m c 4 t : FVec Ideal S1024x4096 .bf16) = (m ((c : Thread nD τ).loc main_arg4) : FVec Ideal S1024x4096 .f32) := (block4 m c t).trans (V_w1 m c)
  have h5 : (iblk m c 5 t : FVec Ideal S4096x1024 .bf16) = (m ((c : Thread nD τ).loc main_arg5) : FVec Ideal S4096x1024 .f32) := (block5 m c t).trans (V_w2 m c)
  have h6 : rowsOf (iblk m c 6 t : FVec Ideal S1x1024 .f32) 0 = fun x => (m ((c : Thread nD τ).loc main_arg6) : FVec Ideal S1024 .f32) (ix1 x) :=
    funext fun x => (congrFun (block6 m c t) _).trans (V_f m c x)
  rw [hrow, h0, h1, h3, h2, h4, h5, h6]

/-- The array after the run. -/
theorem array_eq (c : Dev nD) :
    (dats m 0 c).arrAt 7 cfg0.N = fun i : S16384x1024.Idx =>
      result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 7 _ (by decide +kernel) fun t hf y => ?_
  blk_simp
  have hy : y = (ix2 (y 0) (y 1) : S512x1024.Idx) := eq_ix2 (n0 := 512) (n1 := 1024) y
  rw [hy]
  refine (after_apply m c t (y 0) (y 1)).trans ?_
  refine Eq.symm ((congrArg (fun i : S16384x1024.Idx => result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1)) (blockOut t (y 0) (y 1))).trans ?_)
  rfl

end Cert.OutIdeal.Mlp

end
-- ==== Proof.Mlp.Reference.lean ====
/- The references of the two output projections with their feed-forward blocks, entry by entry: `Mlp.row` of the arguments' rows. -/
module

public import proofs.«01_k».proof.Proof.Gen.MidRefIdeal.Run
public import proofs.«01_k».proof.Proof.Gen.OutRefIdeal.Run
public import proofs.«01_k».proof.Proof.Mlp.Row

@[expose] public section

set_option maxRecDepth 16384

noncomputable section

namespace Cert.MidRefIdeal.Mlp

open Cert.MidRefIdeal Cert.MidRefIdeal.Gen Idealize.ShloMosaic Idealize.ShloMosaic.TcCoe Idealize.SL.Sem

/-- The residual stream after the output projection. -/
def stream (o : FVec Ideal S16384x1024 .bf16) (h : FVec Ideal S16384x1024 .f32) (wo : FVec Ideal S1024x1024 .f32) : FVec Ideal S16384x1024 .f32 :=
  addf h (Host.dotGeneral dot_S16384x1024_S1024x1024_S16384x1024_1_0_0_1_n_n none (extf .f32 o bitsLt_bf16_f32) wo)

/-- Rows over their root mean square, times the gain. -/
def normed (h : FVec Ideal S16384x1024 .f32) (g : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

/-- The hidden units' positive parts. -/
def hidden (n : FVec Ideal S16384x1024 .f32) (w1 : FVec Ideal S1024x4096 .f32) : FVec Ideal S16384x4096 .f32 :=
  maximumf (Host.dotGeneral dot_S16384x1024_S1024x4096_S16384x4096_1_0_0_1_n_n none n w1) (broadcastInDim S16384x4096 ![] bcast_S_S16384x4096 (constant S_ .f32 0x00000000#32))

/-- The feed-forward block. -/
def ff (n : FVec Ideal S16384x1024 .f32) (w1 : FVec Ideal S1024x4096 .f32) (w2 : FVec Ideal S4096x1024 .f32) : FVec Ideal S16384x1024 .f32 :=
  Host.dotGeneral dot_S16384x4096_S4096x1024_S16384x1024_1_0_0_1_n_n none (mulf (hidden n w1) (hidden n w1)) w2

/-- The stream with its feed-forward block added. -/
def layer (o : FVec Ideal S16384x1024 .bf16) (h : FVec Ideal S16384x1024 .f32) (wo : FVec Ideal S1024x1024 .f32) (g : FVec Ideal S1024 .f32)
    (w1 : FVec Ideal S1024x4096 .f32) (w2 : FVec Ideal S4096x1024 .f32) : FVec Ideal S16384x1024 .f32 :=
  addf (stream o h wo) (ff (normed (stream o h wo) g) w1 w2)

/-- The rows of a matrix. -/
abbrev rowsOf {n k : ℕ} (A : (⟨2, ![n, k]⟩ : Shape).Idx → EReal) (r : Fin n) (x : Fin k) : EReal := A (ix2 r x)

theorem stream_apply (o : FVec Ideal S16384x1024 .bf16) (h : FVec Ideal S16384x1024 .f32) (wo : FVec Ideal S1024x1024 .f32) (r : Fin 16384) (x : Fin 1024) :
    stream o h wo (ix2 r x) = Cert.Mlp.stream (rowsOf h r) (rowsOf o r) (rowsOf wo) x := by
  pointwise [stream]
  rfl
theorem normed_apply (h : FVec Ideal S16384x1024 .f32) (g : FVec Ideal S1024 .f32) (r : Fin 16384) (x : Fin 1024) :
    normed h g (ix2 r x) = Cert.Mlp.rms (rowsOf h r) (fun e => g (ix1 e)) x := by
  pointwise [normed]
  rfl
theorem ff_apply (n : FVec Ideal S16384x1024 .f32) (w1 : FVec Ideal S1024x4096 .f32) (w2 : FVec Ideal S4096x1024 .f32) (r : Fin 16384) (x : Fin 1024) :
    ff n w1 w2 (ix2 r x) = Cert.Mlp.ff (rowsOf n r) (rowsOf w1) (rowsOf w2) x := by
  pointwise [ff, hidden]
  rfl

theorem layer_apply (o : FVec Ideal S16384x1024 .bf16) (h : FVec Ideal S16384x1024 .f32) (wo : FVec Ideal S1024x1024 .f32) (g : FVec Ideal S1024 .f32)
    (w1 : FVec Ideal S1024x4096 .f32) (w2 : FVec Ideal S4096x1024 .f32) (r : Fin 16384) (x : Fin 1024) :
    layer o h wo g w1 w2 (ix2 r x)
      = Cert.Mlp.row (rowsOf h r) (rowsOf o r) (rowsOf wo) (fun e => g (ix1 e)) (rowsOf w1) (rowsOf w2) x := by
  have hs : rowsOf (stream o h wo) r = Cert.Mlp.stream (rowsOf h r) (rowsOf o r) (rowsOf wo) := funext fun x => stream_apply o h wo r x
  have hn : rowsOf (normed (stream o h wo) g) r = Cert.Mlp.rms (Cert.Mlp.stream (rowsOf h r) (rowsOf o r) (rowsOf wo)) (fun e => g (ix1 e)) :=
    funext fun x => (normed_apply _ g r x).trans (by rw [hs])
  show stream o h wo (ix2 r x) + ff (normed (stream o h wo) g) w1 w2 (ix2 r x) = _
  rw [stream_apply, ff_apply, hn]
  rfl

variable (m : (ℓ : Loc nD τ sig) → Buf (Elt Ideal) ℓ) (ρ : Dev nD → PrngReg)

/-- The first reference's run, its result named. -/
theorem run : θ_run defs (onTc (τ := τ) (main (F := Ideal))) ⟨m, fun _ => 0, ρ⟩ fun r => ∀ c : Dev nD,
      r.2.mem ((c.tc : Thread nD τ).loc main_v20)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.MidRefIdeal.Value.run (F := Ideal) m ρ

end Cert.MidRefIdeal.Mlp

namespace Cert.OutRefIdeal.Mlp

open Cert.OutRefIdeal Cert.OutRefIdeal.Gen Idealize.ShloMosaic Idealize.ShloMosaic.TcCoe Idealize.SL.Sem
open Cert.MidRefIdeal.Mlp (layer normed rowsOf normed_apply layer_apply)

/-- The last reference's result: the layer's rows over their root mean square. -/
theorem result_eq (m : (ℓ : Loc nD τ sig) → Buf (Elt Ideal) ℓ) (c : Dev nD) :
    Cert.OutRefIdeal.Value.res_out0 (F := Ideal) m c
      = normed (layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg6)) := rfl

theorem last_apply (o : FVec Ideal S16384x1024 .bf16) (h : FVec Ideal S16384x1024 .f32) (wo : FVec Ideal S1024x1024 .f32) (g : FVec Ideal S1024 .f32)
    (w1 : FVec Ideal S1024x4096 .f32) (w2 : FVec Ideal S4096x1024 .f32) (f : FVec Ideal S1024 .f32) (r : Fin 16384) (x : Fin 1024) :
    normed (layer o h wo g w1 w2) f (ix2 r x)
      = Cert.Mlp.rms (Cert.Mlp.row (rowsOf h r) (rowsOf o r) (rowsOf wo) (fun e => g (ix1 e)) (rowsOf w1) (rowsOf w2)) (fun e => f (ix1 e)) x := by
  have hl : rowsOf (layer o h wo g w1 w2) r = Cert.Mlp.row (rowsOf h r) (rowsOf o r) (rowsOf wo) (fun e => g (ix1 e)) (rowsOf w1) (rowsOf w2) :=
    funext fun x => layer_apply o h wo g w1 w2 r x
  rw [normed_apply, hl]

end Cert.OutRefIdeal.Mlp

end
-- ==== Proof.Mlp.Equation.lean ====
/- The two output projections with their feed-forward blocks equal their references. -/
module

public import proofs.«01_k».proof.Defs
public import proofs.«01_k».proof.Proof.Mlp.Out
public import proofs.«01_k».proof.Proof.Mlp.Reference

@[expose] public section

set_option maxRecDepth 16384

noncomputable section

namespace Cert.Mlp

open Idealize.ShloMosaic Idealize.ShloMosaic.TcCoe Idealize.SL.Sem

/-- After the first attention. -/
theorem algebraic_mid : Cert.algebraic_MidIdeal_MidRefIdeal (hMidIdeal := Cert.MidIdeal.Gen.facts) (hMidRefIdeal := Cert.MidRefIdeal.Gen.facts) := by
  intro m ρ m' ρ' _ hagree
  refine ⟨fun c => (Cert.MidIdeal.Gen.dats m 0 c).arrAt 6 Cert.MidIdeal.cfg0.N, Cert.MidIdeal.Value.run_blocks (F := Ideal) m ρ, ?_⟩
  refine (θ_run Cert.MidRefIdeal.defs _ _).mono (fun _ h c => ⟨(h c).1.trans ?_, (h c).2⟩) (Cert.MidRefIdeal.Mlp.run m' ρ')
  obtain ⟨h0, h1, h2, h3, h4, h5⟩ := hagree c
  rw [h0, h1, h2, h3, h4, h5]
  refine Eq.trans ?_ (Cert.MidIdeal.Mlp.array_eq m c).symm
  refine funext fun i => ?_
  refine (congrArg _ (eq_ix2 (n0 := 16384) (n1 := 1024) i)).trans ?_
  exact Cert.MidRefIdeal.Mlp.layer_apply _ _ _ _ _ _ (i 0) (i 1)

/-- After the last attention. -/
theorem algebraic_out : Cert.algebraic_OutIdeal_OutRefIdeal (hOutIdeal := Cert.OutIdeal.Gen.facts) (hOutRefIdeal := Cert.OutRefIdeal.Gen.facts) := by
  intro m ρ m' ρ' _ hagree
  refine ⟨fun c => (Cert.OutIdeal.Gen.dats m 0 c).arrAt 7 Cert.OutIdeal.cfg0.N, Cert.OutIdeal.Value.run_blocks (F := Ideal) m ρ, ?_⟩
  refine (θ_run Cert.OutRefIdeal.defs _ _).mono (fun _ h c => ⟨(h c).1.trans ((Cert.OutRefIdeal.Mlp.result_eq m' c).trans ?_), (h c).2⟩)
    (Cert.OutRefIdeal.Value.run (F := Ideal) m' ρ')
  obtain ⟨h0, h1, h2, h3, h4, h5, h6⟩ := hagree c
  rw [h0, h1, h2, h3, h4, h5, h6]
  refine Eq.trans ?_ (Cert.OutIdeal.Mlp.array_eq m c).symm
  refine funext fun i => ?_
  refine (congrArg _ (eq_ix2 (n0 := 16384) (n1 := 1024) i)).trans ?_
  exact Cert.OutRefIdeal.Mlp.last_apply _ _ _ _ _ _ _ (i 0) (i 1)

end Cert.Mlp

end
-- ==== Proof.Qkv.Arrays.lean ====
/- The three arrays the first layer's query/key/value projection leaves: the normed rows times the matrix's three column groups,
   the queries scaled, the keys transposed. -/
module

public import proofs.«01_k».proof.Proof.Gen.QkvIdeal.Value
public import proofs.«01_k».proof.Proof.Mlp.Row
public import Idealize.ShloMosaic.Lib.Pipeline.ValueKit
public import Idealize.ShloMosaic.Lib.StableHlo.RunClose

@[expose] public section

set_option maxRecDepth 16384

noncomputable section

namespace Cert.QkvIdeal.Qkv

open Cert.QkvIdeal Cert.QkvIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The rows of a matrix. -/
abbrev rowsOf {n k : ℕ} (A : (⟨2, ![n, k]⟩ : Shape).Idx → EReal) (r : Fin n) (x : Fin k) : EReal := A (ix2 r x)

/-- Column `x` of column group `p`. -/
def colOf (p : Fin 3) (x : Fin 1024) : Fin 3072 := ⟨1024 * p.val + x.val, by omega⟩

/-- A normed row times a column of the matrix. -/
def proj (h g : Fin 1024 → EReal) (w : Fin 1024 → Fin 3072 → EReal) (y : Fin 3072) : EReal := ∑ e, Cert.Mlp.rms h g e * w e y

/-! ## What the body computes on its blocks -/

theorem q_apply (h : FVec Ideal S256x1024 .f32) (g : FVec Ideal S1x1024 .f32) (w : FVec Ideal S1024x3072 .bf16) (r : Fin 256) (x : Fin 1024) :
    k0_pay2 (F := Ideal) h g w (ix2 r x) = proj (rowsOf h r) (rowsOf g 0) (rowsOf w) (colOf 0 x) * Ideal.ofBits FTy.f32 1040187392#32 := by
  have hc : colOf 0 x = ⟨x.val, by omega⟩ := Fin.ext (by show 1024 * 0 + x.val = x.val; omega)
  rw [hc]
  pointwise [k0_pay2, k0_pay1]
  rfl
theorem k_apply (h : FVec Ideal S256x1024 .f32) (g : FVec Ideal S1x1024 .f32) (w : FVec Ideal S1024x3072 .bf16) (r : Fin 256) (x : Fin 1024) :
    k0_pay3 (F := Ideal) h g w (ix2 x r) = proj (rowsOf h r) (rowsOf g 0) (rowsOf w) (colOf 1 x) := by
  pointwise [k0_pay3, k0_pay1]
  rfl
theorem v_apply (h : FVec Ideal S256x1024 .f32) (g : FVec Ideal S1x1024 .f32) (w : FVec Ideal S1024x3072 .bf16) (r : Fin 256) (x : Fin 1024) :
    k0_pay4 (F := Ideal) h g w (ix2 r x) = proj (rowsOf h r) (rowsOf g 0) (rowsOf w) (colOf 2 x) := by
  pointwise [k0_pay4, k0_pay1]
  rfl

theorem after3_eq (c : Dev nD) (t : Fin cfg0.N) : (dats m 0 c).after 3 t = k0_pay2 (F := Ideal) (iblk m c 0 t) (iblk m c 1 t) (iblk m c 2 t) := by
  rw [after0_3]
  frame_out
theorem after4_eq (c : Dev nD) (t : Fin cfg0.N) : (dats m 0 c).after 4 t = k0_pay3 (F := Ideal) (iblk m c 0 t) (iblk m c 1 t) (iblk m c 2 t) := by
  rw [after0_4]
  frame_out
theorem after5_eq (c : Dev nD) (t : Fin cfg0.N) : (dats m 0 c).after 5 t = k0_pay4 (F := Ideal) (iblk m c 0 t) (iblk m c 1 t) (iblk m c 2 t) := by
  rw [after0_5]
  frame_out

/-! ## The windows -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![t.val, 0] := (by decide +kernel : ∀ t : Fin grid0.N, _)

/-- Row `r` of tile `t`. -/
def rowOf (t : Fin cfg0.N) (r : Fin 256) : Fin 16384 :=
  ⟨256 * t.val + r.val, by have h : t.val < 64 := t.isLt; omega⟩

theorem block0 (c : Dev nD) (t : Fin cfg0.N) (r : Fin 256) (x : Fin 1024) :
    iblk m c 0 t (ix2 r x) = m ((c : Thread nD τ).loc main_arg0) (ix2 (rowOf t r) x) := by
  rw [← V_main_arg0 m c]
  refine congrArg (V m c main_arg0) (funext fun a => Fin.ext ?_)
  match a with
  | ⟨0, _⟩ => show win0_0.index t (0 : Fin 2) * 256 + 1 * r.val = 256 * t.val + r.val
              rw [index0 t]; show t.val * 256 + 1 * r.val = _; omega
  | ⟨1, _⟩ => show win0_0.index t (1 : Fin 2) * 1024 + 1 * x.val = x.val
              rw [index0 t]; show 0 * 1024 + 1 * x.val = _; omega

theorem blockOut3 (t : Fin cfg0.N) (r : Fin 256) (x : Fin 1024) :
    (win0_3.blk t).view.emb (ix2 r x) = (ix2 (rowOf t r) x : S16384x1024.Idx) := by
  refine funext fun a => Fin.ext ?_
  match a with
  | ⟨0, _⟩ => show win0_3.index t (0 : Fin 2) * 256 + 1 * r.val = 256 * t.val + r.val
              rw [index3 t]; show t.val * 256 + 1 * r.val = _; omega
  | ⟨1, _⟩ => show win0_3.index t (1 : Fin 2) * 1024 + 1 * x.val = x.val
              rw [index3 t]; show 0 * 1024 + 1 * x.val = _; omega

theorem blockOut5 (t : Fin cfg0.N) (r : Fin 256) (x : Fin 1024) :
    (win0_5.blk t).view.emb (ix2 r x) = (ix2 (rowOf t r) x : S16384x1024.Idx) := by
  refine funext fun a => Fin.ext ?_
  match a with
  | ⟨0, _⟩ => show win0_5.index t (0 : Fin 2) * 256 + 1 * r.val = 256 * t.val + r.val
              rw [index5 t]; show t.val * 256 + 1 * r.val = _; omega
  | ⟨1, _⟩ => show win0_5.index t (1 : Fin 2) * 1024 + 1 * x.val = x.val
              rw [index5 t]; show 0 * 1024 + 1 * x.val = _; omega

theorem blockOut4 (t : Fin cfg0.N) (r : Fin 256) (x : Fin 1024) :
    (win0_4.blk t).view.emb (ix2 x r) = (ix2 x (rowOf t r) : S1024x16384.Idx) := by
  refine funext fun a => Fin.ext ?_
  match a with
  | ⟨0, _⟩ => show win0_4.index t (0 : Fin 2) * 1024 + 1 * x.val = x.val
              rw [index4 t]; show 0 * 1024 + 1 * x.val = _; omega
  | ⟨1, _⟩ => show win0_4.index t (1 : Fin 2) * 256 + 1 * r.val = 256 * t.val + r.val
              rw [index4 t]; show t.val * 256 + 1 * r.val = _; omega

theorem block1 (c : Dev nD) (t : Fin cfg0.N) : iblk m c 1 t = V m c (Pipeline.arrRef spec0 1) := by blk_ext! [iblk, index1 t]
theorem block2 (c : Dev nD) (t : Fin cfg0.N) : iblk m c 2 t = V m c (Pipeline.arrRef spec0 2) := by blk_ext! [iblk, index2 t]

theorem V_w (c : Dev nD) : V m c (Pipeline.arrRef spec0 2) = (m ((c : Thread nD τ).loc main_arg2) : FVec Ideal S1024x3072 .f32) := by
  unfold V
  simp only [hostOps0, List.flatten_cons, List.flatten_nil, List.append_nil, List.cons_append, List.nil_append]
  after_results_simp
  rfl
theorem V_g (c : Dev nD) (x : Fin 1024) :
    V m c (Pipeline.arrRef spec0 1) (ix2 (0 : Fin 1) x : S1x1024.Idx) = m ((c : Thread nD τ).loc main_arg1) (ix1 x : S1024.Idx) := by
  unfold V
  simp only [hostOps0, List.flatten_cons, List.flatten_nil, List.append_nil, List.cons_append, List.nil_append]
  after_results_simp
  pointwise

/-! ## The arrays -/

/-- Row `r` of the projection of the arguments, at column `x` of group `p`. -/
def projAt (h : FVec Ideal S16384x1024 .f32) (g : FVec Ideal S1024 .f32) (w : FVec Ideal S1024x3072 .f32) (p : Fin 3) (r : Fin 16384) (x : Fin 1024) : EReal :=
  proj (rowsOf h r) (fun e => g (ix1 e)) (rowsOf w) (colOf p x)

theorem proj_blocks (c : Dev nD) (t : Fin cfg0.N) (p : Fin 3) (r : Fin 256) (x : Fin 1024) :
    proj (rowsOf (iblk m c 0 t : FVec Ideal S256x1024 .f32) r) (rowsOf (iblk m c 1 t : FVec Ideal S1x1024 .f32) 0)
        (rowsOf (iblk m c 2 t : FVec Ideal S1024x3072 .bf16)) (colOf p x)
      = projAt (m ((c : Thread nD τ).loc main_arg0)) (m ((c : Thread nD τ).loc main_arg1)) (m ((c : Thread nD τ).loc main_arg2)) p (rowOf t r) x := by
  unfold projAt
  have h0 : rowsOf (iblk m c 0 t : FVec Ideal S256x1024 .f32) r = rowsOf (m ((c : Thread nD τ).loc main_arg0) : FVec Ideal S16384x1024 .f32) (rowOf t r) :=
    funext fun x => block0 m c t r x
  have h1 : rowsOf (iblk m c 1 t : FVec Ideal S1x1024 .f32) 0 = fun x => (m ((c : Thread nD τ).loc main_arg1) : FVec Ideal S1024 .f32) (ix1 x) :=
    funext fun x => (congrFun (block1 m c t) _).trans (V_g m c x)
  have h2 : (iblk m c 2 t : FVec Ideal S1024x3072 .bf16) = (m ((c : Thread nD τ).loc main_arg2) : FVec Ideal S1024x3072 .f32) := (block2 m c t).trans (V_w m c)
  rw [h0, h1, h2]

/-- The queries' array after the run. -/
theorem array3_eq (c : Dev nD) :
    (dats m 0 c).arrAt 3 cfg0.N = fun i : S16384x1024.Idx => projAt (m ((c : Thread nD τ).loc main_arg0)) (m ((c : Thread nD τ).loc main_arg1)) (m ((c : Thread nD τ).loc main_arg2)) 0 (i 0) (i 1) * Ideal.ofBits FTy.f32 1040187392#32 := by
  refine (dats m 0 c).arrAt_eq_of_covers 3 _ (by decide +kernel) fun t hf y => ?_
  blk_simp
  have hy : y = (ix2 (y 0) (y 1) : S256x1024.Idx) := eq_ix2 (n0 := 256) (n1 := 1024) y
  rw [hy, after3_eq]
  refine (q_apply _ _ _ (y 0) (y 1)).trans ((congrArg (· * _) (proj_blocks m c t 0 (y 0) (y 1))).trans ?_)
  refine Eq.symm ((congrArg (fun i : S16384x1024.Idx => projAt (m ((c : Thread nD τ).loc main_arg0)) (m ((c : Thread nD τ).loc main_arg1)) (m ((c : Thread nD τ).loc main_arg2)) 0 (i 0) (i 1) * Ideal.ofBits FTy.f32 1040187392#32) (blockOut3 t (y 0) (y 1))).trans ?_)
  rfl

/-- The keys' array after the run. -/
theorem array4_eq (c : Dev nD) :
    (dats m 0 c).arrAt 4 cfg0.N = fun i : S1024x16384.Idx => projAt (m ((c : Thread nD τ).loc main_arg0)) (m ((c : Thread nD τ).loc main_arg1)) (m ((c : Thread nD τ).loc main_arg2)) 1 (i 1) (i 0) := by
  refine (dats m 0 c).arrAt_eq_of_covers 4 _ (by decide +kernel) fun t hf y => ?_
  blk_simp
  have hy : y = (ix2 (y 0) (y 1) : S1024x256.Idx) := eq_ix2 (n0 := 1024) (n1 := 256) y
  rw [hy, after4_eq]
  refine (k_apply _ _ _ (y 1) (y 0)).trans ((proj_blocks m c t 1 (y 1) (y 0)).trans ?_)
  refine Eq.symm ((congrArg (fun i : S1024x16384.Idx => projAt (m ((c : Thread nD τ).loc main_arg0)) (m ((c : Thread nD τ).loc main_arg1)) (m ((c : Thread nD τ).loc main_arg2)) 1 (i 1) (i 0)) (blockOut4 t (y 1) (y 0))).trans ?_)
  rfl

/-- The values' array after the run. -/
theorem array5_eq (c : Dev nD) :
    (dats m 0 c).arrAt 5 cfg0.N = fun i : S16384x1024.Idx => projAt (m ((c : Thread nD τ).loc main_arg0)) (m ((c : Thread nD τ).loc main_arg1)) (m ((c : Thread nD τ).loc main_arg2)) 2 (i 0) (i 1) := by
  refine (dats m 0 c).arrAt_eq_of_covers 5 _ (by decide +kernel) fun t hf y => ?_
  blk_simp
  have hy : y = (ix2 (y 0) (y 1) : S256x1024.Idx) := eq_ix2 (n0 := 256) (n1 := 1024) y
  rw [hy, after5_eq]
  refine (v_apply _ _ _ (y 0) (y 1)).trans ((proj_blocks m c t 2 (y 0) (y 1)).trans ?_)
  refine Eq.symm ((congrArg (fun i : S16384x1024.Idx => projAt (m ((c : Thread nD τ).loc main_arg0)) (m ((c : Thread nD τ).loc main_arg1)) (m ((c : Thread nD τ).loc main_arg2)) 2 (i 0) (i 1)) (blockOut5 t (y 0) (y 1))).trans ?_)
  rfl

end Cert.QkvIdeal.Qkv

end
-- ==== Proof.Qkv.Equation.lean ====
/- The first layer's query/key/value projection equals its reference. -/
module

public import proofs.«01_k».proof.Defs
public import proofs.«01_k».proof.Proof.Gen.QkvRefIdeal.Run
public import proofs.«01_k».proof.Proof.Mlp.Reference
public import proofs.«01_k».proof.Proof.Qkv.Arrays

@[expose] public section

set_option maxRecDepth 16384

noncomputable section

namespace Cert.QkvRefIdeal.Qkv

open Cert.QkvRefIdeal Cert.QkvRefIdeal.Gen Idealize.ShloMosaic Idealize.ShloMosaic.TcCoe Idealize.SL.Sem
open Cert.MidRefIdeal.Mlp (normed normed_apply)
open Cert.QkvIdeal.Qkv (projAt proj colOf rowsOf)

/-- The three projections side by side. -/
def product (h : FVec Ideal S16384x1024 .f32) (g : FVec Ideal S1024 .f32) (w : FVec Ideal S1024x3072 .f32) : FVec Ideal S16384x3072 .f32 :=
  Host.dotGeneral dot_S16384x1024_S1024x3072_S16384x3072_1_0_0_1_n_n none (normed h g) w
/-- The scaled queries. -/
def queries (P : FVec Ideal S16384x3072 .f32) : FVec Ideal S16384x1024 .bf16 :=
  truncf .bf16 (mulf (shapeCast S16384x1024 (extractStridedSlice S16384x1x1024 ![0, 0, 0] (shapeCast S16384x3x1024 P shapeCasts_S16384x3072_S16384x3x1024) slices_S16384x3x1024_S16384x1x1024_0_0_0) shapeCasts_S16384x1x1024_S16384x1024) (broadcastInDim S16384x1024 ![] bcast_S_S16384x1024 (constant S_ .f32 0x3E000000#32))) bitsLt_bf16_f32
/-- The transposed keys. -/
def keys (P : FVec Ideal S16384x3072 .f32) : FVec Ideal S1024x16384 .bf16 :=
  truncf .bf16 (transpose S1024x16384 [1, 0] (shapeCast S16384x1024 (extractStridedSlice S16384x1x1024 ![0, 1, 0] (shapeCast S16384x3x1024 P shapeCasts_S16384x3072_S16384x3x1024) slices_S16384x3x1024_S16384x1x1024_0_1_0) shapeCasts_S16384x1x1024_S16384x1024) transposes_S16384x1024_S1024x16384_1_0) bitsLt_bf16_f32
/-- The values. -/
def values (P : FVec Ideal S16384x3072 .f32) : FVec Ideal S16384x1024 .bf16 :=
  truncf .bf16 (shapeCast S16384x1024 (extractStridedSlice S16384x1x1024 ![0, 2, 0] (shapeCast S16384x3x1024 P shapeCasts_S16384x3072_S16384x3x1024) slices_S16384x3x1024_S16384x1x1024_0_2_0) shapeCasts_S16384x1x1024_S16384x1024) bitsLt_bf16_f32

theorem product_apply (h : FVec Ideal S16384x1024 .f32) (g : FVec Ideal S1024 .f32) (w : FVec Ideal S1024x3072 .f32) (p : Fin 3) (r : Fin 16384) (x : Fin 1024) :
    product h g w (ix2 r (colOf p x)) = projAt h g w p r x := by
  unfold projAt proj
  pointwise [product]
  exact Finset.sum_congr rfl fun e _ => congrArg (· * _) (normed_apply h g r e)

variable (P : FVec Ideal S16384x3072 .f32)

theorem queries_apply (r : Fin 16384) (x : Fin 1024) : queries P (ix2 r x) = P (ix2 r (colOf 0 x)) * Ideal.ofBits FTy.f32 1040187392#32 := by
  have hc : colOf 0 x = ⟨x.val, by omega⟩ := Fin.ext (by show 1024 * 0 + x.val = x.val; omega)
  rw [hc]
  pointwise [queries]
theorem keys_apply (r : Fin 16384) (x : Fin 1024) : keys P (ix2 x r) = P (ix2 r (colOf 1 x)) := by
  pointwise [keys]
  rfl
theorem values_apply (r : Fin 16384) (x : Fin 1024) : values P (ix2 r x) = P (ix2 r (colOf 2 x)) := by
  pointwise [values]
  rfl

variable (m : (ℓ : Loc nD τ sig) → Buf (Elt Ideal) ℓ) (ρ : Dev nD → PrngReg)

/-- The reference's run, its results named. -/
theorem run : θ_run defs (onTc (τ := τ) (main (F := Ideal))) ⟨m, fun _ => 0, ρ⟩ fun r => ∀ c : Dev nD,
      r.2.mem ((c.tc : Thread nD τ).loc main_v23) = queries (product (m ((c.tc : Thread nD τ).loc main_arg0)) (m ((c.tc : Thread nD τ).loc main_arg1)) (m ((c.tc : Thread nD τ).loc main_arg2)))
      ∧ r.2.mem ((c.tc : Thread nD τ).loc main_v25) = keys (product (m ((c.tc : Thread nD τ).loc main_arg0)) (m ((c.tc : Thread nD τ).loc main_arg1)) (m ((c.tc : Thread nD τ).loc main_arg2)))
      ∧ r.2.mem ((c.tc : Thread nD τ).loc main_v26) = values (product (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.QkvRefIdeal.Value.run (F := Ideal) m ρ

end Cert.QkvRefIdeal.Qkv

namespace Cert.Qkv

open Idealize.ShloMosaic Idealize.ShloMosaic.TcCoe Idealize.SL.Sem

/-- The projection. -/
theorem algebraic_qkv : Cert.algebraic_QkvIdeal_QkvRefIdeal (hQkvIdeal := Cert.QkvIdeal.Gen.facts) (hQkvRefIdeal := Cert.QkvRefIdeal.Gen.facts) := by
  intro m ρ m' ρ' _ hagree
  refine ⟨fun c => (Cert.QkvIdeal.Gen.dats m 0 c).arrAt 3 Cert.QkvIdeal.cfg0.N, fun c => (Cert.QkvIdeal.Gen.dats m 0 c).arrAt 4 Cert.QkvIdeal.cfg0.N,
    fun c => (Cert.QkvIdeal.Gen.dats m 0 c).arrAt 5 Cert.QkvIdeal.cfg0.N, Cert.QkvIdeal.Value.run_blocks (F := Ideal) m ρ, ?_⟩
  refine (θ_run Cert.QkvRefIdeal.defs _ _).mono (fun _ h c => ⟨(h c).1.trans ?_, (h c).2.1.trans ?_, (h c).2.2.1.trans ?_, (h c).2.2.2⟩) (Cert.QkvRefIdeal.Qkv.run m' ρ')
  · obtain ⟨h0, h1, h2⟩ := hagree c
    rw [h0, h1, h2]
    refine Eq.trans ?_ (Cert.QkvIdeal.Qkv.array3_eq m c).symm
    refine funext fun i => ?_
    refine (congrArg _ (eq_ix2 (n0 := 16384) (n1 := 1024) i)).trans ?_
    exact (Cert.QkvRefIdeal.Qkv.queries_apply _ (i 0) (i 1)).trans (congrArg (· * _) (Cert.QkvRefIdeal.Qkv.product_apply _ _ _ 0 (i 0) (i 1)))
  · obtain ⟨h0, h1, h2⟩ := hagree c
    rw [h0, h1, h2]
    refine Eq.trans ?_ (Cert.QkvIdeal.Qkv.array4_eq m c).symm
    refine funext fun i => ?_
    refine (congrArg _ (eq_ix2 (n0 := 1024) (n1 := 16384) i)).trans ?_
    exact (Cert.QkvRefIdeal.Qkv.keys_apply _ (i 1) (i 0)).trans (Cert.QkvRefIdeal.Qkv.product_apply _ _ _ 1 (i 1) (i 0))
  · obtain ⟨h0, h1, h2⟩ := hagree c
    rw [h0, h1, h2]
    refine Eq.trans ?_ (Cert.QkvIdeal.Qkv.array5_eq m c).symm
    refine funext fun i => ?_
    refine (congrArg _ (eq_ix2 (n0 := 16384) (n1 := 1024) i)).trans ?_
    exact (Cert.QkvRefIdeal.Qkv.values_apply _ (i 0) (i 1)).trans (Cert.QkvRefIdeal.Qkv.product_apply _ _ _ 2 (i 0) (i 1))

end Cert.Qkv

end
-- ==== Proof.Kvq.Steps.lean ====
/- What the shared projection's body stores, one store at a time: each is a step on one half of the block's rows, at any
   column or head, read at an index. -/
module

public import proofs.«01_k».proof.Proof.Gen.KvqIdeal.Value
public import proofs.«01_k».proof.Proof.Mlp.Row
public import Idealize.ShloMosaic.Lib.Pipeline.ValueKit
public import Idealize.ShloMosaic.Lib.StableHlo.RunClose
import Idealize.ShloMosaic.Lib.Pipeline.ReadBack

@[expose] public section

set_option maxRecDepth 16384

noncomputable section

namespace Cert.KvqIdeal.Kvq

open Cert.KvqIdeal Cert.KvqIdeal.Gen Idealize.ShloMosaic Idealize.ShloMosaic.TcCoe Idealize.SL.Sem Idealize.ShloMosaic.Tactic

/-- The rows of a matrix. -/
abbrev rowsOf {n k : ℕ} (A : (⟨2, ![n, k]⟩ : Shape).Idx → EReal) (r : Fin n) (x : Fin k) : EReal := A (ix2 r x)

/-- A normed row times a column of a matrix of `n` columns. -/
def proj {n : ℕ} (h g : Fin 1024 → EReal) (w : Fin 1024 → Fin n → EReal) (y : Fin n) : EReal := ∑ e, Cert.Mlp.rms h g e * w e y

/-- A row of two heads times the first table, plus its columns eight to the right times the second and eight to the left times
    the third. -/
def turnRow (a c s1 s2 : Fin 128 → EReal) (y : Fin 128) : EReal :=
  a y * c y + a ⟨(y.val + 8) % 128, by omega⟩ * s1 y + a ⟨(y.val + 120) % 128, by omega⟩ * s2 y

/-! ## The steps -/

/-- The product of the normed rows with the shared matrix, and with the query matrix. -/
def accKv (h : FVec Ideal S256x1024 .f32) (g : FVec Ideal S1x1024 .f32) (w : FVec Ideal S1024x1536 .bf16) : FVec Ideal S256x1536 .f32 :=
  k0_pay5 (F := Ideal) h g w
def accQ (h : FVec Ideal S256x1024 .f32) (g : FVec Ideal S1x1024 .f32) (w : FVec Ideal S1024x1152 .bf16) : FVec Ideal S256x1152 .f32 :=
  k0_pay94 (F := Ideal) h g w

/-- The rotary step on two heads side by side. -/
def turn (X c s1 s2 : FVec Ideal S256x128 .f32) : FVec Ideal S256x128 .f32 :=
  addf (addf (mulf X (shapeCast S256x128 c shapeCasts_S256x128_S256x128))
      (mulf (dynamicRotate 1 120#32 none X rotates_S256x128_d1) (shapeCast S256x128 s1 shapeCasts_S256x128_S256x128)))
    (mulf (dynamicRotate 1 8#32 none X rotates_S256x128_d1) (shapeCast S256x128 s2 shapeCasts_S256x128_S256x128))

/-- A key store: the columns from `p + q` on as two turned heads, of which the columns from `o` on. -/
def keyStep (A : FVec Ideal S256x1536 .f32) (c s1 s2 : FVec Ideal S256x128 .f32) (p q o : ℕ) (hp : S256x1536.Slices ![0, p] S256x256)
    (hq : S256x256.Slices ![0, q] S256x128) (ho : S256x128.Slices ![0, o] S256x64) : FVec Ideal S1x256x64 .bf16 :=
  shapeCast S1x256x64 (truncf .bf16 (extractStridedSlice S256x64 ![0, o] (turn (extractStridedSlice S256x128 ![0, q] (extractStridedSlice S256x256 ![0, p] A hp) hq) c s1 s2) ho) bitsLt_bf16_f32) shapeCasts_S256x64_S1x256x64
/-- A value store: the columns from `p + o` on, transposed. -/
def valueStep (A : FVec Ideal S256x1536 .f32) (p o : ℕ) (hp : S256x1536.Slices ![0, p] S256x256) (ho : S256x256.Slices ![o, 0] S64x256) : FVec Ideal S1x64x256 .bf16 :=
  shapeCast S1x64x256 (truncf .bf16 (extractStridedSlice S64x256 ![o, 0] (transpose S256x256 [1, 0] (extractStridedSlice S256x256 ![0, p] A hp) transposes_S256x256_p1_0_S256x256) ho) bitsLt_bf16_f32) shapeCasts_S64x256_S1x64x256
/-- The store below the values: a row of ones over rows of zeros. -/
def onesStep : FVec Ideal S1x16x256 .bf16 :=
  shapeCast S1x16x256 (k0_pay7 (F := Ideal) (iota .tc S16x256 32 [0] iota_S16x256_d0_w32)) shapeCasts_S16x256_S1x16x256
/-- Two scaled queries, from column `p` on. -/
def scaled (A : FVec Ideal S256x1152 .f32) (p : ℕ) (hp : S256x1152.Slices ![0, p] S256x128) : FVec Ideal S256x128 .f32 :=
  mulf (extractStridedSlice S256x128 ![0, p] A hp) (broadcast S256x128 (Scalar.ofBits (F := Ideal) .f32 0x3E38AA3B#32))
def queryStep (A : FVec Ideal S256x1152 .f32) (p : ℕ) (hp : S256x1152.Slices ![0, p] S256x128) : FVec Ideal S256x128 .bf16 :=
  truncf .bf16 (scaled A p hp) bitsLt_bf16_f32
def turnedStep (A : FVec Ideal S256x1152 .f32) (c s1 s2 : FVec Ideal S256x128 .f32) (p : ℕ) (hp : S256x1152.Slices ![0, p] S256x128) : FVec Ideal S256x128 .bf16 :=
  truncf .bf16 (turn (scaled A p hp) c s1 s2) bitsLt_bf16_f32
/-- A gate store: the sigmoids of the columns after the queries, transposed, from row `o` on. -/
def gateStep (A : FVec Ideal S256x1152 .f32) (b : FVec Ideal S1x128 .f32) (o : ℕ) (ho : S128x256.Slices ![o, 0] S16x256) : FVec Ideal S1x16x256 .f32 :=
  shapeCast S1x16x256 (extractStridedSlice S16x256 ![o, 0] (k0_pay129 (F := Ideal) A b) ho) shapeCasts_S16x256_S1x16x256

/-! ## The steps at an index -/

theorem accKv_apply (h : FVec Ideal S256x1024 .f32) (g : FVec Ideal S1x1024 .f32) (w : FVec Ideal S1024x1536 .bf16) (r : Fin 256) (y : Fin 1536) :
    accKv h g w (ix2 r y) = proj (rowsOf h r) (rowsOf g 0) (rowsOf w) y := by
  pointwise [accKv, k0_pay5]
  rfl
theorem accQ_apply (h : FVec Ideal S256x1024 .f32) (g : FVec Ideal S1x1024 .f32) (w : FVec Ideal S1024x1152 .bf16) (r : Fin 256) (y : Fin 1152) :
    accQ h g w (ix2 r y) = proj (rowsOf h r) (rowsOf g 0) (rowsOf w) y := by
  pointwise [accQ, k0_pay94]
  rfl

theorem turn_apply (X c s1 s2 : FVec Ideal S256x128 .f32) (r : Fin 256) (y : Fin 128) :
    turn X c s1 s2 (ix2 r y) = turnRow (rowsOf X r) (rowsOf c r) (rowsOf s1 r) (rowsOf s2 r) y := by
  pointwise [turn]
  rfl

theorem keyStep_apply (A : FVec Ideal S256x1536 .f32) (c s1 s2 : FVec Ideal S256x128 .f32) (p q o : ℕ) (hp : S256x1536.Slices ![0, p] S256x256)
    (hq : S256x256.Slices ![0, q] S256x128) (ho : S256x128.Slices ![0, o] S256x64) (hpq : p + q + 128 ≤ 1536) (ho' : o + 64 ≤ 128) (r : Fin 256) (x : Fin 64) :
    keyStep A c s1 s2 p q o hp hq ho (ix3 0 r x)
      = turnRow (fun y => A (ix2 r ⟨p + q + y.val, by omega⟩)) (rowsOf c r) (rowsOf s1 r) (rowsOf s2 r) ⟨o + x.val, by omega⟩ := by
  have hX : rowsOf (extractStridedSlice S256x128 ![0, q] (extractStridedSlice S256x256 ![0, p] A hp) hq) r = fun y => A (ix2 r ⟨p + q + y.val, by omega⟩) := by
    refine funext fun y => ?_
    pointwise
    exact congrArg (fun z => A (ix2 r z)) (Fin.ext (Nat.add_assoc p q y.val).symm)
  pointwise [keyStep]
  rw [turn_apply, hX]

theorem valueStep_apply (A : FVec Ideal S256x1536 .f32) (p o : ℕ) (hp : S256x1536.Slices ![0, p] S256x256) (ho : S256x256.Slices ![o, 0] S64x256)
    (hpo : p + o + 64 ≤ 1536) (r : Fin 256) (x : Fin 64) :
    valueStep A p o hp ho (ix3 0 x r) = A (ix2 r ⟨p + o + x.val, by omega⟩) := by
  pointwise [valueStep]
  exact congrArg (fun z => A (ix2 r z)) (Fin.ext (Nat.add_assoc p o x.val).symm)
theorem onesStep_apply (r : Fin 256) (x : Fin 16) :
    onesStep (ix3 0 x r) = if x.val = 0 then 1 else 0 := by
  pointwise [onesStep, k0_pay7]
  have h1 : FloatOps.sitofp (F := Ideal) FTy.f32 1#32 = (1 : EReal) := by show (((1#32).toInt : ℝ) : EReal) = 1; norm_num
  have h0 : FloatOps.sitofp (F := Ideal) FTy.f32 0#32 = (0 : EReal) := by show (((0#32).toInt : ℝ) : EReal) = 0; norm_num
  fin_cases x <;> first | exact h1 | exact h0
theorem queryStep_apply (A : FVec Ideal S256x1152 .f32) (p : ℕ) (hp : S256x1152.Slices ![0, p] S256x128) (hp' : p + 128 ≤ 1152) (r : Fin 256) (y : Fin 128) :
    queryStep A p hp (ix2 r y) = A (ix2 r ⟨p + y.val, by omega⟩) * Ideal.ofBits FTy.f32 0x3E38AA3B#32 := by
  pointwise [queryStep, scaled]
theorem turnedStep_apply (A : FVec Ideal S256x1152 .f32) (c s1 s2 : FVec Ideal S256x128 .f32) (p : ℕ) (hp : S256x1152.Slices ![0, p] S256x128) (hp' : p + 128 ≤ 1152) (r : Fin 256) (y : Fin 128) :
    turnedStep A c s1 s2 p hp (ix2 r y)
      = turnRow (fun y => A (ix2 r ⟨p + y.val, by omega⟩) * Ideal.ofBits FTy.f32 0x3E38AA3B#32) (rowsOf c r) (rowsOf s1 r) (rowsOf s2 r) y := by
  have hX : rowsOf (scaled A p hp) r = fun y => A (ix2 r ⟨p + y.val, by omega⟩) * Ideal.ofBits FTy.f32 0x3E38AA3B#32 := by
    refine funext fun y => ?_
    pointwise [scaled]
  pointwise [turnedStep]
  rw [turn_apply, hX]
theorem gateStep_apply (A : FVec Ideal S256x1152 .f32) (b : FVec Ideal S1x128 .f32) (o : ℕ) (ho : S128x256.Slices ![o, 0] S16x256) (ho' : o + 16 ≤ 128) (r : Fin 256) (x : Fin 16) :
    gateStep A b o ho (ix3 0 x r) = Ideal.logistic (A (ix2 r ⟨1024 + o + x.val, by omega⟩) + b (ix2 0 ⟨o + x.val, by omega⟩)) := by
  pointwise [gateStep, k0_pay129]
  rw [zero_sub]
  exact congrArg (fun z => Ideal.logistic (A (ix2 r z) + b (ix2 0 ⟨o + x.val, by omega⟩))) (Fin.ext (Nat.add_assoc 1024 o x.val).symm)

end Cert.KvqIdeal.Kvq

end
-- ==== Proof.Kvq.Cells.lean ====
/- What one row gives to each of the shared projection's results, and a store of a half block read as these cells. -/
module

public import proofs.«01_k».proof.Proof.Kvq.Steps

@[expose] public section

set_option maxRecDepth 16384

noncomputable section

namespace Cert.KvqIdeal.Kvq

open Cert.KvqIdeal Cert.KvqIdeal.Gen Idealize.ShloMosaic Idealize.ShloMosaic.TcCoe Idealize.SL.Sem Idealize.ShloMosaic.Tactic

/-! ## The cells -/

/-- The factor of the queries. -/
def qScale : EReal := Ideal.ofBits FTy.f32 0x3E38AA3B#32

/-- Group `g`'s key at column `x`, the keys from column `o` on. -/
def keyCell (a : Fin 1536 → EReal) (c s1 s2 : Fin 128 → EReal) (o : ℕ) (ho : o + 256 ≤ 1536) (g : Fin 4) (x : Fin 64) : EReal :=
  turnRow (fun y => a ⟨o + 128 * (g.val / 2) + y.val, by omega⟩) c s1 s2 ⟨64 * (g.val % 2) + x.val, by omega⟩
/-- Group `g`'s value at row `x`, the values from column `o` on: below them a row of ones and rows of zeros. -/
def valueCell (a : Fin 1536 → EReal) (o : ℕ) (ho : o + 256 ≤ 1536) (g : Fin 4) (x : Fin 80) : EReal :=
  if h : x.val < 64 then a ⟨o + 64 * g.val + x.val, by omega⟩ else if x.val = 64 then 1 else 0
/-- A query at column `y`. -/
def queryCell (a : Fin 1152 → EReal) (y : Fin 1024) : EReal := a ⟨y.val, by omega⟩ * qScale
/-- A turned query at column `y`. -/
def turnedCell (a : Fin 1152 → EReal) (c s1 s2 : Fin 128 → EReal) (y : Fin 1024) : EReal :=
  turnRow (fun z => a ⟨128 * (y.val / 128) + z.val, by omega⟩ * qScale) c s1 s2 ⟨y.val % 128, by omega⟩
/-- Group `g`'s gate `k`. -/
def gateCell (a : Fin 1152 → EReal) (b : Fin 128 → EReal) (g : Fin 4) (k : Fin 16) : EReal :=
  Ideal.logistic (a ⟨1024 + 16 * g.val + k.val, by omega⟩ + b ⟨16 * g.val + k.val, by omega⟩)

/-! ## Half a block -/

/-- Half a block: 256 rows from row `ρ` on. -/
abbrev half {n : ℕ} (H : (⟨2, ![512, n]⟩ : Shape).Idx → EReal) (ρ : ℕ) (h : ∀ a, ![ρ, 0] a + ![256, n] a ≤ (⟨2, ![512, n]⟩ : Shape).size a) :
    (⟨2, ![256, n]⟩ : Shape).Idx → EReal :=
  View.ld (Val := Elt Ideal) (e' := .f32) H (Rect.unit (s := ⟨2, ![512, n]⟩) ![ρ, 0] ![256, n] h)

theorem half_rows {n : ℕ} (H : (⟨2, ![512, n]⟩ : Shape).Idx → EReal) (ρ : ℕ) (h) (hρ : ρ + 256 ≤ 512) (r : Fin 256) :
    rowsOf (half H ρ h) r = rowsOf H ⟨ρ + r.val, by omega⟩ := by
  refine funext fun x => congrArg H (funext fun a => Fin.ext ?_)
  match a with
  | ⟨0, _⟩ => show ρ + 1 * r.val = ρ + r.val; omega
  | ⟨1, _⟩ => show 0 + 1 * x.val = x.val; omega

variable (H : FVec Ideal S512x1024 .f32) (g : FVec Ideal S1x1024 .f32) (w : FVec Ideal S1024x1536 .bf16) (wq : FVec Ideal S1024x1152 .bf16)
  (b : FVec Ideal S1x128 .f32) (C S1 S2 : FVec Ideal S512x128 .f32)

/-- A block row's shared projection, and its query projection. -/
def kvRow (r : Fin 512) : Fin 1536 → EReal := proj (rowsOf H r) (rowsOf g 0) (rowsOf w)
def qRow (r : Fin 512) : Fin 1152 → EReal := proj (rowsOf H r) (rowsOf g 0) (rowsOf wq)

theorem kv_half (ρ : ℕ) (h) (hρ : ρ + 256 ≤ 512) (r : Fin 256) (y : Fin 1536) :
    accKv (half H ρ h) g w (ix2 r y) = kvRow H g w ⟨ρ + r.val, by omega⟩ y := by
  rw [accKv_apply, half_rows H ρ h hρ r]
  rfl
theorem q_half (ρ : ℕ) (h) (hρ : ρ + 256 ≤ 512) (r : Fin 256) (y : Fin 1152) :
    accQ (half H ρ h) g wq (ix2 r y) = qRow H g wq ⟨ρ + r.val, by omega⟩ y := by
  rw [accQ_apply, half_rows H ρ h hρ r]
  rfl

/-! ## The blocks -/

def cmpBlock (i : S512x512.Idx) : EReal := kvRow H g w (i 0) ⟨(i 1).val, Nat.lt_trans (i 1).isLt (by decide)⟩
def keyBlock (o : ℕ) (ho : o + 256 ≤ 1536) (i : S4x512x64.Idx) : EReal :=
  keyCell (kvRow H g w (i 1)) (rowsOf C (i 1)) (rowsOf S1 (i 1)) (rowsOf S2 (i 1)) o ho (i 0) (i 2)
def valueBlock (o : ℕ) (ho : o + 256 ≤ 1536) (i : S4x80x512.Idx) : EReal := valueCell (kvRow H g w (i 2)) o ho (i 0) (i 1)
def queryBlock (i : S512x1024.Idx) : EReal := queryCell (qRow H g wq (i 0)) (i 1)
def turnedBlock (i : S512x1024.Idx) : EReal := turnedCell (qRow H g wq (i 0)) (rowsOf C (i 0)) (rowsOf S1 (i 0)) (rowsOf S2 (i 0)) (i 1)
def gateBlock (i : S4x16x512.Idx) : EReal := gateCell (qRow H g wq (i 2)) (rowsOf b 0) (i 0) (i 1)

/-! ## The stores -/

/-- Where a store's index lies in the block. -/
theorem emb2 {n0 n1 k0 k1 : ℕ} (o0 o1 : ℕ) (h) (x0 : Fin k0) (x1 : Fin k1) (h0 : o0 + k0 ≤ n0) (h1 : o1 + k1 ≤ n1) :
    (Rect.unit (s := ⟨2, ![n0, n1]⟩) ![o0, o1] ![k0, k1] h).emb (ix2 x0 x1) = ix2 ⟨o0 + x0.val, by omega⟩ ⟨o1 + x1.val, by omega⟩ := by
  refine funext fun a => Fin.ext ?_
  match a with
  | ⟨0, _⟩ => show o0 + 1 * x0.val = o0 + x0.val; omega
  | ⟨1, _⟩ => show o1 + 1 * x1.val = o1 + x1.val; omega
theorem emb3 {n0 n1 n2 k0 k1 k2 : ℕ} (o0 o1 o2 : ℕ) (h) (x0 : Fin k0) (x1 : Fin k1) (x2 : Fin k2) (h0 : o0 + k0 ≤ n0) (h1 : o1 + k1 ≤ n1) (h2 : o2 + k2 ≤ n2) :
    (Rect.unit (s := ⟨3, ![n0, n1, n2]⟩) ![o0, o1, o2] ![k0, k1, k2] h).emb (ix3 x0 x1 x2)
      = ix3 ⟨o0 + x0.val, by omega⟩ ⟨o1 + x1.val, by omega⟩ ⟨o2 + x2.val, by omega⟩ := by
  refine funext fun a => Fin.ext ?_
  match a with
  | ⟨0, _⟩ => show o0 + 1 * x0.val = o0 + x0.val; omega
  | ⟨1, _⟩ => show o1 + 1 * x1.val = o1 + x1.val; omega
  | ⟨2, _⟩ => show o2 + 1 * x2.val = o2 + x2.val; omega

theorem cmp_piece (ρ : ℕ) (h hi) (hρ : ρ + 256 ≤ 512) (x : S256x512.Idx) :
    k0_pay8 (F := Ideal) (accKv (half H ρ h) g w) x = cmpBlock H g w ((Rect.unit (s := S512x512) ![ρ, 0] ![256, 512] hi).emb x) := by
  obtain ⟨r, y, rfl⟩ : ∃ (r : Fin 256) (y : Fin 512), x = ix2 r y := ⟨x 0, x 1, eq_ix2 (n0 := 256) (n1 := 512) x⟩
  refine Eq.trans ?_ (congrArg (cmpBlock H g w) (emb2 ρ 0 hi r y hρ (by decide)).symm)
  pointwise [k0_pay8]
  exact kv_half H g w ρ h hρ r _

theorem key_piece (o : ℕ) (ho : o + 256 ≤ 1536) (γ ρ p q u : ℕ) (h h' hi) (hp hq hu) (hγ : γ < 4) (hρ : ρ + 256 ≤ 512)
    (hpq : p + q = o + 128 * (γ / 2)) (hu' : u = 64 * (γ % 2)) (x : S1x256x64.Idx) :
    keyStep (accKv (half H ρ h) g w) (half C ρ h') (half S1 ρ h') (half S2 ρ h') p q u hp hq hu x
      = keyBlock H g w C S1 S2 o ho ((Rect.unit (s := S4x512x64) ![γ, ρ, 0] ![1, 256, 64] hi).emb x) := by
  subst hu'
  obtain ⟨z, r, y, rfl⟩ : ∃ (z : Fin 1) (r : Fin 256) (y : Fin 64), x = ix3 z r y := ⟨x 0, x 1, x 2, eq_ix3 (n0 := 1) (n1 := 256) (n2 := 64) x⟩
  obtain rfl : z = 0 := Subsingleton.elim _ _
  refine Eq.trans ?_ (congrArg (keyBlock H g w C S1 S2 o ho) (emb3 γ ρ 0 hi 0 r y (by omega) hρ (by decide)).symm)
  rw [keyStep_apply _ _ _ _ p q (64 * (γ % 2)) hp hq hu (by omega) (by omega) r y, half_rows C ρ h' hρ r, half_rows S1 ρ h' hρ r, half_rows S2 ρ h' hρ r]
  have hA : (fun y : Fin 128 => accKv (half H ρ h) g w (ix2 r ⟨p + q + y.val, by omega⟩))
      = fun y : Fin 128 => kvRow H g w ⟨ρ + r.val, by omega⟩ ⟨o + 128 * (γ / 2) + y.val, by omega⟩ :=
    funext fun y => (kv_half H g w ρ h hρ r _).trans (congrArg (kvRow H g w _) (Fin.ext (congrArg (· + y.val) hpq)))
  rw [hA]
  exact congrArg (turnRow _ _ _ _) (Fin.ext (by show 64 * (γ % 2) + y.val = 64 * (γ % 2) + (0 + y.val); omega))

theorem value_piece (o : ℕ) (ho : o + 256 ≤ 1536) (γ ρ u : ℕ) (h hi) (hp hu) (hγ : γ < 4) (hρ : ρ + 256 ≤ 512) (hu' : u = 64 * γ) (x : S1x64x256.Idx) :
    valueStep (accKv (half H ρ h) g w) o u hp hu x = valueBlock H g w o ho ((Rect.unit (s := S4x80x512) ![γ, 0, ρ] ![1, 64, 256] hi).emb x) := by
  subst hu'
  obtain ⟨z, y, r, rfl⟩ : ∃ (z : Fin 1) (y : Fin 64) (r : Fin 256), x = ix3 z y r := ⟨x 0, x 1, x 2, eq_ix3 (n0 := 1) (n1 := 64) (n2 := 256) x⟩
  obtain rfl : z = 0 := Subsingleton.elim _ _
  refine Eq.trans ?_ (congrArg (valueBlock H g w o ho) (emb3 γ 0 ρ hi 0 y r (by omega) (by decide) hρ).symm)
  rw [valueStep_apply _ o (64 * γ) hp hu (by omega) r y, kv_half H g w ρ h hρ r]
  refine Eq.trans ?_ (dif_pos (show 0 + y.val < 64 by omega)).symm
  exact congrArg (kvRow H g w _) (Fin.ext (by show o + 64 * γ + y.val = o + 64 * (γ + 0) + (0 + y.val); omega))
theorem ones_piece (o : ℕ) (ho : o + 256 ≤ 1536) (γ ρ : ℕ) (hi) (hγ : γ < 4) (hρ : ρ + 256 ≤ 512) (x : S1x16x256.Idx) :
    onesStep x = valueBlock H g w o ho ((Rect.unit (s := S4x80x512) ![γ, 64, ρ] ![1, 16, 256] hi).emb x) := by
  obtain ⟨z, y, r, rfl⟩ : ∃ (z : Fin 1) (y : Fin 16) (r : Fin 256), x = ix3 z y r := ⟨x 0, x 1, x 2, eq_ix3 (n0 := 1) (n1 := 16) (n2 := 256) x⟩
  obtain rfl : z = 0 := Subsingleton.elim _ _
  refine Eq.trans ?_ (congrArg (valueBlock H g w o ho) (emb3 γ 64 ρ hi 0 y r (by omega) (by decide) hρ).symm)
  rw [onesStep_apply r y]
  refine Eq.trans ?_ (dif_neg (show ¬ 64 + y.val < 64 by omega)).symm
  exact if_congr (show y.val = 0 ↔ 64 + y.val = 64 by omega) rfl rfl

theorem query_piece (ρ p : ℕ) (h hi) (hp) (hρ : ρ + 256 ≤ 512) (hp' : p + 128 ≤ 1024) (x : S256x128.Idx) :
    queryStep (accQ (half H ρ h) g wq) p hp x = queryBlock H g wq ((Rect.unit (s := S512x1024) ![ρ, p] ![256, 128] hi).emb x) := by
  obtain ⟨r, y, rfl⟩ : ∃ (r : Fin 256) (y : Fin 128), x = ix2 r y := ⟨x 0, x 1, eq_ix2 (n0 := 256) (n1 := 128) x⟩
  refine Eq.trans ?_ (congrArg (queryBlock H g wq) (emb2 ρ p hi r y hρ hp').symm)
  rw [queryStep_apply _ p hp (by omega) r y, q_half H g wq ρ h hρ r]
  rfl
theorem turned_piece (ρ p k : ℕ) (h h' hi) (hp) (hρ : ρ + 256 ≤ 512) (hk : p = 128 * k) (hk' : k < 8) (x : S256x128.Idx) :
    turnedStep (accQ (half H ρ h) g wq) (half C ρ h') (half S1 ρ h') (half S2 ρ h') p hp x
      = turnedBlock H g wq C S1 S2 ((Rect.unit (s := S512x1024) ![ρ, p] ![256, 128] hi).emb x) := by
  subst hk
  obtain ⟨r, y, rfl⟩ : ∃ (r : Fin 256) (y : Fin 128), x = ix2 r y := ⟨x 0, x 1, eq_ix2 (n0 := 256) (n1 := 128) x⟩
  refine Eq.trans ?_ (congrArg (turnedBlock H g wq C S1 S2) (emb2 ρ (128 * k) hi r y hρ (by omega)).symm)
  rw [turnedStep_apply _ _ _ _ (128 * k) hp (by omega) r y, half_rows C ρ h' hρ r, half_rows S1 ρ h' hρ r, half_rows S2 ρ h' hρ r]
  have hd : (128 * k + y.val) / 128 = k := by omega
  have hA : (fun z : Fin 128 => accQ (half H ρ h) g wq (ix2 r ⟨128 * k + z.val, by omega⟩) * Ideal.ofBits FTy.f32 0x3E38AA3B#32)
      = fun z : Fin 128 => qRow H g wq ⟨ρ + r.val, by omega⟩ ⟨128 * ((128 * k + y.val) / 128) + z.val, by omega⟩ * qScale :=
    funext fun z => congrArg (· * qScale) ((q_half H g wq ρ h hρ r _).trans (congrArg (qRow H g wq _) (Fin.ext (by show 128 * k + z.val = 128 * ((128 * k + y.val) / 128) + z.val; rw [hd]))))
  rw [hA]
  exact congrArg (turnRow _ _ _ _) (Fin.ext (by show y.val = (128 * k + y.val) % 128; omega))
theorem gate_piece (γ ρ u : ℕ) (h hi) (hu) (hγ : γ < 4) (hρ : ρ + 256 ≤ 512) (hu' : u = 16 * γ) (x : S1x16x256.Idx) :
    gateStep (accQ (half H ρ h) g wq) b u hu x = gateBlock H g wq b ((Rect.unit (s := S4x16x512) ![γ, 0, ρ] ![1, 16, 256] hi).emb x) := by
  subst hu'
  obtain ⟨z, y, r, rfl⟩ : ∃ (z : Fin 1) (y : Fin 16) (r : Fin 256), x = ix3 z y r := ⟨x 0, x 1, x 2, eq_ix3 (n0 := 1) (n1 := 16) (n2 := 256) x⟩
  obtain rfl : z = 0 := Subsingleton.elim _ _
  refine Eq.trans ?_ (congrArg (gateBlock H g wq b) (emb3 γ 0 ρ hi 0 y r (by omega) (by decide) hρ).symm)
  rw [gateStep_apply _ b (16 * γ) hu (by omega) r y, q_half H g wq ρ h hρ r]
  have e1 : (⟨1024 + 16 * γ + y.val, by omega⟩ : Fin 1152) = ⟨1024 + 16 * (γ + 0) + (0 + y.val), by omega⟩ := Fin.ext (by show _ = _; simp only [Nat.add_zero, Nat.zero_add])
  have e2 : (⟨16 * γ + y.val, by omega⟩ : Fin 128) = ⟨16 * (γ + 0) + (0 + y.val), by omega⟩ := Fin.ext (by show _ = _; simp only [Nat.add_zero, Nat.zero_add])
  rw [e1, e2]
  rfl

end Cert.KvqIdeal.Kvq

end
-- ==== Proof.Kvq.Blocks.lean ====
/- What the shared projection's body leaves in each result's block: its stores are the cells of the block's rows. -/
module

public import proofs.«01_k».proof.Proof.Kvq.Cells
import Idealize.ShloMosaic.Lib.Pipeline.ReadBack

@[expose] public section

set_option maxRecDepth 16384

noncomputable section

namespace Cert.KvqIdeal.Kvq

open Cert.KvqIdeal Cert.KvqIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD) (t : Fin cfg0.N)

theorem after9_eq : (dats m 0 c).after 9 t = cmpBlock (iblk m c 0 t) (iblk m c 1 t) (iblk m c 2 t) := by
  rw [after0_9]
  frame_out
  funext y
  refine View.canon_append_of_piecesOf (Val := Elt Ideal) (e := .f32) (cmpBlock (iblk m c 0 t) (iblk m c 1 t) (iblk m c 2 t)) [] [_, _] ⟨?_, ?_, trivial⟩ y ?_
  · exact cmp_piece _ _ _ 256 _ (by decide) (by decide)
  · exact cmp_piece _ _ _ 0 _ (by decide) (by decide)
  · exact View.cover_of_tiledL (s := S512x512) _ S256x512.size (by sl_kernel_rfl) y
theorem after10_eq : (dats m 0 c).after 10 t = keyBlock (iblk m c 0 t) (iblk m c 1 t) (iblk m c 2 t) (iblk m c 6 t) (iblk m c 7 t) (iblk m c 8 t) 512 (by decide) := by
  rw [after0_10]
  frame_out
  funext y
  refine View.canon_append_of_piecesOf (Val := Elt Ideal) (e := .bf16) (keyBlock (iblk m c 0 t) (iblk m c 1 t) (iblk m c 2 t) (iblk m c 6 t) (iblk m c 7 t) (iblk m c 8 t) 512 (by decide)) [] [_, _, _, _, _, _, _, _] ⟨?_, ?_, ?_, ?_, ?_, ?_, ?_, ?_, trivial⟩ y ?_
  · exact key_piece _ _ _ _ _ _ 512 (by decide) 3 256 512 128 64 _ _ (by decide) (by decide) (by decide) (by decide) (by decide) (by decide) rfl rfl
  · exact key_piece _ _ _ _ _ _ 512 (by decide) 2 256 512 128 0 _ _ (by decide) (by decide) (by decide) (by decide) (by decide) (by decide) rfl rfl
  · exact key_piece _ _ _ _ _ _ 512 (by decide) 1 256 512 0 64 _ _ (by decide) (by decide) (by decide) (by decide) (by decide) (by decide) rfl rfl
  · exact key_piece _ _ _ _ _ _ 512 (by decide) 0 256 512 0 0 _ _ (by decide) (by decide) (by decide) (by decide) (by decide) (by decide) rfl rfl
  · exact key_piece _ _ _ _ _ _ 512 (by decide) 3 0 512 128 64 _ _ (by decide) (by decide) (by decide) (by decide) (by decide) (by decide) rfl rfl
  · exact key_piece _ _ _ _ _ _ 512 (by decide) 2 0 512 128 0 _ _ (by decide) (by decide) (by decide) (by decide) (by decide) (by decide) rfl rfl
  · exact key_piece _ _ _ _ _ _ 512 (by decide) 1 0 512 0 64 _ _ (by decide) (by decide) (by decide) (by decide) (by decide) (by decide) rfl rfl
  · exact key_piece _ _ _ _ _ _ 512 (by decide) 0 0 512 0 0 _ _ (by decide) (by decide) (by decide) (by decide) (by decide) (by decide) rfl rfl
  · exact View.cover_of_tiledL (s := S4x512x64) _ S1x256x64.size (by sl_kernel_rfl) y
theorem after11_eq : (dats m 0 c).after 11 t = valueBlock (iblk m c 0 t) (iblk m c 1 t) (iblk m c 2 t) 768 (by decide) := by
  rw [after0_11]
  frame_out
  funext y
  refine View.canon_append_of_piecesOf (Val := Elt Ideal) (e := .bf16) (valueBlock (iblk m c 0 t) (iblk m c 1 t) (iblk m c 2 t) 768 (by decide)) [] [_, _, _, _, _, _, _, _, _, _, _, _, _, _, _, _] ⟨?_, ?_, ?_, ?_, ?_, ?_, ?_, ?_, ?_, ?_, ?_, ?_, ?_, ?_, ?_, ?_, trivial⟩ y ?_
  · exact ones_piece _ _ _ 768 (by decide) 3 256 (by decide) (by decide) (by decide)
  · exact value_piece _ _ _ 768 (by decide) 3 256 192 _ (by decide) (by decide) (by decide) (by decide) (by decide) rfl
  · exact ones_piece _ _ _ 768 (by decide) 2 256 (by decide) (by decide) (by decide)
  · exact value_piece _ _ _ 768 (by decide) 2 256 128 _ (by decide) (by decide) (by decide) (by decide) (by decide) rfl
  · exact ones_piece _ _ _ 768 (by decide) 1 256 (by decide) (by decide) (by decide)
  · exact value_piece _ _ _ 768 (by decide) 1 256 64 _ (by decide) (by decide) (by decide) (by decide) (by decide) rfl
  · exact ones_piece _ _ _ 768 (by decide) 0 256 (by decide) (by decide) (by decide)
  · exact value_piece _ _ _ 768 (by decide) 0 256 0 _ (by decide) (by decide) (by decide) (by decide) (by decide) rfl
  · exact ones_piece _ _ _ 768 (by decide) 3 0 (by decide) (by decide) (by decide)
  · exact value_piece _ _ _ 768 (by decide) 3 0 192 _ (by decide) (by decide) (by decide) (by decide) (by decide) rfl
  · exact ones_piece _ _ _ 768 (by decide) 2 0 (by decide) (by decide) (by decide)
  · exact value_piece _ _ _ 768 (by decide) 2 0 128 _ (by decide) (by decide) (by decide) (by decide) (by decide) rfl
  · exact ones_piece _ _ _ 768 (by decide) 1 0 (by decide) (by decide) (by decide)
  · exact value_piece _ _ _ 768 (by decide) 1 0 64 _ (by decide) (by decide) (by decide) (by decide) (by decide) rfl
  · exact ones_piece _ _ _ 768 (by decide) 0 0 (by decide) (by decide) (by decide)
  · exact value_piece _ _ _ 768 (by decide) 0 0 0 _ (by decide) (by decide) (by decide) (by decide) (by decide) rfl
  · exact View.cover_of_tiledBy (s := S4x80x512) _ ![1, 16, 256] (by sl_kernel_rfl) y
theorem after12_eq : (dats m 0 c).after 12 t = keyBlock (iblk m c 0 t) (iblk m c 1 t) (iblk m c 2 t) (iblk m c 6 t) (iblk m c 7 t) (iblk m c 8 t) 1024 (by decide) := by
  rw [after0_12]
  frame_out
  funext y
  refine View.canon_append_of_piecesOf (Val := Elt Ideal) (e := .bf16) (keyBlock (iblk m c 0 t) (iblk m c 1 t) (iblk m c 2 t) (iblk m c 6 t) (iblk m c 7 t) (iblk m c 8 t) 1024 (by decide)) [] [_, _, _, _, _, _, _, _] ⟨?_, ?_, ?_, ?_, ?_, ?_, ?_, ?_, trivial⟩ y ?_
  · exact key_piece _ _ _ _ _ _ 1024 (by decide) 3 256 1024 128 64 _ _ (by decide) (by decide) (by decide) (by decide) (by decide) (by decide) rfl rfl
  · exact key_piece _ _ _ _ _ _ 1024 (by decide) 2 256 1024 128 0 _ _ (by decide) (by decide) (by decide) (by decide) (by decide) (by decide) rfl rfl
  · exact key_piece _ _ _ _ _ _ 1024 (by decide) 1 256 1024 0 64 _ _ (by decide) (by decide) (by decide) (by decide) (by decide) (by decide) rfl rfl
  · exact key_piece _ _ _ _ _ _ 1024 (by decide) 0 256 1024 0 0 _ _ (by decide) (by decide) (by decide) (by decide) (by decide) (by decide) rfl rfl
  · exact key_piece _ _ _ _ _ _ 1024 (by decide) 3 0 1024 128 64 _ _ (by decide) (by decide) (by decide) (by decide) (by decide) (by decide) rfl rfl
  · exact key_piece _ _ _ _ _ _ 1024 (by decide) 2 0 1024 128 0 _ _ (by decide) (by decide) (by decide) (by decide) (by decide) (by decide) rfl rfl
  · exact key_piece _ _ _ _ _ _ 1024 (by decide) 1 0 1024 0 64 _ _ (by decide) (by decide) (by decide) (by decide) (by decide) (by decide) rfl rfl
  · exact key_piece _ _ _ _ _ _ 1024 (by decide) 0 0 1024 0 0 _ _ (by decide) (by decide) (by decide) (by decide) (by decide) (by decide) rfl rfl
  · exact View.cover_of_tiledL (s := S4x512x64) _ S1x256x64.size (by sl_kernel_rfl) y
theorem after13_eq : (dats m 0 c).after 13 t = valueBlock (iblk m c 0 t) (iblk m c 1 t) (iblk m c 2 t) 1280 (by decide) := by
  rw [after0_13]
  frame_out
  funext y
  refine View.canon_append_of_piecesOf (Val := Elt Ideal) (e := .bf16) (valueBlock (iblk m c 0 t) (iblk m c 1 t) (iblk m c 2 t) 1280 (by decide)) [] [_, _, _, _, _, _, _, _, _, _, _, _, _, _, _, _] ⟨?_, ?_, ?_, ?_, ?_, ?_, ?_, ?_, ?_, ?_, ?_, ?_, ?_, ?_, ?_, ?_, trivial⟩ y ?_
  · exact ones_piece _ _ _ 1280 (by decide) 3 256 (by decide) (by decide) (by decide)
  · exact value_piece _ _ _ 1280 (by decide) 3 256 192 _ (by decide) (by decide) (by decide) (by decide) (by decide) rfl
  · exact ones_piece _ _ _ 1280 (by decide) 2 256 (by decide) (by decide) (by decide)
  · exact value_piece _ _ _ 1280 (by decide) 2 256 128 _ (by decide) (by decide) (by decide) (by decide) (by decide) rfl
  · exact ones_piece _ _ _ 1280 (by decide) 1 256 (by decide) (by decide) (by decide)
  · exact value_piece _ _ _ 1280 (by decide) 1 256 64 _ (by decide) (by decide) (by decide) (by decide) (by decide) rfl
  · exact ones_piece _ _ _ 1280 (by decide) 0 256 (by decide) (by decide) (by decide)
  · exact value_piece _ _ _ 1280 (by decide) 0 256 0 _ (by decide) (by decide) (by decide) (by decide) (by decide) rfl
  · exact ones_piece _ _ _ 1280 (by decide) 3 0 (by decide) (by decide) (by decide)
  · exact value_piece _ _ _ 1280 (by decide) 3 0 192 _ (by decide) (by decide) (by decide) (by decide) (by decide) rfl
  · exact ones_piece _ _ _ 1280 (by decide) 2 0 (by decide) (by decide) (by decide)
  · exact value_piece _ _ _ 1280 (by decide) 2 0 128 _ (by decide) (by decide) (by decide) (by decide) (by decide) rfl
  · exact ones_piece _ _ _ 1280 (by decide) 1 0 (by decide) (by decide) (by decide)
  · exact value_piece _ _ _ 1280 (by decide) 1 0 64 _ (by decide) (by decide) (by decide) (by decide) (by decide) rfl
  · exact ones_piece _ _ _ 1280 (by decide) 0 0 (by decide) (by decide) (by decide)
  · exact value_piece _ _ _ 1280 (by decide) 0 0 0 _ (by decide) (by decide) (by decide) (by decide) (by decide) rfl
  · exact View.cover_of_tiledBy (s := S4x80x512) _ ![1, 16, 256] (by sl_kernel_rfl) y
theorem after14_eq : (dats m 0 c).after 14 t = queryBlock (iblk m c 0 t) (iblk m c 3 t) (iblk m c 4 t) := by
  rw [after0_14]
  frame_out
  funext y
  refine View.canon_append_of_piecesOf (Val := Elt Ideal) (e := .bf16) (queryBlock (iblk m c 0 t) (iblk m c 3 t) (iblk m c 4 t)) [] [_, _, _, _, _, _, _, _, _, _, _, _, _, _, _, _] ⟨?_, ?_, ?_, ?_, ?_, ?_, ?_, ?_, ?_, ?_, ?_, ?_, ?_, ?_, ?_, ?_, trivial⟩ y ?_
  · exact query_piece _ _ _ 256 896 _ (by decide) (by decide) (by decide) (by decide)
  · exact query_piece _ _ _ 256 768 _ (by decide) (by decide) (by decide) (by decide)
  · exact query_piece _ _ _ 256 640 _ (by decide) (by decide) (by decide) (by decide)
  · exact query_piece _ _ _ 256 512 _ (by decide) (by decide) (by decide) (by decide)
  · exact query_piece _ _ _ 256 384 _ (by decide) (by decide) (by decide) (by decide)
  · exact query_piece _ _ _ 256 256 _ (by decide) (by decide) (by decide) (by decide)
  · exact query_piece _ _ _ 256 128 _ (by decide) (by decide) (by decide) (by decide)
  · exact query_piece _ _ _ 256 0 _ (by decide) (by decide) (by decide) (by decide)
  · exact query_piece _ _ _ 0 896 _ (by decide) (by decide) (by decide) (by decide)
  · exact query_piece _ _ _ 0 768 _ (by decide) (by decide) (by decide) (by decide)
  · exact query_piece _ _ _ 0 640 _ (by decide) (by decide) (by decide) (by decide)
  · exact query_piece _ _ _ 0 512 _ (by decide) (by decide) (by decide) (by decide)
  · exact query_piece _ _ _ 0 384 _ (by decide) (by decide) (by decide) (by decide)
  · exact query_piece _ _ _ 0 256 _ (by decide) (by decide) (by decide) (by decide)
  · exact query_piece _ _ _ 0 128 _ (by decide) (by decide) (by decide) (by decide)
  · exact query_piece _ _ _ 0 0 _ (by decide) (by decide) (by decide) (by decide)
  · exact View.cover_of_tiledL (s := S512x1024) _ S256x128.size (by sl_kernel_rfl) y
theorem after15_eq : (dats m 0 c).after 15 t = turnedBlock (iblk m c 0 t) (iblk m c 3 t) (iblk m c 4 t) (iblk m c 6 t) (iblk m c 7 t) (iblk m c 8 t) := by
  rw [after0_15]
  frame_out
  funext y
  refine View.canon_append_of_piecesOf (Val := Elt Ideal) (e := .bf16) (turnedBlock (iblk m c 0 t) (iblk m c 3 t) (iblk m c 4 t) (iblk m c 6 t) (iblk m c 7 t) (iblk m c 8 t)) [] [_, _, _, _, _, _, _, _, _, _, _, _, _, _, _, _] ⟨?_, ?_, ?_, ?_, ?_, ?_, ?_, ?_, ?_, ?_, ?_, ?_, ?_, ?_, ?_, ?_, trivial⟩ y ?_
  · exact turned_piece _ _ _ _ _ _ 256 896 7 _ _ (by decide) (by decide) (by decide) rfl (by decide)
  · exact turned_piece _ _ _ _ _ _ 256 768 6 _ _ (by decide) (by decide) (by decide) rfl (by decide)
  · exact turned_piece _ _ _ _ _ _ 256 640 5 _ _ (by decide) (by decide) (by decide) rfl (by decide)
  · exact turned_piece _ _ _ _ _ _ 256 512 4 _ _ (by decide) (by decide) (by decide) rfl (by decide)
  · exact turned_piece _ _ _ _ _ _ 256 384 3 _ _ (by decide) (by decide) (by decide) rfl (by decide)
  · exact turned_piece _ _ _ _ _ _ 256 256 2 _ _ (by decide) (by decide) (by decide) rfl (by decide)
  · exact turned_piece _ _ _ _ _ _ 256 128 1 _ _ (by decide) (by decide) (by decide) rfl (by decide)
  · exact turned_piece _ _ _ _ _ _ 256 0 0 _ _ (by decide) (by decide) (by decide) rfl (by decide)
  · exact turned_piece _ _ _ _ _ _ 0 896 7 _ _ (by decide) (by decide) (by decide) rfl (by decide)
  · exact turned_piece _ _ _ _ _ _ 0 768 6 _ _ (by decide) (by decide) (by decide) rfl (by decide)
  · exact turned_piece _ _ _ _ _ _ 0 640 5 _ _ (by decide) (by decide) (by decide) rfl (by decide)
  · exact turned_piece _ _ _ _ _ _ 0 512 4 _ _ (by decide) (by decide) (by decide) rfl (by decide)
  · exact turned_piece _ _ _ _ _ _ 0 384 3 _ _ (by decide) (by decide) (by decide) rfl (by decide)
  · exact turned_piece _ _ _ _ _ _ 0 256 2 _ _ (by decide) (by decide) (by decide) rfl (by decide)
  · exact turned_piece _ _ _ _ _ _ 0 128 1 _ _ (by decide) (by decide) (by decide) rfl (by decide)
  · exact turned_piece _ _ _ _ _ _ 0 0 0 _ _ (by decide) (by decide) (by decide) rfl (by decide)
  · exact View.cover_of_tiledL (s := S512x1024) _ S256x128.size (by sl_kernel_rfl) y
theorem after16_eq : (dats m 0 c).after 16 t = gateBlock (iblk m c 0 t) (iblk m c 3 t) (iblk m c 4 t) (iblk m c 5 t) := by
  rw [after0_16]
  frame_out
  funext y
  refine View.canon_append_of_piecesOf (Val := Elt Ideal) (e := .f32) (gateBlock (iblk m c 0 t) (iblk m c 3 t) (iblk m c 4 t) (iblk m c 5 t)) [] [_, _, _, _, _, _, _, _] ⟨?_, ?_, ?_, ?_, ?_, ?_, ?_, ?_, trivial⟩ y ?_
  · exact gate_piece _ _ _ _ 3 256 48 _ (by decide) (by decide) (by decide) (by decide) rfl
  · exact gate_piece _ _ _ _ 2 256 32 _ (by decide) (by decide) (by decide) (by decide) rfl
  · exact gate_piece _ _ _ _ 1 256 16 _ (by decide) (by decide) (by decide) (by decide) rfl
  · exact gate_piece _ _ _ _ 0 256 0 _ (by decide) (by decide) (by decide) (by decide) rfl
  · exact gate_piece _ _ _ _ 3 0 48 _ (by decide) (by decide) (by decide) (by decide) rfl
  · exact gate_piece _ _ _ _ 2 0 32 _ (by decide) (by decide) (by decide) (by decide) rfl
  · exact gate_piece _ _ _ _ 1 0 16 _ (by decide) (by decide) (by decide) (by decide) rfl
  · exact gate_piece _ _ _ _ 0 0 0 _ (by decide) (by decide) (by decide) (by decide) rfl
  · exact View.cover_of_tiledL (s := S4x16x512) _ S1x16x256.size (by sl_kernel_rfl) y

end Cert.KvqIdeal.Kvq

end
-- ==== Proof.Kvq.Tables.lean ====
/- What the host prepares for the shared projection, at an index: the gains, the matrices with the gates' columns in the groups'
   order and padded, and the rotary tables of two heads side by side. -/
module

public import proofs.«01_k».proof.Proof.Kvq.Cells
public import Idealize.ShloMosaic.Lib.StableHlo.ReadAt

@[expose] public section

set_option maxRecDepth 16384

noncomputable section

namespace Cert.KvqIdeal.Kvq

open Cert.KvqIdeal Cert.KvqIdeal.Gen Idealize.ShloMosaic Idealize.ShloMosaic.TcCoe Idealize.SL.Sem Idealize.ShloMosaic.Tactic

/-- What the host pads with. -/
def padding : EReal := FloatOps.sitofp (F := Ideal) FTy.f32 0#32
theorem padding_eq : padding = 0 := by show (((0#32).toInt : ℝ) : EReal) = 0; norm_num

/-- The query matrix's column `y` after padding: a query's, a gate's (group `j / 16`, its gate `j % 16` of 12), or zero. -/
def qCol (w : FVec Ideal S1024x1072 .f32) (e : Fin 1024) (y : Fin 1152) : EReal :=
  if h : y.val < 1024 then w (ix2 e ⟨y.val, by omega⟩)
  else if h1 : y.val - 1024 < 64 then
    if h2 : (y.val - 1024) / 16 < 4 ∧ (y.val - 1024) % 16 < 12 then
      w (ix2 e ⟨1024 + ((y.val - 1024) % 16 / 4 * 16 + (y.val - 1024) / 16 * 4 + (y.val - 1024) % 16 % 4), by omega⟩)
    else padding
  else padding
/-- The gates' bias at column `y` after padding. -/
def bCol (b : FVec Ideal S48 .f32) (y : Fin 128) : EReal :=
  if h : y.val < 64 then
    if h1 : y.val / 16 < 4 ∧ y.val % 16 < 12 then b (ix1 ⟨y.val % 16 / 4 * 16 + y.val / 16 * 4 + y.val % 16 % 4, by omega⟩)
    else padding
  else padding
/-- The rotary tables of a row: what a column, the column eight to the right, and the column eight to the left are multiplied by. -/
def cRow (cos : FVec Ideal S16384x8 .f32) (r : Fin 16384) (y : Fin 128) : EReal :=
  if h : y.val % 64 < 8 then cos (ix2 r ⟨y.val % 64, h⟩)
  else if h : y.val % 64 - 8 < 8 then cos (ix2 r ⟨y.val % 64 - 8, h⟩) else 1
def s1Row (sin : FVec Ideal S16384x8 .f32) (r : Fin 16384) (y : Fin 128) : EReal :=
  if h : y.val % 64 < 8 then -sin (ix2 r ⟨y.val % 64, h⟩) else 0
def s2Row (sin : FVec Ideal S16384x8 .f32) (r : Fin 16384) (y : Fin 128) : EReal :=
  if h : y.val % 64 < 8 then 0
  else if h : y.val % 64 - 8 < 8 then sin (ix2 r ⟨y.val % 64 - 8, h⟩) else 0

variable (m : (ℓ : Loc nD τ sig) → Buf (Elt Ideal) ℓ) (c : Dev nD)

theorem V_gkv (x : Fin 1024) :
    V m c (Pipeline.arrRef spec0 1) (ix2 (0 : Fin 1) x : S1x1024.Idx) = m ((c : Thread nD τ).loc main_arg1) (ix1 x : S1024.Idx) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise
theorem V_gq (x : Fin 1024) :
    V m c (Pipeline.arrRef spec0 3) (ix2 (0 : Fin 1) x : S1x1024.Idx) = m ((c : Thread nD τ).loc main_arg3) (ix1 x : S1024.Idx) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  pointwise
theorem V_wkv : V m c (Pipeline.arrRef spec0 2) = (m ((c : Thread nD τ).loc main_arg2) : FVec Ideal S1024x1536 .f32) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl
theorem V_wq (e : Fin 1024) (y : Fin 1152) :
    V m c (Pipeline.arrRef spec0 4) (ix2 e y : S1024x1152.Idx) = qCol (m ((c : Thread nD τ).loc main_arg4)) e y := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try simp -implicitDefEqProofs only [StableHlo.TRef.toBuf, StableHlo.TRef.ofBuf, cast_cast, cast_eq]
  pointwise
  try after_results_simp
  try simp -implicitDefEqProofs only [StableHlo.TRef.toBuf, StableHlo.TRef.ofBuf, cast_cast, cast_eq]
  try pointwise
  rfl
theorem V_gb (y : Fin 128) :
    V m c (Pipeline.arrRef spec0 5) (ix2 (0 : Fin 1) y : S1x128.Idx) = bCol (m ((c : Thread nD τ).loc main_arg5)) y := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try simp -implicitDefEqProofs only [StableHlo.TRef.toBuf, StableHlo.TRef.ofBuf, cast_cast, cast_eq]
  pointwise
  try after_results_simp
  try simp -implicitDefEqProofs only [StableHlo.TRef.toBuf, StableHlo.TRef.ofBuf, cast_cast, cast_eq]
  try pointwise
  rfl
theorem V_c (r : Fin 16384) (y : Fin 128) :
    V m c (Pipeline.arrRef spec0 6) (ix2 r y : S16384x128.Idx) = cRow (m ((c : Thread nD τ).loc main_arg6)) r y := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try simp -implicitDefEqProofs only [StableHlo.TRef.toBuf, StableHlo.TRef.ofBuf, cast_cast, cast_eq]
  pointwise
  try after_results_simp
  try simp -implicitDefEqProofs only [StableHlo.TRef.toBuf, StableHlo.TRef.ofBuf, cast_cast, cast_eq]
  try pointwise
  rfl
theorem V_s1 (r : Fin 16384) (y : Fin 128) :
    V m c (Pipeline.arrRef spec0 7) (ix2 r y : S16384x128.Idx) = s1Row (m ((c : Thread nD τ).loc main_arg7)) r y := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try simp -implicitDefEqProofs only [StableHlo.TRef.toBuf, StableHlo.TRef.ofBuf, cast_cast, cast_eq]
  pointwise
  try after_results_simp
  try simp -implicitDefEqProofs only [StableHlo.TRef.toBuf, StableHlo.TRef.ofBuf, cast_cast, cast_eq]
  try pointwise
  rfl
theorem V_s2 (r : Fin 16384) (y : Fin 128) :
    V m c (Pipeline.arrRef spec0 8) (ix2 r y : S16384x128.Idx) = s2Row (m ((c : Thread nD τ).loc main_arg7)) r y := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  try simp -implicitDefEqProofs only [StableHlo.TRef.toBuf, StableHlo.TRef.ofBuf, cast_cast, cast_eq]
  pointwise
  try after_results_simp
  try simp -implicitDefEqProofs only [StableHlo.TRef.toBuf, StableHlo.TRef.ofBuf, cast_cast, cast_eq]
  try pointwise
  rfl

end Cert.KvqIdeal.Kvq

end
-- ==== Proof.Kvq.Arrays.lean ====
/- The arrays the shared projection leaves: every row's cells, over the arguments. -/
module

public import proofs.«01_k».proof.Proof.Gen.KvqRefIdeal.Run
public import proofs.«01_k».proof.Proof.Gen.Kvq.Frame
public import proofs.«01_k».proof.Proof.Kvq.Blocks
public import proofs.«01_k».proof.Proof.Kvq.Tables

@[expose] public section

set_option maxRecDepth 16384

noncomputable section

namespace Cert.KvqIdeal.Kvq

open Cert.KvqIdeal Cert.KvqIdeal.Gen Idealize.ShloMosaic Idealize.ShloMosaic.TcCoe Idealize.SL.Sem Idealize.ShloMosaic.Tactic
open Idealize.ShloMosaic.Pipeline (Dat)

/-! ## The windows -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, t.val, 0] := (by decide +kernel : ∀ t : Fin grid0.N, _)
theorem index11 : ∀ t : Fin cfg0.N, win0_11.index t = ![0, 0, t.val] := (by decide +kernel : ∀ t : Fin grid0.N, _)
theorem index12 : ∀ t : Fin cfg0.N, win0_12.index t = ![0, t.val, 0] := (by decide +kernel : ∀ t : Fin grid0.N, _)
theorem index13 : ∀ t : Fin cfg0.N, win0_13.index t = ![0, 0, t.val] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)
theorem index16 : ∀ t : Fin cfg0.N, win0_16.index t = ![0, 0, t.val] := (by decide +kernel : ∀ t : Fin grid0.N, _)

/-- Row `r` of tile `t`. -/
def rowOf (t : Fin cfg0.N) (r : Fin 512) : Fin 16384 := ⟨512 * t.val + r.val, by have h : t.val < 32 := t.isLt; omega⟩

variable (m : (ℓ : Loc nD τ sig) → Buf (Elt Ideal) ℓ) (c : Dev nD) (t : Fin cfg0.N)

theorem block0 (r : Fin 512) (x : Fin 1024) : iblk m c 0 t (ix2 r x) = m ((c : Thread nD τ).loc main_arg0) (ix2 (rowOf t r) x) := by
  rw [← V_main_arg0 m c]
  refine congrArg (V m c main_arg0) (funext fun a => Fin.ext ?_)
  match a with
  | ⟨0, _⟩ => show win0_0.index t (0 : Fin 2) * 512 + 1 * r.val = 512 * t.val + r.val
              rw [index0 t]; show t.val * 512 + 1 * r.val = _; omega
  | ⟨1, _⟩ => show win0_0.index t (1 : Fin 2) * 1024 + 1 * x.val = x.val
              rw [index0 t]; show 0 * 1024 + 1 * x.val = _; omega
theorem block6 (r : Fin 512) (x : Fin 128) : iblk m c 6 t (ix2 r x) = V m c (Pipeline.arrRef spec0 6) (ix2 (rowOf t r) x : S16384x128.Idx) := by
  refine congrArg (V m c (Pipeline.arrRef spec0 6)) (funext fun a => Fin.ext ?_)
  match a with
  | ⟨0, _⟩ => show win0_6.index t (0 : Fin 2) * 512 + 1 * r.val = 512 * t.val + r.val
              rw [index6 t]; show t.val * 512 + 1 * r.val = _; omega
  | ⟨1, _⟩ => show win0_6.index t (1 : Fin 2) * 128 + 1 * x.val = x.val
              rw [index6 t]; show 0 * 128 + 1 * x.val = _; omega
theorem block7 (r : Fin 512) (x : Fin 128) : iblk m c 7 t (ix2 r x) = V m c (Pipeline.arrRef spec0 7) (ix2 (rowOf t r) x : S16384x128.Idx) := by
  refine congrArg (V m c (Pipeline.arrRef spec0 7)) (funext fun a => Fin.ext ?_)
  match a with
  | ⟨0, _⟩ => show win0_7.index t (0 : Fin 2) * 512 + 1 * r.val = 512 * t.val + r.val
              rw [index7 t]; show t.val * 512 + 1 * r.val = _; omega
  | ⟨1, _⟩ => show win0_7.index t (1 : Fin 2) * 128 + 1 * x.val = x.val
              rw [index7 t]; show 0 * 128 + 1 * x.val = _; omega
theorem block8 (r : Fin 512) (x : Fin 128) : iblk m c 8 t (ix2 r x) = V m c (Pipeline.arrRef spec0 8) (ix2 (rowOf t r) x : S16384x128.Idx) := by
  refine congrArg (V m c (Pipeline.arrRef spec0 8)) (funext fun a => Fin.ext ?_)
  match a with
  | ⟨0, _⟩ => show win0_8.index t (0 : Fin 2) * 512 + 1 * r.val = 512 * t.val + r.val
              rw [index8 t]; show t.val * 512 + 1 * r.val = _; omega
  | ⟨1, _⟩ => show win0_8.index t (1 : Fin 2) * 128 + 1 * x.val = x.val
              rw [index8 t]; show 0 * 128 + 1 * x.val = _; omega
theorem block1 : iblk m c 1 t = V m c (Pipeline.arrRef spec0 1) := by blk_ext! [iblk, index1 t]
theorem block2 : iblk m c 2 t = V m c (Pipeline.arrRef spec0 2) := by blk_ext! [iblk, index2 t]
theorem block3 : iblk m c 3 t = V m c (Pipeline.arrRef spec0 3) := by blk_ext! [iblk, index3 t]
theorem block4 : iblk m c 4 t = V m c (Pipeline.arrRef spec0 4) := by blk_ext! [iblk, index4 t]
theorem block5 : iblk m c 5 t = V m c (Pipeline.arrRef spec0 5) := by blk_ext! [iblk, index5 t]

theorem blockOut9 (r : Fin 512) (x : Fin 512) : (win0_9.blk t).view.emb (ix2 r x) = (ix2 (rowOf t r) x : S16384x512.Idx) := by
  refine funext fun a => Fin.ext ?_
  match a with
  | ⟨0, _⟩ => show win0_9.index t (0 : Fin 2) * 512 + 1 * r.val = 512 * t.val + r.val
              rw [index9 t]; show t.val * 512 + 1 * r.val = _; omega
  | ⟨1, _⟩ => show win0_9.index t (1 : Fin 2) * 512 + 1 * x.val = x.val
              rw [index9 t]; show 0 * 512 + 1 * x.val = _; omega
theorem blockOut14 (r : Fin 512) (x : Fin 1024) : (win0_14.blk t).view.emb (ix2 r x) = (ix2 (rowOf t r) x : S16384x1024.Idx) := by
  refine funext fun a => Fin.ext ?_
  match a with
  | ⟨0, _⟩ => show win0_14.index t (0 : Fin 2) * 512 + 1 * r.val = 512 * t.val + r.val
              rw [index14 t]; show t.val * 512 + 1 * r.val = _; omega
  | ⟨1, _⟩ => show win0_14.index t (1 : Fin 2) * 1024 + 1 * x.val = x.val
              rw [index14 t]; show 0 * 1024 + 1 * x.val = _; omega
theorem blockOut15 (r : Fin 512) (x : Fin 1024) : (win0_15.blk t).view.emb (ix2 r x) = (ix2 (rowOf t r) x : S16384x1024.Idx) := by
  refine funext fun a => Fin.ext ?_
  match a with
  | ⟨0, _⟩ => show win0_15.index t (0 : Fin 2) * 512 + 1 * r.val = 512 * t.val + r.val
              rw [index15 t]; show t.val * 512 + 1 * r.val = _; omega
  | ⟨1, _⟩ => show win0_15.index t (1 : Fin 2) * 1024 + 1 * x.val = x.val
              rw [index15 t]; show 0 * 1024 + 1 * x.val = _; omega
theorem blockOut10 (g : Fin 4) (r : Fin 512) (x : Fin 64) : (win0_10.blk t).view.emb (ix3 g r x) = (ix3 g (rowOf t r) x : S4x16384x64.Idx) := by
  refine funext fun a => Fin.ext ?_
  match a with
  | ⟨0, _⟩ => show win0_10.index t (0 : Fin 3) * 4 + 1 * g.val = g.val
              rw [index10 t]; show 0 * 4 + 1 * g.val = _; omega
  | ⟨1, _⟩ => show win0_10.index t (1 : Fin 3) * 512 + 1 * r.val = 512 * t.val + r.val
              rw [index10 t]; show t.val * 512 + 1 * r.val = _; omega
  | ⟨2, _⟩ => show win0_10.index t (2 : Fin 3) * 64 + 1 * x.val = x.val
              rw [index10 t]; show 0 * 64 + 1 * x.val = _; omega
theorem blockOut11 (g : Fin 4) (r : Fin 512) (x : Fin 80) : (win0_11.blk t).view.emb (ix3 g x r) = (ix3 g x (rowOf t r) : S4x80x16384.Idx) := by
  refine funext fun a => Fin.ext ?_
  match a with
  | ⟨0, _⟩ => show win0_11.index t (0 : Fin 3) * 4 + 1 * g.val = g.val
              rw [index11 t]; show 0 * 4 + 1 * g.val = _; omega
  | ⟨1, _⟩ => show win0_11.index t (1 : Fin 3) * 80 + 1 * x.val = x.val
              rw [index11 t]; show 0 * 80 + 1 * x.val = _; omega
  | ⟨2, _⟩ => show win0_11.index t (2 : Fin 3) * 512 + 1 * r.val = 512 * t.val + r.val
              rw [index11 t]; show t.val * 512 + 1 * r.val = _; omega
theorem blockOut12 (g : Fin 4) (r : Fin 512) (x : Fin 64) : (win0_12.blk t).view.emb (ix3 g r x) = (ix3 g (rowOf t r) x : S4x16384x64.Idx) := by
  refine funext fun a => Fin.ext ?_
  match a with
  | ⟨0, _⟩ => show win0_12.index t (0 : Fin 3) * 4 + 1 * g.val = g.val
              rw [index12 t]; show 0 * 4 + 1 * g.val = _; omega
  | ⟨1, _⟩ => show win0_12.index t (1 : Fin 3) * 512 + 1 * r.val = 512 * t.val + r.val
              rw [index12 t]; show t.val * 512 + 1 * r.val = _; omega
  | ⟨2, _⟩ => show win0_12.index t (2 : Fin 3) * 64 + 1 * x.val = x.val
              rw [index12 t]; show 0 * 64 + 1 * x.val = _; omega
theorem blockOut13 (g : Fin 4) (r : Fin 512) (x : Fin 80) : (win0_13.blk t).view.emb (ix3 g x r) = (ix3 g x (rowOf t r) : S4x80x16384.Idx) := by
  refine funext fun a => Fin.ext ?_
  match a with
  | ⟨0, _⟩ => show win0_13.index t (0 : Fin 3) * 4 + 1 * g.val = g.val
              rw [index13 t]; show 0 * 4 + 1 * g.val = _; omega
  | ⟨1, _⟩ => show win0_13.index t (1 : Fin 3) * 80 + 1 * x.val = x.val
              rw [index13 t]; show 0 * 80 + 1 * x.val = _; omega
  | ⟨2, _⟩ => show win0_13.index t (2 : Fin 3) * 512 + 1 * r.val = 512 * t.val + r.val
              rw [index13 t]; show t.val * 512 + 1 * r.val = _; omega
theorem blockOut16 (g : Fin 4) (r : Fin 512) (x : Fin 16) : (win0_16.blk t).view.emb (ix3 g x r) = (ix3 g x (rowOf t r) : S4x16x16384.Idx) := by
  refine funext fun a => Fin.ext ?_
  match a with
  | ⟨0, _⟩ => show win0_16.index t (0 : Fin 3) * 4 + 1 * g.val = g.val
              rw [index16 t]; show 0 * 4 + 1 * g.val = _; omega
  | ⟨1, _⟩ => show win0_16.index t (1 : Fin 3) * 16 + 1 * x.val = x.val
              rw [index16 t]; show 0 * 16 + 1 * x.val = _; omega
  | ⟨2, _⟩ => show win0_16.index t (2 : Fin 3) * 512 + 1 * r.val = 512 * t.val + r.val
              rw [index16 t]; show t.val * 512 + 1 * r.val = _; omega

/-! ## A block's rows over the arguments -/

/-- A row's shared projection and its query projection, over the arguments. -/
def kvAt (h : FVec Ideal S16384x1024 .f32) (g : FVec Ideal S1024 .f32) (w : FVec Ideal S1024x1536 .f32) (r : Fin 16384) : Fin 1536 → EReal :=
  proj (rowsOf h r) (fun e => g (ix1 e)) (rowsOf w)
def qAt (h : FVec Ideal S16384x1024 .f32) (g : FVec Ideal S1024 .f32) (w : FVec Ideal S1024x1072 .f32) (r : Fin 16384) : Fin 1152 → EReal :=
  proj (rowsOf h r) (fun e => g (ix1 e)) (qCol w)

/-- The rows of the arguments. -/
abbrev kvRows (r : Fin 16384) : Fin 1536 → EReal := kvAt (m ((c : Thread nD τ).loc main_arg0)) (m ((c : Thread nD τ).loc main_arg1)) (m ((c : Thread nD τ).loc main_arg2)) r
abbrev qRows (r : Fin 16384) : Fin 1152 → EReal := qAt (m ((c : Thread nD τ).loc main_arg0)) (m ((c : Thread nD τ).loc main_arg3)) (m ((c : Thread nD τ).loc main_arg4)) r
abbrev cRows (r : Fin 16384) : Fin 128 → EReal := cRow (m ((c : Thread nD τ).loc main_arg6)) r
abbrev s1Rows (r : Fin 16384) : Fin 128 → EReal := s1Row (m ((c : Thread nD τ).loc main_arg7)) r
abbrev s2Rows (r : Fin 16384) : Fin 128 → EReal := s2Row (m ((c : Thread nD τ).loc main_arg7)) r

theorem h_rows (r : Fin 512) : rowsOf (iblk m c 0 t : FVec Ideal S512x1024 .f32) r = rowsOf (m ((c : Thread nD τ).loc main_arg0) : FVec Ideal S16384x1024 .f32) (rowOf t r) :=
  funext fun x => block0 m c t r x
theorem kv_rows (r : Fin 512) : kvRow (iblk m c 0 t) (iblk m c 1 t) (iblk m c 2 t) r = kvRows m c (rowOf t r) := by
  have h1 : rowsOf (iblk m c 1 t : FVec Ideal S1x1024 .f32) 0 = fun x => (m ((c : Thread nD τ).loc main_arg1) : FVec Ideal S1024 .f32) (ix1 x) :=
    funext fun x => (congrFun (block1 m c t) _).trans (V_gkv m c x)
  have h2 : (iblk m c 2 t : FVec Ideal S1024x1536 .bf16) = (m ((c : Thread nD τ).loc main_arg2) : FVec Ideal S1024x1536 .f32) := (block2 m c t).trans (V_wkv m c)
  unfold kvRow kvRows kvAt
  rw [h_rows m c t r, h1, h2]
theorem q_rows (r : Fin 512) : qRow (iblk m c 0 t) (iblk m c 3 t) (iblk m c 4 t) r = qRows m c (rowOf t r) := by
  have h1 : rowsOf (iblk m c 3 t : FVec Ideal S1x1024 .f32) 0 = fun x => (m ((c : Thread nD τ).loc main_arg3) : FVec Ideal S1024 .f32) (ix1 x) :=
    funext fun x => (congrFun (block3 m c t) _).trans (V_gq m c x)
  have h2 : rowsOf (iblk m c 4 t : FVec Ideal S1024x1152 .bf16) = qCol (m ((c : Thread nD τ).loc main_arg4)) :=
    funext fun e => funext fun y => (congrFun (block4 m c t) _).trans (V_wq m c e y)
  unfold qRow qRows qAt
  rw [h_rows m c t r, h1, h2]
theorem b_rows : rowsOf (iblk m c 5 t : FVec Ideal S1x128 .f32) 0 = bCol (m ((c : Thread nD τ).loc main_arg5)) :=
  funext fun y => (congrFun (block5 m c t) _).trans (V_gb m c y)
theorem c_rows (r : Fin 512) : rowsOf (iblk m c 6 t : FVec Ideal S512x128 .f32) r = cRows m c (rowOf t r) :=
  funext fun y => (block6 m c t r y).trans (V_c m c (rowOf t r) y)
theorem s1_rows (r : Fin 512) : rowsOf (iblk m c 7 t : FVec Ideal S512x128 .f32) r = s1Rows m c (rowOf t r) :=
  funext fun y => (block7 m c t r y).trans (V_s1 m c (rowOf t r) y)
theorem s2_rows (r : Fin 512) : rowsOf (iblk m c 8 t : FVec Ideal S512x128 .f32) r = s2Rows m c (rowOf t r) :=
  funext fun y => (block8 m c t r y).trans (V_s2 m c (rowOf t r) y)

/-! ## The arrays -/

def cmpArr (i : S16384x512.Idx) : EReal := kvRows m c (i 0) ⟨(i 1).val, Nat.lt_trans (i 1).isLt (by decide)⟩
def keyArr (o : ℕ) (ho : o + 256 ≤ 1536) (i : S4x16384x64.Idx) : EReal :=
  keyCell (kvRows m c (i 1)) (cRows m c (i 1)) (s1Rows m c (i 1)) (s2Rows m c (i 1)) o ho (i 0) (i 2)
def valueArr (o : ℕ) (ho : o + 256 ≤ 1536) (i : S4x80x16384.Idx) : EReal := valueCell (kvRows m c (i 2)) o ho (i 0) (i 1)
def queryArr (i : S16384x1024.Idx) : EReal := queryCell (qRows m c (i 0)) (i 1)
def turnedArr (i : S16384x1024.Idx) : EReal := turnedCell (qRows m c (i 0)) (cRows m c (i 0)) (s1Rows m c (i 0)) (s2Rows m c (i 0)) (i 1)
def gateArr (i : S4x16x16384.Idx) : EReal := gateCell (qRows m c (i 2)) (bCol (m ((c : Thread nD τ).loc main_arg5))) (i 0) (i 1)

theorem cmp_blocks (r : Fin 512) (x : Fin 512) :
    cmpBlock (iblk m c 0 t) (iblk m c 1 t) (iblk m c 2 t) (ix2 r x) = cmpArr m c (ix2 (rowOf t r) x) := by
  show (kvRow (iblk m c 0 t) (iblk m c 1 t) (iblk m c 2 t) r) ⟨x.val, by omega⟩ = kvRows m c (rowOf t r) ⟨x.val, by omega⟩
  rw [kv_rows m c t]
theorem key_blocks (o : ℕ) (ho : o + 256 ≤ 1536) (g : Fin 4) (r : Fin 512) (x : Fin 64) :
    keyBlock (iblk m c 0 t) (iblk m c 1 t) (iblk m c 2 t) (iblk m c 6 t) (iblk m c 7 t) (iblk m c 8 t) o ho (ix3 g r x) = keyArr m c o ho (ix3 g (rowOf t r) x) := by
  show keyCell (kvRow (iblk m c 0 t) (iblk m c 1 t) (iblk m c 2 t) r) (rowsOf (iblk m c 6 t : FVec Ideal S512x128 .f32) r) (rowsOf (iblk m c 7 t : FVec Ideal S512x128 .f32) r) (rowsOf (iblk m c 8 t : FVec Ideal S512x128 .f32) r) o ho g x = keyCell (kvRows m c (rowOf t r)) (cRows m c (rowOf t r)) (s1Rows m c (rowOf t r)) (s2Rows m c (rowOf t r)) o ho g x
  rw [kv_rows m c t, c_rows m c t, s1_rows m c t, s2_rows m c t]
theorem value_blocks (o : ℕ) (ho : o + 256 ≤ 1536) (g : Fin 4) (r : Fin 512) (x : Fin 80) :
    valueBlock (iblk m c 0 t) (iblk m c 1 t) (iblk m c 2 t) o ho (ix3 g x r) = valueArr m c o ho (ix3 g x (rowOf t r)) := by
  show valueCell (kvRow (iblk m c 0 t) (iblk m c 1 t) (iblk m c 2 t) r) o ho g x = valueCell (kvRows m c (rowOf t r)) o ho g x
  rw [kv_rows m c t]
theorem query_blocks (r : Fin 512) (x : Fin 1024) :
    queryBlock (iblk m c 0 t) (iblk m c 3 t) (iblk m c 4 t) (ix2 r x) = queryArr m c (ix2 (rowOf t r) x) := by
  show queryCell (qRow (iblk m c 0 t) (iblk m c 3 t) (iblk m c 4 t) r) x = queryCell (qRows m c (rowOf t r)) x
  rw [q_rows m c t]
theorem turned_blocks (r : Fin 512) (x : Fin 1024) :
    turnedBlock (iblk m c 0 t) (iblk m c 3 t) (iblk m c 4 t) (iblk m c 6 t) (iblk m c 7 t) (iblk m c 8 t) (ix2 r x) = turnedArr m c (ix2 (rowOf t r) x) := by
  show turnedCell (qRow (iblk m c 0 t) (iblk m c 3 t) (iblk m c 4 t) r) (rowsOf (iblk m c 6 t : FVec Ideal S512x128 .f32) r) (rowsOf (iblk m c 7 t : FVec Ideal S512x128 .f32) r) (rowsOf (iblk m c 8 t : FVec Ideal S512x128 .f32) r) x = turnedCell (qRows m c (rowOf t r)) (cRows m c (rowOf t r)) (s1Rows m c (rowOf t r)) (s2Rows m c (rowOf t r)) x
  rw [q_rows m c t, c_rows m c t, s1_rows m c t, s2_rows m c t]
theorem gate_blocks (g : Fin 4) (r : Fin 512) (x : Fin 16) :
    gateBlock (iblk m c 0 t) (iblk m c 3 t) (iblk m c 4 t) (iblk m c 5 t) (ix3 g x r) = gateArr m c (ix3 g x (rowOf t r)) := by
  show gateCell (qRow (iblk m c 0 t) (iblk m c 3 t) (iblk m c 4 t) r) (rowsOf (iblk m c 5 t : FVec Ideal S1x128 .f32) 0) g x = gateCell (qRows m c (rowOf t r)) (bCol (m ((c : Thread nD τ).loc main_arg5))) g x
  rw [q_rows m c t, b_rows m c t]

theorem array9_eq : (dats m 0 c).arrAt 9 cfg0.N = cmpArr m c := by
  refine (dats m 0 c).arrAt_eq_of_covers 9 _ (by decide +kernel) fun t hf y => ?_
  blk_simp
  have hy : y = (ix2 (y 0) (y 1) : S512x512.Idx) := eq_ix2 (n0 := 512) (n1 := 512) y
  rw [hy, after9_eq]
  exact (cmp_blocks m c t (y 0) (y 1)).trans (congrArg (cmpArr m c) (blockOut9 t (y 0) (y 1))).symm
theorem array10_eq : (dats m 0 c).arrAt 10 cfg0.N = keyArr m c 512 (by decide) := by
  refine (dats m 0 c).arrAt_eq_of_covers 10 _ (by decide +kernel) fun t hf y => ?_
  blk_simp
  have hy : y = (ix3 (y 0) (y 1) (y 2) : S4x512x64.Idx) := eq_ix3 (n0 := 4) (n1 := 512) (n2 := 64) y
  rw [hy, after10_eq]
  exact (key_blocks m c t _ _ (y 0) (y 1) (y 2)).trans (congrArg (keyArr m c 512 (by decide)) (blockOut10 t (y 0) (y 1) (y 2))).symm
theorem array11_eq : (dats m 0 c).arrAt 11 cfg0.N = valueArr m c 768 (by decide) := by
  refine (dats m 0 c).arrAt_eq_of_covers 11 _ (by decide +kernel) fun t hf y => ?_
  blk_simp
  have hy : y = (ix3 (y 0) (y 1) (y 2) : S4x80x512.Idx) := eq_ix3 (n0 := 4) (n1 := 80) (n2 := 512) y
  rw [hy, after11_eq]
  exact (value_blocks m c t _ _ (y 0) (y 2) (y 1)).trans (congrArg (valueArr m c 768 (by decide)) (blockOut11 t (y 0) (y 2) (y 1))).symm
theorem array12_eq : (dats m 0 c).arrAt 12 cfg0.N = keyArr m c 1024 (by decide) := by
  refine (dats m 0 c).arrAt_eq_of_covers 12 _ (by decide +kernel) fun t hf y => ?_
  blk_simp
  have hy : y = (ix3 (y 0) (y 1) (y 2) : S4x512x64.Idx) := eq_ix3 (n0 := 4) (n1 := 512) (n2 := 64) y
  rw [hy, after12_eq]
  exact (key_blocks m c t _ _ (y 0) (y 1) (y 2)).trans (congrArg (keyArr m c 1024 (by decide)) (blockOut12 t (y 0) (y 1) (y 2))).symm
theorem array13_eq : (dats m 0 c).arrAt 13 cfg0.N = valueArr m c 1280 (by decide) := by
  refine (dats m 0 c).arrAt_eq_of_covers 13 _ (by decide +kernel) fun t hf y => ?_
  blk_simp
  have hy : y = (ix3 (y 0) (y 1) (y 2) : S4x80x512.Idx) := eq_ix3 (n0 := 4) (n1 := 80) (n2 := 512) y
  rw [hy, after13_eq]
  exact (value_blocks m c t _ _ (y 0) (y 2) (y 1)).trans (congrArg (valueArr m c 1280 (by decide)) (blockOut13 t (y 0) (y 2) (y 1))).symm
theorem array14_eq : (dats m 0 c).arrAt 14 cfg0.N = queryArr m c := by
  refine (dats m 0 c).arrAt_eq_of_covers 14 _ (by decide +kernel) fun t hf y => ?_
  blk_simp
  have hy : y = (ix2 (y 0) (y 1) : S512x1024.Idx) := eq_ix2 (n0 := 512) (n1 := 1024) y
  rw [hy, after14_eq]
  exact (query_blocks m c t (y 0) (y 1)).trans (congrArg (queryArr m c) (blockOut14 t (y 0) (y 1))).symm
theorem array15_eq : (dats m 0 c).arrAt 15 cfg0.N = turnedArr m c := by
  refine (dats m 0 c).arrAt_eq_of_covers 15 _ (by decide +kernel) fun t hf y => ?_
  blk_simp
  have hy : y = (ix2 (y 0) (y 1) : S512x1024.Idx) := eq_ix2 (n0 := 512) (n1 := 1024) y
  rw [hy, after15_eq]
  exact (turned_blocks m c t (y 0) (y 1)).trans (congrArg (turnedArr m c) (blockOut15 t (y 0) (y 1))).symm
theorem array16_eq : (dats m 0 c).arrAt 16 cfg0.N = gateArr m c := by
  refine (dats m 0 c).arrAt_eq_of_covers 16 _ (by decide +kernel) fun t hf y => ?_
  blk_simp
  have hy : y = (ix3 (y 0) (y 1) (y 2) : S4x16x512.Idx) := eq_ix3 (n0 := 4) (n1 := 16) (n2 := 512) y
  rw [hy, after16_eq]
  exact (gate_blocks m c t (y 0) (y 2) (y 1)).trans (congrArg (gateArr m c) (blockOut16 t (y 0) (y 2) (y 1))).symm

end Cert.KvqIdeal.Kvq

end
-- ==== Proof.Kvq.Reference.lean ====
/- The shared projection's reference, its stages named and read at an index. -/
module

public import proofs.«01_k».proof.Proof.Gen.KvqRefIdeal.Run
public import proofs.«01_k».proof.Proof.Mlp.Row
public import Idealize.ShloMosaic.Lib.Pipeline.ValueKit

@[expose] public section

set_option maxRecDepth 16384

noncomputable section

namespace Cert.KvqRefIdeal.Kvq

open Cert.KvqRefIdeal Cert.KvqRefIdeal.Gen Idealize.ShloMosaic Idealize.ShloMosaic.TcCoe Idealize.SL.Sem

/-! ## The stages -/

/-- Rows over their root mean square, times the gain. -/
def normed (h : FVec Ideal S16384x1024 .f32) (g : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))
/-- The shared projection, and the query projection. -/
def shared (h : FVec Ideal S16384x1024 .f32) (g : FVec Ideal S1024 .f32) (w : FVec Ideal S1024x1536 .f32) : FVec Ideal S16384x1536 .f32 :=
  Host.dotGeneral dot_S16384x1024_S1024x1536_S16384x1536_1_0_0_1_n_n none (normed h g) w
def queryProj (h : FVec Ideal S16384x1024 .f32) (g : FVec Ideal S1024 .f32) (w : FVec Ideal S1024x1072 .f32) : FVec Ideal S16384x1072 .f32 :=
  Host.dotGeneral dot_S16384x1024_S1024x1072_S16384x1072_1_0_0_1_n_n none (normed h g) w

/-- The part to be compressed. -/
def cmp (P : FVec Ideal S16384x1536 .f32) : FVec Ideal S16384x512 .f32 :=
  shapeCast _ (shapeCast _ (extractStridedSlice S16384x1x2x4x64 ![0, 0, 0, 0, 0] (shapeCast _ P shapeCasts_S16384x1536_S16384x3x2x4x64) slices_S16384x3x2x4x64_S16384x1x2x4x64_0_0_0_0_0) shapeCasts_S16384x1x2x4x64_S16384x2x4x64) shapeCasts_S16384x2x4x64_S16384x512
/-- The groups' heads of part `a`: the keys at `b = 0`, the values at `b = 1`. -/
def heads (P : FVec Ideal S16384x1536 .f32) (a b : ℕ) (hs : S16384x3x2x4x64.Slices ![0, a, b, 0, 0] S16384x1x1x4x64) : FVec Ideal S16384x4x64 .f32 :=
  shapeCast _ (extractStridedSlice S16384x1x1x4x64 ![0, a, b, 0, 0] (shapeCast _ P shapeCasts_S16384x1536_S16384x3x2x4x64) hs) shapeCasts_S16384x1x1x4x64_S16384x4x64
/-- The rotary step on four heads. -/
def rope4 (X : FVec Ideal S16384x4x64 .f32) (cos sin : FVec Ideal S16384x8 .f32) : FVec Ideal S16384x4x64 .f32 :=
  concatenate S16384x4x64 2 [⟨S16384x4x8, ((subf (mulf (extractStridedSlice S16384x4x8 ![0, 0, 0] X slices_S16384x4x64_S16384x4x8_0_0_0) (broadcastInDim S16384x4x8 ![0, 1, 2] bcast_S16384x1x8_S16384x4x8_0_1_2 (broadcastInDim S16384x1x8 ![0, 2] bcast_S16384x8_S16384x1x8_0_2 cos))) (mulf (extractStridedSlice S16384x4x8 ![0, 0, 8] X slices_S16384x4x64_S16384x4x8_0_0_8) (broadcastInDim S16384x4x8 ![0, 1, 2] bcast_S16384x1x8_S16384x4x8_0_1_2 (broadcastInDim S16384x1x8 ![0, 2] bcast_S16384x8_S16384x1x8_0_2 sin)))) : (⟨S16384x4x8, .f32⟩ : BufTy).Contents (Elt Ideal))⟩, ⟨S16384x4x8, ((addf (mulf (extractStridedSlice S16384x4x8 ![0, 0, 8] X slices_S16384x4x64_S16384x4x8_0_0_8) (broadcastInDim S16384x4x8 ![0, 1, 2] bcast_S16384x1x8_S16384x4x8_0_1_2 (broadcastInDim S16384x1x8 ![0, 2] bcast_S16384x8_S16384x1x8_0_2 cos))) (mulf (extractStridedSlice S16384x4x8 ![0, 0, 0] X slices_S16384x4x64_S16384x4x8_0_0_0) (broadcastInDim S16384x4x8 ![0, 1, 2] bcast_S16384x1x8_S16384x4x8_0_1_2 (broadcastInDim S16384x1x8 ![0, 2] bcast_S16384x8_S16384x1x8_0_2 sin)))) : (⟨S16384x4x8, .f32⟩ : BufTy).Contents (Elt Ideal))⟩, ⟨S16384x4x48, ((extractStridedSlice S16384x4x48 ![0, 0, 16] X slices_S16384x4x64_S16384x4x48_0_0_16) : (⟨S16384x4x48, .f32⟩ : BufTy).Contents (Elt Ideal))⟩] concatenates_S16384x4x8_S16384x4x8_S16384x4x48_S16384x4x64_d2
/-- The keys: turned, by group. -/
def keys (X : FVec Ideal S16384x4x64 .f32) (cos sin : FVec Ideal S16384x8 .f32) : FVec Ideal S4x16384x64 .bf16 :=
  truncf .bf16 (transpose S4x16384x64 [1, 0, 2] (rope4 X cos sin) transposes_S16384x4x64_S4x16384x64_1_0_2) bitsLt_bf16_f32
/-- The values: transposed, with a row of ones and rows of zeros below. -/
def values (X : FVec Ideal S16384x4x64 .f32) : FVec Ideal S4x80x16384 .bf16 :=
  truncf .bf16 ((concatenate S4x80x16384 1 [⟨S4x64x16384, ((transpose S4x64x16384 [1, 2, 0] X transposes_S16384x4x64_S4x64x16384_1_2_0) : (⟨S4x64x16384, .f32⟩ : BufTy).Contents (Elt Ideal))⟩, ⟨S4x1x16384, ((broadcastInDim S4x1x16384 ![] bcast_S_S4x1x16384 (constant (F := Ideal) S_ .f32 0x3F800000#32)) : (⟨S4x1x16384, .f32⟩ : BufTy).Contents (Elt Ideal))⟩, ⟨S4x15x16384, ((broadcastInDim S4x15x16384 ![] bcast_S_S4x15x16384 (constant (F := Ideal) S_ .f32 0x00000000#32)) : (⟨S4x15x16384, .f32⟩ : BufTy).Contents (Elt Ideal))⟩] concatenates_S4x64x16384_S4x1x16384_S4x15x16384_S4x80x16384_d1 : (⟨S4x80x16384, .f32⟩ : BufTy).Contents (Elt Ideal))) bitsLt_bf16_f32
/-- The scaled query heads. -/
def scaledHeads (Q : FVec Ideal S16384x1072 .f32) : FVec Ideal S16384x16x64 .f32 :=
  mulf (shapeCast _ (extractStridedSlice S16384x1024 ![0, 0] Q slices_S16384x1072_S16384x1024_0_0) shapeCasts_S16384x1024_S16384x16x64) (broadcastInDim S16384x16x64 ![] bcast_S_S16384x16x64 (constant S_ .f32 0x3E38AA3B#32))
def queries (Q : FVec Ideal S16384x1072 .f32) : FVec Ideal S16384x1024 .bf16 :=
  truncf .bf16 (shapeCast _ (scaledHeads Q) shapeCasts_S16384x16x64_S16384x1024) bitsLt_bf16_f32
/-- The rotary step on sixteen heads. -/
def rope16 (X : FVec Ideal S16384x16x64 .f32) (cos sin : FVec Ideal S16384x8 .f32) : FVec Ideal S16384x16x64 .f32 :=
  concatenate S16384x16x64 2 [⟨S16384x16x8, ((subf (mulf (extractStridedSlice S16384x16x8 ![0, 0, 0] X slices_S16384x16x64_S16384x16x8_0_0_0) (broadcastInDim S16384x16x8 ![0, 1, 2] bcast_S16384x1x8_S16384x16x8_0_1_2 (broadcastInDim S16384x1x8 ![0, 2] bcast_S16384x8_S16384x1x8_0_2 cos))) (mulf (extractStridedSlice S16384x16x8 ![0, 0, 8] X slices_S16384x16x64_S16384x16x8_0_0_8) (broadcastInDim S16384x16x8 ![0, 1, 2] bcast_S16384x1x8_S16384x16x8_0_1_2 (broadcastInDim S16384x1x8 ![0, 2] bcast_S16384x8_S16384x1x8_0_2 sin)))) : (⟨S16384x16x8, .f32⟩ : BufTy).Contents (Elt Ideal))⟩, ⟨S16384x16x8, ((addf (mulf (extractStridedSlice S16384x16x8 ![0, 0, 8] X slices_S16384x16x64_S16384x16x8_0_0_8) (broadcastInDim S16384x16x8 ![0, 1, 2] bcast_S16384x1x8_S16384x16x8_0_1_2 (broadcastInDim S16384x1x8 ![0, 2] bcast_S16384x8_S16384x1x8_0_2 cos))) (mulf (extractStridedSlice S16384x16x8 ![0, 0, 0] X slices_S16384x16x64_S16384x16x8_0_0_0) (broadcastInDim S16384x16x8 ![0, 1, 2] bcast_S16384x1x8_S16384x16x8_0_1_2 (broadcastInDim S16384x1x8 ![0, 2] bcast_S16384x8_S16384x1x8_0_2 sin)))) : (⟨S16384x16x8, .f32⟩ : BufTy).Contents (Elt Ideal))⟩, ⟨S16384x16x48, ((extractStridedSlice S16384x16x48 ![0, 0, 16] X slices_S16384x16x64_S16384x16x48_0_0_16) : (⟨S16384x16x48, .f32⟩ : BufTy).Contents (Elt Ideal))⟩] concatenates_S16384x16x8_S16384x16x8_S16384x16x48_S16384x16x64_d2
def turned (Q : FVec Ideal S16384x1072 .f32) (cos sin : FVec Ideal S16384x8 .f32) : FVec Ideal S16384x1024 .bf16 :=
  truncf .bf16 (shapeCast _ (rope16 (scaledHeads Q) cos sin) shapeCasts_S16384x16x64_S16384x1024) bitsLt_bf16_f32
/-- The gates by group, with rows of one half below. -/
def gates (Q : FVec Ideal S16384x1072 .f32) (gb : FVec Ideal S48 .f32) : FVec Ideal S4x16x16384 .f32 :=
  concatenate S4x16x16384 1 [⟨S4x12x16384, (shapeCast _ (transpose S4x3x4x16384 [2, 1, 3, 0] (shapeCast _ (Host.divf (broadcastInDim S16384x48 ![] bcast_S_S16384x48 (constant S_ .f32 0x3F800000#32)) (addf (broadcastInDim S16384x48 ![] bcast_S_S16384x48 (constant S_ .f32 0x3F800000#32)) (Host.exp (Host.negf (addf (extractStridedSlice S16384x48 ![0, 1024] Q slices_S16384x1072_S16384x48_0_1024) (broadcastInDim S16384x48 ![0, 1] bcast_S1x48_S16384x48_0_1 (broadcastInDim S1x48 ![1] bcast_S48_S1x48_1 gb))))))) shapeCasts_S16384x48_S16384x3x4x4) transposes_S16384x3x4x4_S4x3x4x16384_2_1_3_0) shapeCasts_S4x3x4x16384_S4x12x16384)⟩, ⟨S4x4x16384, (broadcastInDim S4x4x16384 ![] bcast_S_S4x4x16384 (constant S_ .f32 0x3F000000#32))⟩] concatenates_S4x12x16384_S4x4x16384_S4x16x16384_d1

/-! ## The stages at an index -/

/-- The rotary step on a head: columns 0 to 7 pair with columns 8 to 15. -/
def ropeCell (a : Fin 64 → EReal) (cs sn : Fin 8 → EReal) (x : Fin 64) : EReal :=
  if h : x.val < 8 then a x * cs ⟨x.val, h⟩ - a ⟨x.val + 8, by omega⟩ * sn ⟨x.val, h⟩
  else if h' : x.val - 8 < 8 then a x * cs ⟨x.val - 8, h'⟩ + a ⟨x.val - 8, by omega⟩ * sn ⟨x.val - 8, h'⟩
  else a x

theorem ropeCell_eq (a : Fin 64 → EReal) (cs sn : Fin 8 → EReal) (x : Fin 64) :
    (if h : x.val < 8 then a x * cs ⟨x.val, h⟩ - a ⟨8 + x.val, by omega⟩ * sn ⟨x.val, h⟩
      else if h' : x.val - 8 < 8 then a ⟨8 + (x.val - 8), by omega⟩ * cs ⟨x.val - 8, h'⟩ + a ⟨x.val - 8, by omega⟩ * sn ⟨x.val - 8, h'⟩
      else a ⟨16 + (x.val - 8 - 8), by omega⟩) = ropeCell a cs sn x := by
  have e1 (h : x.val < 8) : (⟨8 + x.val, by omega⟩ : Fin 64) = ⟨x.val + 8, by omega⟩ := Fin.ext (Nat.add_comm _ _)
  have e2 (h : ¬ x.val < 8) : (⟨8 + (x.val - 8), by omega⟩ : Fin 64) = x := Fin.ext (by show 8 + (x.val - 8) = x.val; omega)
  have e3 (h : ¬ x.val - 8 < 8) : (⟨16 + (x.val - 8 - 8), by omega⟩ : Fin 64) = x := Fin.ext (by show 16 + (x.val - 8 - 8) = x.val; omega)
  unfold ropeCell
  split
  · next h => rw [e1 h]
  · next h =>
    split
    · next h' => rw [e2 h]
    · next h' => rw [e3 h']

theorem normed_apply (h : FVec Ideal S16384x1024 .f32) (g : FVec Ideal S1024 .f32) (r : Fin 16384) (x : Fin 1024) :
    normed h g (ix2 r x) = Cert.Mlp.rms (fun e => h (ix2 r e)) (fun e => g (ix1 e)) x := by
  pointwise [normed]
  rfl
theorem shared_apply (h : FVec Ideal S16384x1024 .f32) (g : FVec Ideal S1024 .f32) (w : FVec Ideal S1024x1536 .f32) (r : Fin 16384) (y : Fin 1536) :
    shared h g w (ix2 r y) = ∑ e, Cert.Mlp.rms (fun e => h (ix2 r e)) (fun e => g (ix1 e)) e * w (ix2 e y) := by
  pointwise [shared]
  exact Finset.sum_congr rfl fun e _ => congrArg (· * _) (normed_apply h g r e)
theorem queryProj_apply (h : FVec Ideal S16384x1024 .f32) (g : FVec Ideal S1024 .f32) (w : FVec Ideal S1024x1072 .f32) (r : Fin 16384) (y : Fin 1072) :
    queryProj h g w (ix2 r y) = ∑ e, Cert.Mlp.rms (fun e => h (ix2 r e)) (fun e => g (ix1 e)) e * w (ix2 e y) := by
  pointwise [queryProj]
  exact Finset.sum_congr rfl fun e _ => congrArg (· * _) (normed_apply h g r e)

variable (P : FVec Ideal S16384x1536 .f32) (Q : FVec Ideal S16384x1072 .f32) (cos sin : FVec Ideal S16384x8 .f32) (gb : FVec Ideal S48 .f32)

theorem cmp_apply (r : Fin 16384) (x : Fin 512) : cmp P (ix2 r x) = P (ix2 r ⟨x.val, by omega⟩) := by
  pointwise [cmp]
  exact congrArg (fun z => P (ix2 r z)) (Fin.ext (by show x.val / 256 * 256 + x.val / 64 % 4 * 64 + x.val % 64 = x.val; omega))
theorem heads_apply (a b : ℕ) (hs) (ha : a < 3) (hb : b < 2) (r : Fin 16384) (g : Fin 4) (x : Fin 64) :
    heads P a b hs (ix3 r g x) = P (ix2 r ⟨512 * a + 256 * b + 64 * g.val + x.val, by omega⟩) := by
  pointwise [heads]
  exact congrArg (fun z => P (ix2 r z)) (Fin.ext (by show a * 512 + b * 256 + g.val * 64 + x.val = 512 * a + 256 * b + 64 * g.val + x.val; omega))
theorem rope4_apply (X : FVec Ideal S16384x4x64 .f32) (r : Fin 16384) (g : Fin 4) (x : Fin 64) :
    rope4 X cos sin (ix3 r g x) = ropeCell (fun x => X (ix3 r g x)) (fun k => cos (ix2 r k)) (fun k => sin (ix2 r k)) x := by
  pointwise [rope4]
  exact ropeCell_eq (fun x => X (ix3 r g x)) (fun k => cos (ix2 r k)) (fun k => sin (ix2 r k)) x
theorem rope16_apply (X : FVec Ideal S16384x16x64 .f32) (r : Fin 16384) (g : Fin 16) (x : Fin 64) :
    rope16 X cos sin (ix3 r g x) = ropeCell (fun x => X (ix3 r g x)) (fun k => cos (ix2 r k)) (fun k => sin (ix2 r k)) x := by
  pointwise [rope16]
  exact ropeCell_eq (fun x => X (ix3 r g x)) (fun k => cos (ix2 r k)) (fun k => sin (ix2 r k)) x
theorem keys_apply (X : FVec Ideal S16384x4x64 .f32) (r : Fin 16384) (g : Fin 4) (x : Fin 64) :
    keys X cos sin (ix3 g r x) = ropeCell (fun x => X (ix3 r g x)) (fun k => cos (ix2 r k)) (fun k => sin (ix2 r k)) x := by
  refine Eq.trans ?_ (rope4_apply cos sin X r g x)
  pointwise [keys]
theorem values_apply (X : FVec Ideal S16384x4x64 .f32) (r : Fin 16384) (g : Fin 4) (x : Fin 80) :
    values X (ix3 g x r) = if h : x.val < 64 then X (ix3 r g ⟨x.val, h⟩) else if x.val = 64 then 1 else 0 := by
  pointwise [values]
  split
  · rfl
  · next h => exact if_congr (show x.val - 64 < 1 ↔ x.val = 64 by omega) rfl rfl
theorem scaledHeads_apply (r : Fin 16384) (g : Fin 16) (x : Fin 64) :
    scaledHeads Q (ix3 r g x) = Q (ix2 r ⟨64 * g.val + x.val, by omega⟩) * Ideal.ofBits FTy.f32 0x3E38AA3B#32 := by
  pointwise [scaledHeads]
  exact congrArg (fun z => Q (ix2 r z) * Ideal.ofBits FTy.f32 0x3E38AA3B#32) (Fin.ext (by show g.val * 64 + x.val = 64 * g.val + x.val; omega))
theorem queries_apply (r : Fin 16384) (y : Fin 1024) :
    queries Q (ix2 r y) = Q (ix2 r ⟨y.val, by omega⟩) * Ideal.ofBits FTy.f32 0x3E38AA3B#32 := by
  pointwise [queries, scaledHeads]
theorem turned_apply (r : Fin 16384) (y : Fin 1024) :
    turned Q cos sin (ix2 r y) = ropeCell (fun x => scaledHeads Q (ix3 r ⟨y.val / 64, by omega⟩ x)) (fun k => cos (ix2 r k)) (fun k => sin (ix2 r k)) ⟨y.val % 64, by omega⟩ := by
  refine Eq.trans ?_ (rope16_apply cos sin (scaledHeads Q) r _ _)
  pointwise [turned]
theorem gates_apply (r : Fin 16384) (g : Fin 4) (k : Fin 16) :
    gates Q gb (ix3 g k r) = if h : k.val < 12 then
        Ideal.logistic (Q (ix2 r ⟨1024 + (k.val / 4 * 16 + g.val * 4 + k.val % 4), by omega⟩) + gb (ix1 ⟨k.val / 4 * 16 + g.val * 4 + k.val % 4, by omega⟩))
      else Ideal.ofBits FTy.f32 0x3F000000#32 := by
  pointwise [gates]
  rfl

end Cert.KvqRefIdeal.Kvq

end
-- ==== Proof.Kvq.Equation.lean ====
/- The shared projection equals its reference. -/
module

public import proofs.«01_k».proof.Defs
public import proofs.«01_k».proof.Proof.Kvq.Arrays
public import proofs.«01_k».proof.Proof.Kvq.Reference

@[expose] public section

set_option maxRecDepth 16384

noncomputable section

namespace Cert.KvqRefIdeal.Kvq

open Cert.KvqRefIdeal Cert.KvqRefIdeal.Gen Idealize.ShloMosaic Idealize.ShloMosaic.TcCoe Idealize.SL.Sem
open Cert.KvqIdeal.Kvq (kvAt qAt proj rowsOf qCol bCol cRow s1Row s2Row turnRow keyCell valueCell queryCell turnedCell gateCell qScale padding padding_eq)

/-! ## The rotary step -/

variable (cos sin : FVec Ideal S16384x8 .f32)

theorem cRow_head (r : Fin 16384) (u : ℕ) (hu : u < 2) (x : Fin 64) :
    cRow cos r ⟨64 * u + x.val, by omega⟩ = if h : x.val < 8 then cos (ix2 r ⟨x.val, h⟩) else if h : x.val - 8 < 8 then cos (ix2 r ⟨x.val - 8, h⟩) else 1 := by
  have key : ∀ z, z = x.val → (if h : z < 8 then cos (ix2 r ⟨z, h⟩) else if h : z - 8 < 8 then cos (ix2 r ⟨z - 8, h⟩) else 1)
      = if h : x.val < 8 then cos (ix2 r ⟨x.val, h⟩) else if h : x.val - 8 < 8 then cos (ix2 r ⟨x.val - 8, h⟩) else 1 := by
    rintro _ rfl; rfl
  exact key ((64 * u + x.val) % 64) (by omega)
theorem s1Row_head (r : Fin 16384) (u : ℕ) (hu : u < 2) (x : Fin 64) :
    s1Row sin r ⟨64 * u + x.val, by omega⟩ = if h : x.val < 8 then -sin (ix2 r ⟨x.val, h⟩) else 0 := by
  have key : ∀ z, z = x.val → (if h : z < 8 then -sin (ix2 r ⟨z, h⟩) else 0) = if h : x.val < 8 then -sin (ix2 r ⟨x.val, h⟩) else 0 := by
    rintro _ rfl; rfl
  exact key ((64 * u + x.val) % 64) (by omega)
theorem s2Row_head (r : Fin 16384) (u : ℕ) (hu : u < 2) (x : Fin 64) :
    s2Row sin r ⟨64 * u + x.val, by omega⟩ = if h : x.val < 8 then 0 else if h : x.val - 8 < 8 then sin (ix2 r ⟨x.val - 8, h⟩) else 0 := by
  have key : ∀ z, z = x.val → (if h : z < 8 then 0 else if h : z - 8 < 8 then sin (ix2 r ⟨z - 8, h⟩) else 0)
      = if h : x.val < 8 then 0 else if h : x.val - 8 < 8 then sin (ix2 r ⟨x.val - 8, h⟩) else 0 := by
    rintro _ rfl; rfl
  exact key ((64 * u + x.val) % 64) (by omega)

/-- Two heads side by side, turned by the tables: each head is turned by itself. -/
theorem turnRow_head (a : Fin 128 → EReal) (r : Fin 16384) (u : ℕ) (hu : u < 2) (x : Fin 64) :
    turnRow a (cRow cos r) (s1Row sin r) (s2Row sin r) ⟨64 * u + x.val, by omega⟩
      = ropeCell (fun z => a ⟨64 * u + z.val, by omega⟩) (fun k => cos (ix2 r k)) (fun k => sin (ix2 r k)) x := by
  unfold turnRow
  rw [cRow_head cos r u hu x, s1Row_head sin r u hu x, s2Row_head sin r u hu x]
  unfold ropeCell
  by_cases h : x.val < 8
  · have e : (⟨(64 * u + x.val + 8) % 128, by omega⟩ : Fin 128) = ⟨64 * u + (x.val + 8), by omega⟩ := Fin.ext (by show (64 * u + x.val + 8) % 128 = 64 * u + (x.val + 8); omega)
    rw [dif_pos h, dif_pos h, dif_pos h, dif_pos h, mul_zero, add_zero, mul_neg, ← sub_eq_add_neg]
    exact congrArg (fun z => _ - a z * _) e
  · rw [dif_neg h, dif_neg h, dif_neg h, dif_neg h, mul_zero, add_zero]
    by_cases h' : x.val - 8 < 8
    · have e : (⟨(64 * u + x.val + 120) % 128, by omega⟩ : Fin 128) = ⟨64 * u + (x.val - 8), by omega⟩ := Fin.ext (by show (64 * u + x.val + 120) % 128 = 64 * u + (x.val - 8); omega)
      rw [dif_pos h', dif_pos h', dif_pos h']
      exact congrArg (fun z => _ + a z * _) e
    · rw [dif_neg h', dif_neg h', dif_neg h', mul_zero, add_zero, mul_one]

/-! ## The results, cell by cell -/

section Cells

variable (h : FVec Ideal S16384x1024 .f32) (gk gq : FVec Ideal S1024 .f32) (wk : FVec Ideal S1024x1536 .f32) (wq : FVec Ideal S1024x1072 .f32) (gb : FVec Ideal S48 .f32)

theorem shared_eq (r : Fin 16384) (y : Fin 1536) : shared h gk wk (ix2 r y) = kvAt h gk wk r y := shared_apply h gk wk r y

theorem query_col (r : Fin 16384) (y : Fin 1152) (z : Fin 1072) (hq : ∀ e, qCol wq e y = wq (ix2 e z)) :
    queryProj h gq wq (ix2 r z) = qAt h gq wq r y := by
  refine (queryProj_apply h gq wq r z).trans ?_
  exact Finset.sum_congr rfl fun e _ => congrArg (Cert.Mlp.rms _ _ e * ·) (hq e).symm
theorem query_eq (r : Fin 16384) (y : ℕ) (hy : y < 1024) : queryProj h gq wq (ix2 r ⟨y, by omega⟩) = qAt h gq wq r ⟨y, by omega⟩ :=
  query_col h gq wq r _ _ fun e => dif_pos hy
theorem gate_col (r : Fin 16384) (g : Fin 4) (k : Fin 16) (hk : k.val < 12) :
    queryProj h gq wq (ix2 r ⟨1024 + (k.val / 4 * 16 + g.val * 4 + k.val % 4), by omega⟩) = qAt h gq wq r ⟨1024 + 16 * g.val + k.val, by omega⟩ := by
  refine query_col h gq wq r _ _ fun e => ?_
  have h1 : ¬ 1024 + 16 * g.val + k.val < 1024 := by omega
  have h2 : 1024 + 16 * g.val + k.val - 1024 < 64 := by omega
  have h3 : (1024 + 16 * g.val + k.val - 1024) / 16 < 4 ∧ (1024 + 16 * g.val + k.val - 1024) % 16 < 12 := by omega
  refine (dif_neg h1).trans ((dif_pos h2).trans ((dif_pos h3).trans (congrArg (fun z => wq (ix2 e z)) (Fin.ext ?_))))
  show 1024 + ((1024 + 16 * g.val + k.val - 1024) % 16 / 4 * 16 + (1024 + 16 * g.val + k.val - 1024) / 16 * 4 + (1024 + 16 * g.val + k.val - 1024) % 16 % 4) = _
  have e1 : (1024 + 16 * g.val + k.val - 1024) % 16 = k.val := by omega
  have e2 : (1024 + 16 * g.val + k.val - 1024) / 16 = g.val := by omega
  rw [e1, e2]
theorem gate_pad (r : Fin 16384) (g : Fin 4) (k : Fin 16) (hk : ¬ k.val < 12) : qAt h gq wq r ⟨1024 + 16 * g.val + k.val, by omega⟩ = 0 := by
  unfold qAt proj
  refine Finset.sum_eq_zero fun e _ => ?_
  have h1 : ¬ 1024 + 16 * g.val + k.val < 1024 := by omega
  have h2 : 1024 + 16 * g.val + k.val - 1024 < 64 := by omega
  have h3 : ¬ ((1024 + 16 * g.val + k.val - 1024) / 16 < 4 ∧ (1024 + 16 * g.val + k.val - 1024) % 16 < 12) := by omega
  have hq : qCol wq e ⟨1024 + 16 * g.val + k.val, by omega⟩ = 0 := (dif_neg h1).trans ((dif_pos h2).trans ((dif_neg h3).trans padding_eq))
  rw [hq, mul_zero]
theorem bias_col (g : Fin 4) (k : Fin 16) (hk : k.val < 12) :
    gb (ix1 ⟨k.val / 4 * 16 + g.val * 4 + k.val % 4, by omega⟩) = bCol gb ⟨16 * g.val + k.val, by omega⟩ := by
  have h2 : 16 * g.val + k.val < 64 := by omega
  have h3 : (16 * g.val + k.val) / 16 < 4 ∧ (16 * g.val + k.val) % 16 < 12 := by omega
  refine Eq.symm ((dif_pos h2).trans ((dif_pos h3).trans (congrArg (fun z => gb (ix1 z)) (Fin.ext ?_))))
  show (16 * g.val + k.val) % 16 / 4 * 16 + (16 * g.val + k.val) / 16 * 4 + (16 * g.val + k.val) % 16 % 4 = _
  have e1 : (16 * g.val + k.val) % 16 = k.val := by omega
  have e2 : (16 * g.val + k.val) / 16 = g.val := by omega
  rw [e1, e2]
theorem bias_pad (g : Fin 4) (k : Fin 16) (hk : ¬ k.val < 12) : bCol gb ⟨16 * g.val + k.val, by omega⟩ = 0 := by
  have h2 : 16 * g.val + k.val < 64 := by omega
  have h3 : ¬ ((16 * g.val + k.val) / 16 < 4 ∧ (16 * g.val + k.val) % 16 < 12) := by omega
  exact (dif_pos h2).trans ((dif_neg h3).trans padding_eq)
theorem half_eq : Ideal.ofBits FTy.f32 0x3F000000#32 = Ideal.logistic 0 := by
  unfold Ideal.logistic
  rw [neg_zero, show Ideal.exp 0 = ((1 : ℝ) : EReal) from congrArg ((↑) : ℝ → EReal) Real.exp_zero,
    show (1 : EReal) + ((1 : ℝ) : EReal) = ((2 : ℝ) : EReal) by rw [← EReal.coe_one, ← EReal.coe_add]; norm_num, Ideal.div_coe (by norm_num), one_mul]
  simp [Ideal.ofBits, Ideal.ieee, -EReal.coe_mul]
  norm_num

theorem cmp_eq (r : Fin 16384) (x : Fin 512) : cmp (shared h gk wk) (ix2 r x) = kvAt h gk wk r ⟨x.val, by omega⟩ :=
  (cmp_apply _ r x).trans (shared_eq h gk wk r _)
theorem keys_eq (a : ℕ) (hs) (ha : a < 3) (r : Fin 16384) (g : Fin 4) (x : Fin 64) :
    keys (heads (shared h gk wk) a 0 hs) cos sin (ix3 g r x)
      = keyCell (kvAt h gk wk r) (cRow cos r) (s1Row sin r) (s2Row sin r) (512 * a) (by omega) g x := by
  refine (keys_apply cos sin _ r g x).trans ((turnRow_head cos sin _ r (g.val % 2) (by omega) x).trans ?_).symm
  refine congrArg (fun f => ropeCell f _ _ x) (funext fun z => ?_)
  refine Eq.symm ((heads_apply _ a 0 hs ha (by decide) r g z).trans ((shared_eq h gk wk r _).trans (congrArg (kvAt h gk wk r) (Fin.ext ?_))))
  show 512 * a + 256 * 0 + 64 * g.val + z.val = 512 * a + 128 * (g.val / 2) + (64 * (g.val % 2) + z.val)
  omega
theorem values_eq (a : ℕ) (hs) (ha : a < 3) (r : Fin 16384) (g : Fin 4) (x : Fin 80) :
    values (heads (shared h gk wk) a 1 hs) (ix3 g x r) = valueCell (kvAt h gk wk r) (512 * a + 256) (by omega) g x := by
  refine (values_apply _ r g x).trans ?_
  unfold valueCell
  by_cases hx : x.val < 64
  · rw [dif_pos hx, dif_pos hx]
    exact (heads_apply _ a 1 hs ha (by decide) r g ⟨x.val, hx⟩).trans (shared_eq h gk wk r _)
  · rw [dif_neg hx, dif_neg hx]
theorem queries_eq (r : Fin 16384) (y : Fin 1024) : queries (queryProj h gq wq) (ix2 r y) = queryCell (qAt h gq wq r) y :=
  (queries_apply _ r y).trans (congrArg (· * qScale) (query_eq h gq wq r y.val y.isLt))
theorem turned_eq (r : Fin 16384) (y : Fin 1024) :
    turned (queryProj h gq wq) cos sin (ix2 r y) = turnedCell (qAt h gq wq r) (cRow cos r) (s1Row sin r) (s2Row sin r) y := by
  unfold turnedCell
  have hy : (⟨y.val % 128, by omega⟩ : Fin 128) = ⟨64 * (y.val / 64 % 2) + y.val % 64, by omega⟩ := Fin.ext (by show y.val % 128 = 64 * (y.val / 64 % 2) + y.val % 64; omega)
  rw [hy]
  refine (turned_apply _ cos sin r y).trans ((turnRow_head cos sin _ r (y.val / 64 % 2) (by omega) ⟨y.val % 64, by omega⟩).trans ?_).symm
  refine congrArg (fun f => ropeCell f _ _ _) (funext fun z => ?_)
  refine Eq.symm ((scaledHeads_apply _ r _ z).trans (congrArg (· * qScale) ((query_eq h gq wq r _ (by omega)).trans (congrArg (qAt h gq wq r) (Fin.ext ?_)))))
  show 64 * (y.val / 64) + z.val = 128 * (y.val / 128) + (64 * (y.val / 64 % 2) + z.val)
  omega
theorem gates_eq (r : Fin 16384) (g : Fin 4) (k : Fin 16) :
    gates (queryProj h gq wq) gb (ix3 g k r) = gateCell (qAt h gq wq r) (bCol gb) g k := by
  refine (gates_apply _ gb r g k).trans ?_
  unfold gateCell
  by_cases hk : k.val < 12
  · rw [dif_pos hk, gate_col h gq wq r g k hk, bias_col gb g k hk]
  · rw [dif_neg hk, gate_pad h gq wq r g k hk, bias_pad gb g k hk, add_zero, half_eq]

/-! The same, as whole arrays. -/

theorem cmp_whole : cmp (shared h gk wk) = fun i => kvAt h gk wk (i 0) ⟨(i 1).val, Nat.lt_trans (i 1).isLt (by decide)⟩ := by
  refine funext fun i => ?_
  refine (congrArg _ (eq_ix2 (n0 := 16384) (n1 := 512) i)).trans ?_
  exact cmp_eq h gk wk (i 0) (i 1)
theorem keys_whole (a : ℕ) (hs) (ha : a < 3) : keys (heads (shared h gk wk) a 0 hs) cos sin
    = fun i => keyCell (kvAt h gk wk (i 1)) (cRow cos (i 1)) (s1Row sin (i 1)) (s2Row sin (i 1)) (512 * a) (by omega) (i 0) (i 2) := by
  refine funext fun i => ?_
  refine (congrArg _ (eq_ix3 (n0 := 4) (n1 := 16384) (n2 := 64) i)).trans ?_
  exact keys_eq cos sin h gk wk a hs ha (i 1) (i 0) (i 2)
theorem values_whole (a : ℕ) (hs) (ha : a < 3) : values (heads (shared h gk wk) a 1 hs)
    = fun i => valueCell (kvAt h gk wk (i 2)) (512 * a + 256) (by omega) (i 0) (i 1) := by
  refine funext fun i => ?_
  refine (congrArg _ (eq_ix3 (n0 := 4) (n1 := 80) (n2 := 16384) i)).trans ?_
  exact values_eq h gk wk a hs ha (i 2) (i 0) (i 1)
theorem queries_whole : queries (queryProj h gq wq) = fun i => queryCell (qAt h gq wq (i 0)) (i 1) := by
  refine funext fun i => ?_
  refine (congrArg _ (eq_ix2 (n0 := 16384) (n1 := 1024) i)).trans ?_
  exact queries_eq h gq wq (i 0) (i 1)
theorem turned_whole : turned (queryProj h gq wq) cos sin
    = fun i => turnedCell (qAt h gq wq (i 0)) (cRow cos (i 0)) (s1Row sin (i 0)) (s2Row sin (i 0)) (i 1) := by
  refine funext fun i => ?_
  refine (congrArg _ (eq_ix2 (n0 := 16384) (n1 := 1024) i)).trans ?_
  exact turned_eq cos sin h gq wq (i 0) (i 1)
theorem gates_whole : gates (queryProj h gq wq) gb = fun i => gateCell (qAt h gq wq (i 2)) (bCol gb) (i 0) (i 1) := by
  refine funext fun i => ?_
  refine (congrArg _ (eq_ix3 (n0 := 4) (n1 := 16) (n2 := 16384) i)).trans ?_
  exact gates_eq h gq wq gb (i 2) (i 0) (i 1)

end Cells

/-! ## The run -/

variable (m : (ℓ : Loc nD τ sig) → Buf (Elt Ideal) ℓ) (ρ : Dev nD → PrngReg)

abbrev sharedOf (c : Dev nD) : FVec Ideal S16384x1536 .f32 := shared (m ((c.tc : Thread nD τ).loc main_arg0)) (m ((c.tc : Thread nD τ).loc main_arg1)) (m ((c.tc : Thread nD τ).loc main_arg2))
abbrev queryOf (c : Dev nD) : FVec Ideal S16384x1072 .f32 := queryProj (m ((c.tc : Thread nD τ).loc main_arg0)) (m ((c.tc : Thread nD τ).loc main_arg3)) (m ((c.tc : Thread nD τ).loc main_arg4))

/-- The reference's run, its results named. -/
theorem run : θ_run defs (onTc (τ := τ) (main (F := Ideal))) ⟨m, fun _ => 0, ρ⟩ fun r => ∀ c : Dev nD,
      r.2.mem ((c.tc : Thread nD τ).loc main_v50) = cmp (sharedOf m c)
      ∧ r.2.mem ((c.tc : Thread nD τ).loc main_v70) = keys (heads (sharedOf m c) 1 0 slices_S16384x3x2x4x64_S16384x1x1x4x64_0_1_0_0_0) (m ((c.tc : Thread nD τ).loc main_arg6)) (m ((c.tc : Thread nD τ).loc main_arg7))
      ∧ r.2.mem ((c.tc : Thread nD τ).loc main_v77) = values (heads (sharedOf m c) 1 1 slices_S16384x3x2x4x64_S16384x1x1x4x64_0_1_1_0_0)
      ∧ r.2.mem ((c.tc : Thread nD τ).loc main_v97) = keys (heads (sharedOf m c) 2 0 slices_S16384x3x2x4x64_S16384x1x1x4x64_0_2_0_0_0) (m ((c.tc : Thread nD τ).loc main_arg6)) (m ((c.tc : Thread nD τ).loc main_arg7))
      ∧ r.2.mem ((c.tc : Thread nD τ).loc main_v104) = values (heads (sharedOf m c) 2 1 slices_S16384x3x2x4x64_S16384x1x1x4x64_0_2_1_0_0)
      ∧ r.2.mem ((c.tc : Thread nD τ).loc main_v106) = queries (queryOf m c)
      ∧ r.2.mem ((c.tc : Thread nD τ).loc main_v124) = turned (queryOf m c) (m ((c.tc : Thread nD τ).loc main_arg6)) (m ((c.tc : Thread nD τ).loc main_arg7))
      ∧ r.2.mem ((c.tc : Thread nD τ).loc main_v47) = gates (queryOf m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.KvqRefIdeal.Value.run (F := Ideal) m ρ

end Cert.KvqRefIdeal.Kvq

namespace Cert.Kvq

open Idealize.ShloMosaic Idealize.ShloMosaic.TcCoe Idealize.SL.Sem

set_option maxHeartbeats 4000000 in
/-- The shared projection. -/
theorem algebraic_kvq : Cert.algebraic_KvqIdeal_KvqRefIdeal (hKvqIdeal := Cert.KvqIdeal.Gen.facts) (hKvqRefIdeal := Cert.KvqRefIdeal.Gen.facts) := by
  intro m ρ m' ρ' _ hagree
  refine ⟨fun c => (Cert.KvqIdeal.Gen.dats m 0 c).arrAt 9 Cert.KvqIdeal.cfg0.N,
    fun c => (Cert.KvqIdeal.Gen.dats m 0 c).arrAt 10 Cert.KvqIdeal.cfg0.N,
    fun c => (Cert.KvqIdeal.Gen.dats m 0 c).arrAt 11 Cert.KvqIdeal.cfg0.N,
    fun c => (Cert.KvqIdeal.Gen.dats m 0 c).arrAt 12 Cert.KvqIdeal.cfg0.N,
    fun c => (Cert.KvqIdeal.Gen.dats m 0 c).arrAt 13 Cert.KvqIdeal.cfg0.N,
    fun c => (Cert.KvqIdeal.Gen.dats m 0 c).arrAt 14 Cert.KvqIdeal.cfg0.N,
    fun c => (Cert.KvqIdeal.Gen.dats m 0 c).arrAt 15 Cert.KvqIdeal.cfg0.N,
    fun c => (Cert.KvqIdeal.Gen.dats m 0 c).arrAt 16 Cert.KvqIdeal.cfg0.N,
    Cert.KvqIdeal.Value.run_blocks (F := Ideal) m ρ, ?_⟩
  refine (θ_run Cert.KvqRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.KvqRefIdeal.Kvq.run m' ρ')
  all_goals obtain ⟨h0, h1, h2, h3, h4, h5, h6, h7⟩ := hagree c
  · unfold Cert.KvqRefIdeal.Kvq.sharedOf
    rw [h0, h1, h2]
    exact (Cert.KvqRefIdeal.Kvq.cmp_whole _ _ _).trans (Cert.KvqIdeal.Kvq.array9_eq m c).symm
  · unfold Cert.KvqRefIdeal.Kvq.sharedOf
    rw [h0, h1, h2, h6, h7]
    exact (Cert.KvqRefIdeal.Kvq.keys_whole _ _ _ _ _ 1 _ (by decide)).trans (Cert.KvqIdeal.Kvq.array10_eq m c).symm
  · unfold Cert.KvqRefIdeal.Kvq.sharedOf
    rw [h0, h1, h2]
    exact (Cert.KvqRefIdeal.Kvq.values_whole _ _ _ 1 _ (by decide)).trans (Cert.KvqIdeal.Kvq.array11_eq m c).symm
  · unfold Cert.KvqRefIdeal.Kvq.sharedOf
    rw [h0, h1, h2, h6, h7]
    exact (Cert.KvqRefIdeal.Kvq.keys_whole _ _ _ _ _ 2 _ (by decide)).trans (Cert.KvqIdeal.Kvq.array12_eq m c).symm
  · unfold Cert.KvqRefIdeal.Kvq.sharedOf
    rw [h0, h1, h2]
    exact (Cert.KvqRefIdeal.Kvq.values_whole _ _ _ 2 _ (by decide)).trans (Cert.KvqIdeal.Kvq.array13_eq m c).symm
  · unfold Cert.KvqRefIdeal.Kvq.queryOf
    rw [h0, h3, h4]
    exact (Cert.KvqRefIdeal.Kvq.queries_whole _ _ _).trans (Cert.KvqIdeal.Kvq.array14_eq m c).symm
  · unfold Cert.KvqRefIdeal.Kvq.queryOf
    rw [h0, h3, h4, h6, h7]
    exact (Cert.KvqRefIdeal.Kvq.turned_whole _ _ _ _ _).trans (Cert.KvqIdeal.Kvq.array15_eq m c).symm
  · unfold Cert.KvqRefIdeal.Kvq.queryOf
    rw [h0, h3, h4, h5]
    exact (Cert.KvqRefIdeal.Kvq.gates_whole _ _ _ _).trans (Cert.KvqIdeal.Kvq.array16_eq m c).symm

end Cert.Kvq

end
-- ==== Proof.Cmp.Steps.lean ====
/- What the compression's body stores: chains of partial products, the rows a step of a sum of two chains, read at an index. -/
module

public import proofs.«01_k».proof.Proof.Gen.CmpIdeal.Value
public import Idealize.ShloMosaic.Lib.Pipeline.ValueKit
public import Idealize.ShloMosaic.Lib.StableHlo.RunClose
public import Idealize.ShloMosaic.Lib.WholeRead
import Idealize.ShloMosaic.Lib.Pipeline.ReadBack

@[expose] public section

set_option maxRecDepth 16384

noncomputable section

namespace Cert.CmpIdeal.Cmp

open Cert.CmpIdeal Cert.CmpIdeal.Gen Idealize.ShloMosaic Idealize.ShloMosaic.TcCoe Idealize.SL.Sem Idealize.ShloMosaic.Tactic

/-- The smooth gate of a number, by its hyperbolic tangent form. -/
def gelu (z : EReal) : EReal :=
  z * (Ideal.ofBits FTy.f32 0x3F000000#32 * (1
    + Ideal.tanh (Ideal.ofBits FTy.f32 0x3F4C422A#32 * (z + Ideal.ofBits FTy.f32 0x3D372713#32 * (z * (z * z))))))

/-! ## The steps -/

/-- Columns `o` on of some rows times rows `q` on of the weights. -/
def part (X : FVec Ideal S1024x128 .f32) (W : FVec Ideal S2048x256 .bf16) (o q : ℕ) (ho : S1024x128.Slices ![0, o] S1024x64)
    (hq : S2048x256.Slices ![q, 0] S64x256) : FVec Ideal S1024x256 .f32 :=
  matmul dot_S1024x64_S64x256_S1024x256_1_0_0_1_n_n none (extractStridedSlice S1024x64 ![0, o] (truncf .bf16 X bitsLt_bf16_f32) ho)
    (extractStridedSlice S64x256 ![q, 0] W hq) (constant S1024x256 .f32 0x00000000#32)

/-- The first `n` of a half's sixteen partial products, summed from the left. -/
def chain (X : Fin 16 → FVec Ideal S1024x128 .f32) (W : FVec Ideal S2048x256 .bf16) (o b : ℕ) (ho : S1024x128.Slices ![0, o] S1024x64)
    (hq : ∀ l : Fin 16, S2048x256.Slices ![b + 64 * l.val, 0] S64x256) : (n : ℕ) → n ≤ 16 → FVec Ideal S1024x256 .f32
  | 0, _ => broadcast S1024x256 (Scalar.ofBits (F := Ideal) .f32 0x00000000#32)
  | n + 1, h => addf (chain X W o b ho hq n (Nat.le_of_succ_le h)) (part (X ⟨n, h⟩) W o (b + 64 * n) ho (hq ⟨n, h⟩))

/-- A block's two halves — the second taken from the row after — and the positions' share. -/
def hid (A B : FVec Ideal S1024x256 .f32) (v : FVec Ideal S1x256 .f32) : FVec Ideal S1024x256 .f32 :=
  addf (addf A (dynamicRotate 0 1023#32 none B rotates_S1024x256_d0)) (broadcastTo S1024x256 v broadcasts_S1x256_S1024x256)

/-- The gated rows times the second weights, the row past the last block zero. -/
def out (h : FVec Ideal S1024x256 .f32) (w2 : FVec Ideal S1x256x64 .bf16) : FVec Ideal S1024x64 .f32 := k0_pay112 (F := Ideal) k0_pay109 h w2

/-! ## The steps at an index -/

theorem part_apply (X : FVec Ideal S1024x128 .f32) (W : FVec Ideal S2048x256 .bf16) (o q : ℕ) (ho : S1024x128.Slices ![0, o] S1024x64)
    (hq : S2048x256.Slices ![q, 0] S64x256) (ho' : o + 64 ≤ 128) (hq' : q + 64 ≤ 2048) (r : Fin 1024) (e : Fin 256) :
    part X W o q ho hq (ix2 r e) = ∑ k : Fin 64, X (ix2 r ⟨o + k.val, by omega⟩) * W (ix2 ⟨q + k.val, by omega⟩ e) := by
  pointwise [part]

theorem chain_apply (X : Fin 16 → FVec Ideal S1024x128 .f32) (W : FVec Ideal S2048x256 .bf16) (o b : ℕ) (ho : S1024x128.Slices ![0, o] S1024x64)
    (hq : ∀ l : Fin 16, S2048x256.Slices ![b + 64 * l.val, 0] S64x256) (ho' : o + 64 ≤ 128) (hb : b + 1024 ≤ 2048) (r : Fin 1024) (e : Fin 256)
    (n : ℕ) (hn : n ≤ 16) :
    chain X W o b ho hq n hn (ix2 r e)
      = ∑ l : Fin n, ∑ k : Fin 64, X ⟨l.val, by omega⟩ (ix2 r ⟨o + k.val, by omega⟩) * W (ix2 ⟨b + 64 * l.val + k.val, by omega⟩ e) := by
  induction n with
  | zero => exact Ideal.ofBits_zero_f32
  | succ n ih =>
    rw [Fin.sum_univ_castSucc]
    exact congrArg₂ (· + ·) (ih (Nat.le_of_succ_le hn)) (part_apply (X ⟨n, hn⟩) W o (b + 64 * n) ho (hq ⟨n, hn⟩) ho' (by omega) r e)

theorem hid_apply (A B : FVec Ideal S1024x256 .f32) (v : FVec Ideal S1x256 .f32) (r : Fin 1024) (e : Fin 256) :
    hid A B v (ix2 r e) = A (ix2 r e) + B (ix2 ⟨(r.val + 1) % 1024, by omega⟩ e) + v (ix2 0 e) := by
  pointwise [hid]
  rfl

theorem bias_apply (W : FVec Ideal S1x2048x256 .bf16) (p : FVec Ideal S1x8x2048 .f32) (e : Fin 256) :
    k0_pay3 (F := Ideal) W p (ix2 0 e) = ∑ f : Fin 2048, p (ix3 0 0 f) * W (ix3 0 f e) := by
  pointwise [k0_pay3, k0_pay2]

theorem live_eq : ∀ r : Fin 1024, IntOp.cmpi CmpIPredicate.slt (BitVec.ofNat 32 r.val) 1023#32 = if r.val < 1023 then 1#1 else 0#1 := by
  decide +kernel

theorem out_apply (h : FVec Ideal S1024x256 .f32) (w2 : FVec Ideal S1x256x64 .bf16) (r : Fin 1024) (d : Fin 64) :
    out h w2 (ix2 r d) = if r.val < 1023 then ∑ e : Fin 256, gelu (h (ix2 r e)) * w2 (ix3 0 e d) else 0 := by
  pointwise [out, k0_pay112, k0_pay109]
  rw [live_eq r]
  by_cases hr : r.val < 1023
  · rw [if_pos hr, if_pos hr]
    rfl
  · rw [if_neg hr, if_neg hr]
    rfl

theorem ones_apply (x : Fin 16) (r : Fin 1024) : k0_pay110 (F := Ideal) (ix2 x r) = if x.val = 0 then 1 else 0 := by
  pointwise [k0_pay110]
  have h1 : FloatOps.sitofp (F := Ideal) FTy.f32 1#32 = (1 : EReal) := by show (((1#32).toInt : ℝ) : EReal) = 1; norm_num
  have h0 : FloatOps.sitofp (F := Ideal) FTy.f32 0#32 = (0 : EReal) := by show (((0#32).toInt : ℝ) : EReal) = 0; norm_num
  fin_cases x <;> first | exact h1 | exact h0

end Cert.CmpIdeal.Cmp

end
-- ==== Proof.Cmp.Blocks.lean ====
/- What the compression's body leaves in each result's block: its stores are the blocks' rows, and their transposes. -/
module

public import proofs.«01_k».proof.Proof.Cmp.Steps
import Idealize.ShloMosaic.Lib.Pipeline.ReadBack

@[expose] public section

set_option maxRecDepth 16384

noncomputable section

namespace Cert.CmpIdeal.Cmp

open Cert.CmpIdeal Cert.CmpIdeal.Gen Idealize.ShloMosaic Idealize.ShloMosaic.TcCoe Idealize.SL.Sem Idealize.ShloMosaic.Tactic
open Idealize.ShloMosaic.Pipeline (Dat)

theorem slices_cols : ∀ g : Fin 2, S1024x128.Slices ![0, 64 * g.val] S1024x64 := by decide
theorem slices_first : ∀ l : Fin 16, S2048x256.Slices ![0 + 64 * l.val, 0] S64x256 := by decide
theorem slices_second : ∀ l : Fin 16, S2048x256.Slices ![1024 + 64 * l.val, 0] S64x256 := by decide
theorem slices_rows : ∀ g : Fin 2, S128x1024.Slices ![64 * g.val, 0] S64x1024 := by decide

/-- A group's hidden rows, from the sixteen interleaved loads of its two groups' rows. -/
def hidden (L : Fin 16 → FVec Ideal S1024x128 .f32) (p : FVec Ideal S1x8x2048 .f32) (W : FVec Ideal S1x2048x256 .bf16) (g : Fin 2) : FVec Ideal S1024x256 .f32 :=
  hid (chain L (k0_pay2 (F := Ideal) W) (64 * g.val) 0 (slices_cols g) slices_first 16 le_rfl)
    (chain L (k0_pay2 (F := Ideal) W) (64 * g.val) 1024 (slices_cols g) slices_second 16 le_rfl) (k0_pay3 (F := Ideal) W p)

/-- A store of a group's rows, and of the columns of two groups' transposed rows. -/
def rowsStep (o : FVec Ideal S1024x64 .f32) : FVec Ideal S1x1x1024x64 .bf16 :=
  shapeCast S1x1x1024x64 (truncf .bf16 o bitsLt_bf16_f32) shapeCasts_S1024x64_S1x1x1024x64
def colsStep (o : Fin 2 → FVec Ideal S1024x64 .f32) (g : Fin 2) : FVec Ideal S1x1x64x1024 .bf16 :=
  shapeCast S1x1x64x1024 (truncf .bf16 (extractStridedSlice S64x1024 ![64 * g.val, 0]
    (transpose S128x1024 [1, 0] (concatenate S1024x128 1 [⟨S1024x64, o 0⟩, ⟨S1024x64, o 1⟩] concatenates_S1024x64_S1024x64_S1024x128_d1)
      transposes_S1024x128_p1_0_S128x1024) (slices_rows g)) bitsLt_bf16_f32) shapeCasts_S64x1024_S1x1x64x1024

theorem rowsStep_apply (o : FVec Ideal S1024x64 .f32) (r : Fin 1024) (d : Fin 64) : rowsStep o (ix4 0 0 r d) = o (ix2 r d) := by
  pointwise [rowsStep]
theorem colsStep_apply (o : Fin 2 → FVec Ideal S1024x64 .f32) (g : Fin 2) (r : Fin 1024) (d : Fin 64) : colsStep o g (ix4 0 0 d r) = o g (ix2 r d) := by
  pointwise [colsStep]
  match g with
  | ⟨0, _⟩ => exact (dif_pos (show 64 * 0 + d.val < 64 by omega)).trans (congrArg (fun z => o 0 (ix2 r z)) (Fin.ext (by show 64 * 0 + d.val = d.val; omega)))
  | ⟨1, _⟩ => exact (dif_neg (show ¬ 64 * 1 + d.val < 64 by omega)).trans (congrArg (fun z => o 1 (ix2 r z)) (Fin.ext (by show 64 * 1 + d.val - 64 = d.val; omega)))

variable (o : Fin 2 → FVec Ideal S1024x64 .f32)

/-- The blocks of the two results. -/
def rowsBlock (i : S1x2x1024x64.Idx) : EReal := o (i 1) (ix2 (i 2) (i 3))
def colsBlock (i : S1x2x80x1024.Idx) : EReal := if h : (i 2).val < 64 then o (i 1) (ix2 (i 3) ⟨(i 2).val, h⟩) else if (i 2).val = 64 then 1 else 0

theorem emb4 {a b n k n' k' : ℕ} (γ ρ : ℕ) (h) (z w : Fin 1) (r : Fin n) (y : Fin k) (hγ : γ < b) (h0 : 0 < a) (hr : ρ + n ≤ n') (hk : k ≤ k') :
    (Rect.unit (s := ⟨4, ![a, b, n', k']⟩) ![0, γ, ρ, 0] ![1, 1, n, k] h).emb (ix4 z w r y)
      = ix4 ⟨0, h0⟩ ⟨γ, hγ⟩ ⟨ρ + r.val, by omega⟩ ⟨y.val, by omega⟩ := by
  refine funext fun x => Fin.ext ?_
  match x with
  | ⟨0, _⟩ => show 0 + 1 * z.val = 0; omega
  | ⟨1, _⟩ => show γ + 1 * w.val = γ; omega
  | ⟨2, _⟩ => show ρ + 1 * r.val = ρ + r.val; omega
  | ⟨3, _⟩ => show 0 + 1 * y.val = y.val; omega

theorem rows_piece (g : Fin 2) (hi) (x : S1x1x1024x64.Idx) :
    rowsStep (o g) x = rowsBlock o ((Rect.unit (s := S1x2x1024x64) ![0, g.val, 0, 0] ![1, 1, 1024, 64] hi).emb x) := by
  obtain ⟨z, w, r, d, rfl⟩ : ∃ (z w : Fin 1) (r : Fin 1024) (d : Fin 64), x = ix4 z w r d :=
    ⟨x 0, x 1, x 2, x 3, eq_ix4 (n0 := 1) (n1 := 1) (n2 := 1024) (n3 := 64) x⟩
  obtain rfl : z = 0 := Subsingleton.elim _ _
  obtain rfl : w = 0 := Subsingleton.elim _ _
  refine Eq.trans ?_ (congrArg (rowsBlock o) (emb4 g.val 0 hi 0 0 r d g.isLt (by decide) (by decide) (by decide)).symm)
  refine (rowsStep_apply (o g) r d).trans (congrArg (o g) (congrArg (ix2 · d) (Fin.ext ?_)))
  show r.val = 0 + r.val; omega
theorem cols_piece (g : Fin 2) (hi) (x : S1x1x64x1024.Idx) :
    colsStep o g x = colsBlock o ((Rect.unit (s := S1x2x80x1024) ![0, g.val, 0, 0] ![1, 1, 64, 1024] hi).emb x) := by
  obtain ⟨z, w, d, r, rfl⟩ : ∃ (z w : Fin 1) (d : Fin 64) (r : Fin 1024), x = ix4 z w d r :=
    ⟨x 0, x 1, x 2, x 3, eq_ix4 (n0 := 1) (n1 := 1) (n2 := 64) (n3 := 1024) x⟩
  obtain rfl : z = 0 := Subsingleton.elim _ _
  obtain rfl : w = 0 := Subsingleton.elim _ _
  refine Eq.trans ?_ (congrArg (colsBlock o) (emb4 g.val 0 hi 0 0 d r g.isLt (by decide) (by decide) (by decide)).symm)
  refine Eq.trans ?_ (dif_pos (show 0 + d.val < 64 by omega)).symm
  refine (colsStep_apply o g r d).trans (congrArg (o g) (congrArg (ix2 r ·) (Fin.ext ?_)))
  show d.val = 0 + d.val; omega
theorem ones_piece (g : Fin 2) (hi) (x : S1x1x16x1024.Idx) :
    k0_pay1 (F := Ideal) (k0_pay110 (F := Ideal)) x = colsBlock o ((Rect.unit (s := S1x2x80x1024) ![0, g.val, 64, 0] ![1, 1, 16, 1024] hi).emb x) := by
  obtain ⟨z, w, d, r, rfl⟩ : ∃ (z w : Fin 1) (d : Fin 16) (r : Fin 1024), x = ix4 z w d r :=
    ⟨x 0, x 1, x 2, x 3, eq_ix4 (n0 := 1) (n1 := 1) (n2 := 16) (n3 := 1024) x⟩
  obtain rfl : z = 0 := Subsingleton.elim _ _
  obtain rfl : w = 0 := Subsingleton.elim _ _
  refine Eq.trans ?_ (congrArg (colsBlock o) (emb4 g.val 64 hi 0 0 d r g.isLt (by decide) (by decide) (by decide)).symm)
  refine Eq.trans ?_ (dif_neg (show ¬ 64 + d.val < 64 by omega)).symm
  pointwise [k0_pay1]
  rw [ones_apply d r]
  exact if_congr (show d.val = 0 ↔ 64 + d.val = 64 by omega) rfl rfl

variable (m : (ℓ : Loc nD τ sig) → Buf (Elt Ideal) ℓ) (c : Dev nD) (t : Fin cfg0.N)

theorem inb_rows : ∀ l : Fin 16, ∀ a, S1024x128.size a = 0 ∨ (![l.val, 0] : Fin 2 → Nat) a + (![16, 1] : Fin 2 → Nat) a * (S1024x128.size a - 1) < S16384x128.size a := by
  decide

/-- Every sixteenth row of the block, from row `l` on. -/
def loads (l : Fin 16) : FVec Ideal S1024x128 .f32 :=
  View.readAt (Elt Ideal) (ms0_0 t).view ⟨![l.val, 0], S1024x128.size, ![16, 1], inb_rows l⟩ (Memref.IsWhole.unread (hs0_0 t) (iblk m c 0 t))

theorem loads_apply (l : Fin 16) (r : Fin 1024) (y : Fin 128) : loads m c t l (ix2 r y) = iblk m c 0 t (ix2 ⟨16 * r.val + l.val, by omega⟩ y) := by
  refine (Memref.IsWhole.readAt_unread (hs0_0 t) (iblk m c 0 t) (⟨![l.val, 0], S1024x128.size, ![16, 1], inb_rows l⟩ : LoadRect S16384x128) (ix2 r y)).trans (congrArg (iblk m c 0 t) (funext fun a => Fin.ext ?_))
  rw [LoadRect.idx_apply]
  match a with
  | ⟨0, _⟩ => show l.val + 16 * r.val = 16 * r.val + l.val; omega
  | ⟨1, _⟩ => show 0 + 1 * y.val = y.val; omega

/-- A group's rows at a point. -/
def outs (g : Fin 2) : FVec Ideal S1024x64 .f32 := out (hidden (loads m c t) (iblk m c 1 t) (iblk m c 2 t) g) (iblk m c 3 t)

theorem after4_eq : (dats m 0 c).after 4 t = rowsBlock (outs m c t) := by
  rw [after0_4]
  frame_out
  funext y
  refine View.canon_append_of_piecesOf (Val := Elt Ideal) (e := .bf16) (rowsBlock (outs m c t)) [] [_, _] ⟨?_, ?_, trivial⟩ y ?_
  · exact rows_piece (outs m c t) 1 inb_S1x2x1024x64_S1x1x1024x64_0_1_0_0
  · exact rows_piece (outs m c t) 0 inb_S1x2x1024x64_S1x1x1024x64_0_0_0_0
  · exact View.cover_of_tiledL (s := S1x2x1024x64) _ S1x1x1024x64.size (by sl_kernel_rfl) y
theorem after5_eq : (dats m 0 c).after 5 t = colsBlock (outs m c t) := by
  rw [after0_5]
  frame_out
  funext y
  refine View.canon_append_of_piecesOf (Val := Elt Ideal) (e := .bf16) (colsBlock (outs m c t)) [] [_, _, _, _] ⟨?_, ?_, ?_, ?_, trivial⟩ y ?_
  · exact ones_piece (outs m c t) 1 inb_S1x2x80x1024_S1x1x16x1024_0_1_64_0
  · exact cols_piece (outs m c t) 1 inb_S1x2x80x1024_S1x1x64x1024_0_1_0_0
  · exact ones_piece (outs m c t) 0 inb_S1x2x80x1024_S1x1x16x1024_0_0_64_0
  · exact cols_piece (outs m c t) 0 inb_S1x2x80x1024_S1x1x64x1024_0_0_0_0
  · exact View.cover_of_tiledBy (s := S1x2x80x1024) _ ![1, 1, 16, 1024] (by sl_kernel_rfl) y

end Cert.CmpIdeal.Cmp

end
-- ==== Proof.Cmp.Arrays.lean ====
/- The arrays the compression leaves: every block's row, over the arguments. -/
module

public import proofs.«01_k».proof.Proof.Cmp.Blocks
public import Idealize.ShloMosaic.Lib.StableHlo.ReadAt

@[expose] public section

set_option maxRecDepth 16384

noncomputable section

namespace Cert.CmpIdeal.Cmp

open Cert.CmpIdeal Cert.CmpIdeal.Gen Idealize.ShloMosaic Idealize.ShloMosaic.TcCoe Idealize.SL.Sem Idealize.ShloMosaic.Tactic
open Idealize.ShloMosaic.Pipeline (Dat)

/-! ## The cells -/

section Cells

variable (kv : FVec Ideal S16384x512 .f32) (pos : FVec Ideal S2x32x64 .f32) (w1 : FVec Ideal S2x2048x256 .f32) (w2 : FVec Ideal S2x256x64 .f32)

/-- Sixteen rows from row `16 r` on, of group `g`'s keys or values, times the first weights from feature `b` on. -/
def halfAt (b : ℕ) (hb : b + 1024 ≤ 2048) (s : Fin 2) (g : Fin 4) (r : Fin 1024) (e : Fin 256) : EReal :=
  ∑ l : Fin 16, ∑ k : Fin 64, kv (ix2 ⟨16 * r.val + l.val, by omega⟩ ⟨256 * s.val + 64 * g.val + k.val, by omega⟩) * w1 (ix3 s ⟨b + 64 * l.val + k.val, by omega⟩ e)
/-- The positions' share. -/
def posAt (s : Fin 2) (e : Fin 256) : EReal :=
  ∑ f : Fin 2048, pos (ix3 s ⟨f.val / 64, by omega⟩ ⟨f.val % 64, by omega⟩) * w1 (ix3 s f e)
/-- A hidden value, and a compressed row's value: the row past the last block is zero. -/
def hidAt (s : Fin 2) (g : Fin 4) (r : Fin 1024) (e : Fin 256) : EReal :=
  halfAt kv w1 0 (by decide) s g r e + halfAt kv w1 1024 (by decide) s g ⟨(r.val + 1) % 1024, by omega⟩ e + posAt pos w1 s e
def rowAt (s : Fin 2) (g : Fin 4) (r : Fin 1024) (d : Fin 64) : EReal :=
  if r.val < 1023 then ∑ e : Fin 256, gelu (hidAt kv pos w1 s g r e) * w2 (ix3 s e d) else 0
/-- The two results. -/
def rowsAll (i : S2x4x1024x64.Idx) : EReal := rowAt kv pos w1 w2 (i 0) (i 1) (i 2) (i 3)
def colsAll (i : S2x4x80x1024.Idx) : EReal :=
  if h : (i 2).val < 64 then rowAt kv pos w1 w2 (i 0) (i 1) (i 3) ⟨(i 2).val, h⟩ else if (i 2).val = 64 then 1 else 0

end Cells

/-! ## The windows -/

theorem index0 : ∀ t : Fin cfg0.N, win0_0.index t = ![0, t.val] := (by decide +kernel : ∀ t : Fin grid0.N, _)
theorem index1 : ∀ t : Fin cfg0.N, win0_1.index t = ![t.val / 2, 0, 0] := (by decide +kernel : ∀ t : Fin grid0.N, _)
theorem index2 : ∀ t : Fin cfg0.N, win0_2.index t = ![t.val / 2, 0, 0] := (by decide +kernel : ∀ t : Fin grid0.N, _)
theorem index3 : ∀ t : Fin cfg0.N, win0_3.index t = ![t.val / 2, 0, 0] := (by decide +kernel : ∀ t : Fin grid0.N, _)
theorem index4 : ∀ t : Fin cfg0.N, win0_4.index t = ![t.val / 2, t.val % 2, 0, 0] := (by decide +kernel : ∀ t : Fin grid0.N, _)
theorem index5 : ∀ t : Fin cfg0.N, win0_5.index t = ![t.val / 2, t.val % 2, 0, 0] := (by decide +kernel : ∀ t : Fin grid0.N, _)

/-- The part a point works on, and its group `g` of two. -/
def partOf (t : Fin cfg0.N) : Fin 2 := ⟨t.val / 2, by have h : t.val < 4 := t.isLt; omega⟩
def groupOf (t : Fin cfg0.N) (g : Fin 2) : Fin 4 := ⟨2 * (t.val % 2) + g.val, by omega⟩

variable (m : (ℓ : Loc nD τ sig) → Buf (Elt Ideal) ℓ) (c : Dev nD) (t : Fin cfg0.N)

theorem V_pos (s : Fin 2) (q : Fin 8) (f : Fin 2048) :
    V m c (Pipeline.arrRef spec0 1) (ix3 s q f : S2x8x2048.Idx)
      = m ((c : Thread nD τ).loc main_arg1) (ix3 s ⟨f.val / 64, by omega⟩ ⟨f.val % 64, by omega⟩ : S2x32x64.Idx) := by
  unfold V
  simp only [hostOps0, List.flatten_cons, List.flatten_nil, List.append_nil, List.cons_append, List.nil_append]
  after_results_simp
  pointwise
theorem V_w1 : V m c (Pipeline.arrRef spec0 2) = (m ((c : Thread nD τ).loc main_arg2) : FVec Ideal S2x2048x256 .f32) := by
  unfold V
  simp only [hostOps0, List.flatten_cons, List.flatten_nil, List.append_nil, List.cons_append, List.nil_append]
  after_results_simp
  rfl
theorem V_w2 : V m c (Pipeline.arrRef spec0 3) = (m ((c : Thread nD τ).loc main_arg3) : FVec Ideal S2x256x64 .f32) := by
  unfold V
  simp only [hostOps0, List.flatten_cons, List.flatten_nil, List.append_nil, List.cons_append, List.nil_append]
  after_results_simp
  rfl

theorem block0 (r : Fin 16384) (x : Fin 128) :
    iblk m c 0 t (ix2 r x) = m ((c : Thread nD τ).loc main_arg0) (ix2 r ⟨128 * t.val + x.val, by have h : t.val < 4 := t.isLt; omega⟩ : S16384x512.Idx) := by
  rw [← V_main_arg0 m c]
  refine congrArg (V m c main_arg0) (funext fun a => Fin.ext ?_)
  match a with
  | ⟨0, _⟩ => show win0_0.index t (0 : Fin 2) * 16384 + 1 * r.val = r.val
              rw [index0 t]; show 0 * 16384 + 1 * r.val = _; omega
  | ⟨1, _⟩ => show win0_0.index t (1 : Fin 2) * 128 + 1 * x.val = 128 * t.val + x.val
              rw [index0 t]; show t.val * 128 + 1 * x.val = _; omega
theorem block1 (f : Fin 2048) :
    iblk m c 1 t (ix3 0 0 f) = m ((c : Thread nD τ).loc main_arg1) (ix3 (partOf t) ⟨f.val / 64, by omega⟩ ⟨f.val % 64, by omega⟩ : S2x32x64.Idx) := by
  refine Eq.trans ?_ (V_pos m c (partOf t) 0 f)
  refine congrArg (V m c (Pipeline.arrRef spec0 1)) (funext fun a => Fin.ext ?_)
  match a with
  | ⟨0, _⟩ => show win0_1.index t (0 : Fin 3) * 1 + 1 * 0 = t.val / 2
              rw [index1 t]; show t.val / 2 * 1 + 1 * 0 = _; omega
  | ⟨1, _⟩ => show win0_1.index t (1 : Fin 3) * 8 + 1 * 0 = 0
              rw [index1 t]; rfl
  | ⟨2, _⟩ => show win0_1.index t (2 : Fin 3) * 2048 + 1 * f.val = f.val
              rw [index1 t]; show 0 * 2048 + 1 * f.val = _; omega
theorem block2 (f : Fin 2048) (e : Fin 256) :
    iblk m c 2 t (ix3 0 f e) = m ((c : Thread nD τ).loc main_arg2) (ix3 (partOf t) f e : S2x2048x256.Idx) := by
  refine Eq.trans ?_ (congrFun (V_w1 m c) (ix3 (partOf t) f e))
  refine congrArg (V m c (Pipeline.arrRef spec0 2)) (funext fun a => Fin.ext ?_)
  match a with
  | ⟨0, _⟩ => show win0_2.index t (0 : Fin 3) * 1 + 1 * 0 = t.val / 2
              rw [index2 t]; show t.val / 2 * 1 + 1 * 0 = _; omega
  | ⟨1, _⟩ => show win0_2.index t (1 : Fin 3) * 2048 + 1 * f.val = f.val
              rw [index2 t]; show 0 * 2048 + 1 * f.val = _; omega
  | ⟨2, _⟩ => show win0_2.index t (2 : Fin 3) * 256 + 1 * e.val = e.val
              rw [index2 t]; show 0 * 256 + 1 * e.val = _; omega
theorem block3 (e : Fin 256) (d : Fin 64) :
    iblk m c 3 t (ix3 0 e d) = m ((c : Thread nD τ).loc main_arg3) (ix3 (partOf t) e d : S2x256x64.Idx) := by
  refine Eq.trans ?_ (congrFun (V_w2 m c) (ix3 (partOf t) e d))
  refine congrArg (V m c (Pipeline.arrRef spec0 3)) (funext fun a => Fin.ext ?_)
  match a with
  | ⟨0, _⟩ => show win0_3.index t (0 : Fin 3) * 1 + 1 * 0 = t.val / 2
              rw [index3 t]; show t.val / 2 * 1 + 1 * 0 = _; omega
  | ⟨1, _⟩ => show win0_3.index t (1 : Fin 3) * 256 + 1 * e.val = e.val
              rw [index3 t]; show 0 * 256 + 1 * e.val = _; omega
  | ⟨2, _⟩ => show win0_3.index t (2 : Fin 3) * 64 + 1 * d.val = d.val
              rw [index3 t]; show 0 * 64 + 1 * d.val = _; omega

theorem blockOut4 (z : Fin 1) (g : Fin 2) (r : Fin 1024) (d : Fin 64) :
    (win0_4.blk t).view.emb (ix4 z g r d) = (ix4 (partOf t) (groupOf t g) r d : S2x4x1024x64.Idx) := by
  refine funext fun a => Fin.ext ?_
  match a with
  | ⟨0, _⟩ => show win0_4.index t (0 : Fin 4) * 1 + 1 * z.val = t.val / 2
              rw [index4 t]; show t.val / 2 * 1 + 1 * z.val = _; omega
  | ⟨1, _⟩ => show win0_4.index t (1 : Fin 4) * 2 + 1 * g.val = 2 * (t.val % 2) + g.val
              rw [index4 t]; show t.val % 2 * 2 + 1 * g.val = _; omega
  | ⟨2, _⟩ => show win0_4.index t (2 : Fin 4) * 1024 + 1 * r.val = r.val
              rw [index4 t]; show 0 * 1024 + 1 * r.val = _; omega
  | ⟨3, _⟩ => show win0_4.index t (3 : Fin 4) * 64 + 1 * d.val = d.val
              rw [index4 t]; show 0 * 64 + 1 * d.val = _; omega
theorem blockOut5 (z : Fin 1) (g : Fin 2) (x : Fin 80) (r : Fin 1024) :
    (win0_5.blk t).view.emb (ix4 z g x r) = (ix4 (partOf t) (groupOf t g) x r : S2x4x80x1024.Idx) := by
  refine funext fun a => Fin.ext ?_
  match a with
  | ⟨0, _⟩ => show win0_5.index t (0 : Fin 4) * 1 + 1 * z.val = t.val / 2
              rw [index5 t]; show t.val / 2 * 1 + 1 * z.val = _; omega
  | ⟨1, _⟩ => show win0_5.index t (1 : Fin 4) * 2 + 1 * g.val = 2 * (t.val % 2) + g.val
              rw [index5 t]; show t.val % 2 * 2 + 1 * g.val = _; omega
  | ⟨2, _⟩ => show win0_5.index t (2 : Fin 4) * 80 + 1 * x.val = x.val
              rw [index5 t]; show 0 * 80 + 1 * x.val = _; omega
  | ⟨3, _⟩ => show win0_5.index t (3 : Fin 4) * 1024 + 1 * r.val = r.val
              rw [index5 t]; show 0 * 1024 + 1 * r.val = _; omega

/-! ## The arrays -/

/-- The arguments' arrays. -/
abbrev kvOf : FVec Ideal S16384x512 .f32 := m ((c : Thread nD τ).loc main_arg0)
abbrev posOf : FVec Ideal S2x32x64 .f32 := m ((c : Thread nD τ).loc main_arg1)
abbrev w1Of : FVec Ideal S2x2048x256 .f32 := m ((c : Thread nD τ).loc main_arg2)
abbrev w2Of : FVec Ideal S2x256x64 .f32 := m ((c : Thread nD τ).loc main_arg3)

theorem chain_block (g : Fin 2) (b : ℕ) (hb : b + 1024 ≤ 2048) (hq) (r : Fin 1024) (e : Fin 256) :
    chain (loads m c t) (k0_pay2 (F := Ideal) (iblk m c 2 t)) (64 * g.val) b (slices_cols g) hq 16 le_rfl (ix2 r e)
      = halfAt (kvOf m c) (w1Of m c) b hb (partOf t) (groupOf t g) r e := by
  rw [chain_apply _ _ (64 * g.val) b (slices_cols g) hq (by omega) hb r e 16 le_rfl]
  refine Finset.sum_congr rfl fun l _ => Finset.sum_congr rfl fun k _ => congrArg₂ (· * ·) ?_ ?_
  · refine (loads_apply m c t l r _).trans ((block0 m c t _ _).trans (congrArg (fun z => kvOf m c (ix2 _ z)) (Fin.ext ?_)))
    show 128 * t.val + (64 * g.val + k.val) = 256 * (t.val / 2) + 64 * (2 * (t.val % 2) + g.val) + k.val
    omega
  · refine Eq.trans ?_ (block2 m c t _ e)
    pointwise [k0_pay2]

theorem hidden_block (g : Fin 2) (r : Fin 1024) (e : Fin 256) :
    hidden (loads m c t) (iblk m c 1 t) (iblk m c 2 t) g (ix2 r e) = hidAt (kvOf m c) (posOf m c) (w1Of m c) (partOf t) (groupOf t g) r e := by
  refine (hid_apply _ _ _ r e).trans (congrArg₂ (· + ·) (congrArg₂ (· + ·) (chain_block m c t g 0 _ _ r e) (chain_block m c t g 1024 _ _ _ e)) ?_)
  refine (bias_apply _ _ e).trans (Finset.sum_congr rfl fun f _ => congrArg₂ (· * ·) (block1 m c t f) (block2 m c t f e))

theorem outs_block (g : Fin 2) (r : Fin 1024) (d : Fin 64) :
    outs m c t g (ix2 r d) = rowAt (kvOf m c) (posOf m c) (w1Of m c) (w2Of m c) (partOf t) (groupOf t g) r d := by
  refine (out_apply _ _ r d).trans ?_
  unfold rowAt
  refine if_congr Iff.rfl (Finset.sum_congr rfl fun e _ => congrArg₂ (· * ·) (congrArg gelu (hidden_block m c t g r e)) (block3 m c t e d)) rfl

theorem array4_eq : (dats m 0 c).arrAt 4 cfg0.N = rowsAll (kvOf m c) (posOf m c) (w1Of m c) (w2Of m c) := by
  refine (dats m 0 c).arrAt_eq_of_covers 4 _ (by decide +kernel) fun t hf y => ?_
  blk_simp
  have hy : y = (ix4 (y 0) (y 1) (y 2) (y 3) : S1x2x1024x64.Idx) := eq_ix4 (n0 := 1) (n1 := 2) (n2 := 1024) (n3 := 64) y
  rw [hy, after4_eq]
  exact (outs_block m c t (y 1) (y 2) (y 3)).trans (congrArg (rowsAll (kvOf m c) (posOf m c) (w1Of m c) (w2Of m c)) (blockOut4 t (y 0) (y 1) (y 2) (y 3))).symm
theorem array5_eq : (dats m 0 c).arrAt 5 cfg0.N = colsAll (kvOf m c) (posOf m c) (w1Of m c) (w2Of m c) := by
  refine (dats m 0 c).arrAt_eq_of_covers 5 _ (by decide +kernel) fun t hf y => ?_
  blk_simp
  have hy : y = (ix4 (y 0) (y 1) (y 2) (y 3) : S1x2x80x1024.Idx) := eq_ix4 (n0 := 1) (n1 := 2) (n2 := 80) (n3 := 1024) y
  rw [hy, after5_eq]
  refine Eq.trans ?_ (congrArg (colsAll (kvOf m c) (posOf m c) (w1Of m c) (w2Of m c)) (blockOut5 t (y 0) (y 1) (y 2) (y 3))).symm
  exact dite_congr rfl (fun h => outs_block m c t (y 1) (y 3) _) (fun _ => rfl)

end Cert.CmpIdeal.Cmp

end
-- ==== Proof.Cmp.Reference.lean ====
/- The compression's reference, its stages named and read at an index. -/
module

public import proofs.«01_k».proof.Proof.Gen.CmpRefIdeal.Run
public import proofs.«01_k».proof.Proof.Cmp.Arrays
public import Idealize.ShloMosaic.Lib.Pipeline.ValueKit

@[expose] public section

set_option maxRecDepth 16384

noncomputable section

namespace Cert.CmpRefIdeal.Cmp

open Cert.CmpRefIdeal Cert.CmpRefIdeal.Gen Idealize.ShloMosaic Idealize.ShloMosaic.TcCoe Idealize.SL.Sem
open Cert.CmpIdeal.Cmp (gelu)

/-! ## The stages -/

/-- The overlapping blocks of 32 rows with their positions added, flattened. -/
def blocks (kv : FVec Ideal S16384x512 .f32) (pos : FVec Ideal S2x32x64 .f32) : FVec Ideal S1023x2x4x2048 .f32 :=
  shapeCast _ (transpose S1023x2x4x32x64 [0, 2, 3, 1, 4] (addf (concatenate S1023x32x2x4x64 1 [⟨S1023x16x2x4x64, (extractStridedSlice S1023x16x2x4x64 ![0, 0, 0, 0, 0] (shapeCast _ kv shapeCasts_S16384x512_S1024x16x2x4x64) slices_S1024x16x2x4x64_S1023x16x2x4x64_0_0_0_0_0)⟩, ⟨S1023x16x2x4x64, (extractStridedSlice S1023x16x2x4x64 ![1, 0, 0, 0, 0] (shapeCast _ kv shapeCasts_S16384x512_S1024x16x2x4x64) slices_S1024x16x2x4x64_S1023x16x2x4x64_1_0_0_0_0)⟩] concatenates_S1023x16x2x4x64_S1023x16x2x4x64_S1023x32x2x4x64_d1) (broadcastInDim S1023x32x2x4x64 ![0, 1, 2, 3, 4] bcast_S1x32x2x1x64_S1023x32x2x4x64_0_1_2_3_4 (broadcastInDim S1x32x2x1x64 ![1, 2, 4] bcast_S32x2x64_S1x32x2x1x64_1_2_4 (transpose S32x2x64 [1, 0, 2] pos transposes_S2x32x64_S32x2x64_1_0_2)))) transposes_S1023x32x2x4x64_S1023x2x4x32x64_0_2_3_1_4) shapeCasts_S1023x2x4x32x64_S1023x2x4x2048
/-- The hidden values. -/
def hiddenRef (kv : FVec Ideal S16384x512 .f32) (pos : FVec Ideal S2x32x64 .f32) (w1 : FVec Ideal S2x2048x256 .f32) : FVec Ideal S1023x2x4x256 .f32 :=
  transpose S1023x2x4x256 [2, 0, 3, 1] (Host.dotGeneral dot_S2x2048x256_S1023x2x4x2048_S2x256x1023x4_1_3_2_02_0_1 none w1 (blocks kv pos)) transposes_S2x256x1023x4_S1023x2x4x256_2_0_3_1
/-- The smooth gate. -/
def gated (H : FVec Ideal S1023x2x4x256 .f32) : FVec Ideal S1023x2x4x256 .f32 :=
  mulf H (mulf (broadcastInDim S1023x2x4x256 ![] bcast_S_S1023x2x4x256 (constant (F := Ideal) S_ .f32 0x3F000000#32)) (addf (broadcastInDim S1023x2x4x256 ![] bcast_S_S1023x2x4x256 (constant (F := Ideal) S_ .f32 0x3F800000#32)) (Host.tanh (mulf (broadcastInDim S1023x2x4x256 ![] bcast_S_S1023x2x4x256 (constant (F := Ideal) S_ .f32 0x3F4C422A#32)) (addf H (mulf (broadcastInDim S1023x2x4x256 ![] bcast_S_S1023x2x4x256 (constant (F := Ideal) S_ .f32 0x3D372713#32)) (mulf (mulf H H) H)))))))
/-- The compressed rows, with a row of zeros after the last block. -/
def compressed (H : FVec Ideal S1023x2x4x256 .f32) (w2 : FVec Ideal S2x256x64 .f32) : FVec Ideal S2x4x1024x64 .f32 :=
  concatenate S2x4x1024x64 2 [⟨S2x4x1023x64, (transpose S2x4x1023x64 [1, 2, 0, 3] (transpose S1023x2x4x64 [2, 0, 3, 1] (Host.dotGeneral dot_S2x256x64_S1023x2x4x256_S2x64x1023x4_1_3_2_02_0_1 none w2 (gated H)) transposes_S2x64x1023x4_S1023x2x4x64_2_0_3_1) transposes_S1023x2x4x64_S2x4x1023x64_1_2_0_3)⟩, ⟨S2x4x1x64, (broadcastInDim S2x4x1x64 ![] bcast_S_S2x4x1x64 (constant (F := Ideal) S_ .f32 0x00000000#32))⟩] concatenates_S2x4x1023x64_S2x4x1x64_S2x4x1024x64_d2
/-- The two results. -/
def rowsRef (R : FVec Ideal S2x4x1024x64 .f32) : FVec Ideal S2x4x1024x64 .bf16 :=
  truncf .bf16 R bitsLt_bf16_f32
def colsRef (R : FVec Ideal S2x4x1024x64 .f32) : FVec Ideal S2x4x80x1024 .bf16 :=
  truncf .bf16 ((concatenate S2x4x80x1024 2 [⟨S2x4x64x1024, ((transpose S2x4x64x1024 [0, 1, 3, 2] R transposes_S2x4x1024x64_S2x4x64x1024_0_1_3_2) : (⟨S2x4x64x1024, .f32⟩ : BufTy).Contents (Elt Ideal))⟩, ⟨S2x4x1x1024, ((broadcastInDim S2x4x1x1024 ![] bcast_S_S2x4x1x1024 (constant (F := Ideal) S_ .f32 0x3F800000#32)) : (⟨S2x4x1x1024, .f32⟩ : BufTy).Contents (Elt Ideal))⟩, ⟨S2x4x15x1024, ((broadcastInDim S2x4x15x1024 ![] bcast_S_S2x4x15x1024 (constant (F := Ideal) S_ .f32 0x00000000#32)) : (⟨S2x4x15x1024, .f32⟩ : BufTy).Contents (Elt Ideal))⟩] concatenates_S2x4x64x1024_S2x4x1x1024_S2x4x15x1024_S2x4x80x1024_d2 : (⟨S2x4x80x1024, .f32⟩ : BufTy).Contents (Elt Ideal))) bitsLt_bf16_f32

/-! ## The stages at an index -/

theorem blocks_apply (kv : FVec Ideal S16384x512 .f32) (pos : FVec Ideal S2x32x64 .f32) (r : Fin 1023) (s : Fin 2) (g : Fin 4) (f : Fin 2048) :
    blocks kv pos (ix4 r s g f)
      = kv (ix2 ⟨16 * r.val + f.val / 64, by omega⟩ ⟨256 * s.val + 64 * g.val + f.val % 64, by omega⟩)
        + pos (ix3 s ⟨f.val / 64, by omega⟩ ⟨f.val % 64, by omega⟩) := by
  pointwise [blocks]
  refine congrArg₂ (· + ·) ?_ rfl
  by_cases h : f.val / 64 < 16
  · rw [dif_pos h]
    exact congrArg₂ (fun a b => kv (ix2 a b)) (Fin.ext (by show r.val * 16 + f.val / 64 = 16 * r.val + f.val / 64; omega))
      (Fin.ext (by show s.val * 256 + g.val * 64 + f.val % 64 = 256 * s.val + 64 * g.val + f.val % 64; omega))
  · rw [dif_neg h]
    exact congrArg₂ (fun a b => kv (ix2 a b)) (Fin.ext (by show (1 + r.val) * 16 + (f.val / 64 - 16) = 16 * r.val + f.val / 64; omega))
      (Fin.ext (by show s.val * 256 + g.val * 64 + f.val % 64 = 256 * s.val + 64 * g.val + f.val % 64; omega))

theorem hiddenRef_apply (kv : FVec Ideal S16384x512 .f32) (pos : FVec Ideal S2x32x64 .f32) (w1 : FVec Ideal S2x2048x256 .f32) (r : Fin 1023) (s : Fin 2) (g : Fin 4) (e : Fin 256) :
    hiddenRef kv pos w1 (ix4 r s g e) = ∑ f : Fin 2048, w1 (ix3 s f e) * blocks kv pos (ix4 r s g f) := by
  pointwise [hiddenRef]

theorem gated_apply (H : FVec Ideal S1023x2x4x256 .f32) (r : Fin 1023) (s : Fin 2) (g : Fin 4) (e : Fin 256) :
    gated H (ix4 r s g e) = gelu (H (ix4 r s g e)) := by
  pointwise [gated]
  rw [mul_comm (H (ix4 r s g e) * H (ix4 r s g e))]
  rfl

theorem compressed_apply (H : FVec Ideal S1023x2x4x256 .f32) (w2 : FVec Ideal S2x256x64 .f32) (s : Fin 2) (g : Fin 4) (r : Fin 1024) (d : Fin 64) :
    compressed H w2 (ix4 s g r d)
      = if h : r.val < 1023 then ∑ e : Fin 256, w2 (ix3 s e d) * gelu (H (ix4 ⟨r.val, h⟩ s g e)) else 0 := by
  pointwise [compressed]
  exact dite_congr rfl (fun h => Finset.sum_congr rfl fun e _ => congrArg (w2 (ix3 s e d) * ·) (gated_apply H ⟨r.val, h⟩ s g e)) (fun _ => rfl)

theorem colsRef_apply (R : FVec Ideal S2x4x1024x64 .f32) (s : Fin 2) (g : Fin 4) (x : Fin 80) (r : Fin 1024) :
    colsRef R (ix4 s g x r) = if h : x.val < 64 then R (ix4 s g r ⟨x.val, h⟩) else if x.val = 64 then 1 else 0 := by
  pointwise [colsRef]
  by_cases h : x.val < 64
  · rw [dif_pos h, dif_pos h]
  · rw [dif_neg h, dif_neg h]
    exact if_congr (show x.val - 64 < 1 ↔ x.val = 64 by omega) rfl rfl

/-! ## The run -/

variable (m : (ℓ : Loc nD τ sig) → Buf (Elt Ideal) ℓ) (ρ : Dev nD → PrngReg)

abbrev compressedOf (c : Dev nD) : FVec Ideal S2x4x1024x64 .f32 :=
  compressed (hiddenRef (m ((c.tc : Thread nD τ).loc main_arg0)) (m ((c.tc : Thread nD τ).loc main_arg1)) (m ((c.tc : Thread nD τ).loc main_arg2))) (m ((c.tc : Thread nD τ).loc main_arg3))

/-- The reference's run, its results named. -/
theorem run : θ_run defs (onTc (τ := τ) (main (F := Ideal))) ⟨m, fun _ => 0, ρ⟩ fun r => ∀ c : Dev nD,
      r.2.mem ((c.tc : Thread nD τ).loc main_v33) = rowsRef (compressedOf m c)
      ∧ r.2.mem ((c.tc : Thread nD τ).loc main_v35) = colsRef (compressedOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.CmpRefIdeal.Value.run (F := Ideal) m ρ

end Cert.CmpRefIdeal.Cmp

end
-- ==== Proof.Cmp.Equation.lean ====
/- The compression equals its reference: from finite positions and first weights, a weight distributes over a key or value plus its
   position, and a block's 32 rows are two halves of sixteen. -/
module

public import proofs.«01_k».proof.Defs
public import proofs.«01_k».proof.Proof.Value.Equation
public import proofs.«01_k».proof.Proof.Gen.Cmp.Frame
public import proofs.«01_k».proof.Proof.Cmp.Reference

@[expose] public section

set_option maxRecDepth 16384

noncomputable section

namespace Cert.Cmp

open Idealize.ShloMosaic Idealize.ShloMosaic.TcCoe Idealize.SL.Sem
open Cert.CmpIdeal.Cmp (gelu halfAt posAt hidAt rowAt rowsAll colsAll)
open Cert.CmpRefIdeal.Cmp (blocks hiddenRef compressed rowsRef colsRef blocks_apply hiddenRef_apply compressed_apply colsRef_apply)

/-! ## Finite positions and weights -/

variable [Cert.Pre_positions_finite.Facts]

/-- The precondition gives real positions and first weights. -/
theorem real_of_pre (kv : FVec Ideal Cert.CmpIdeal.S16384x512 .f32) (pos : FVec Ideal Cert.CmpIdeal.S2x32x64 .f32)
    (w1 : FVec Ideal Cert.CmpIdeal.S2x2048x256 .f32) (w2 : FVec Ideal Cert.CmpIdeal.S2x256x64 .f32)
    (h : (Cert.Pre_positions_finite.fn (F := Ideal) kv pos w1 w2).1 = (fun _ => 1#1) ∧ (Cert.Pre_positions_finite.fn (F := Ideal) kv pos w1 w2).2 = fun _ => 1#1) :
    (∀ s l k, pos (ix3 s l k) ≠ ⊤ ∧ pos (ix3 s l k) ≠ ⊥) ∧ ∀ s f e, w1 (ix3 s f e) ≠ ⊤ ∧ w1 (ix3 s f e) ≠ ⊥ := by
  refine ⟨fun s l k => Cert.Sb.real_of_lt_word _ ?_, fun s f e => Cert.Sb.real_of_lt_word _ ?_⟩
  · have h1 := congrFun h.1 (ix3 s l k)
    unfold Cert.Pre_positions_finite.fn at h1
    pointwise at h1
    exact h1
  · have h1 := congrFun h.2 (ix3 s f e)
    unfold Cert.Pre_positions_finite.fn at h1
    pointwise at h1
    exact h1

omit [Cert.Pre_positions_finite.Facts]

/-- A real factor distributes over a number plus a real one. -/
theorem mul_add_real (w a p : EReal) (hw : w ≠ ⊤ ∧ w ≠ ⊥) (hp : p ≠ ⊤ ∧ p ≠ ⊥) : w * (a + p) = a * w + p * w := by
  obtain ⟨x, rfl⟩ : ∃ x : ℝ, (x : EReal) = w := ⟨w.toReal, EReal.coe_toReal hw.1 hw.2⟩
  obtain ⟨q, rfl⟩ : ∃ q : ℝ, (q : EReal) = p := ⟨p.toReal, EReal.coe_toReal hp.1 hp.2⟩
  rw [mul_comm a, mul_comm (q : EReal)]
  rcases le_total 0 x with hx | hx
  · exact EReal.left_distrib_of_nonneg_of_ne_top (EReal.coe_nonneg.mpr hx) (EReal.coe_ne_top x) a q
  · have hn : (0 : EReal) ≤ ((-x : ℝ) : EReal) := EReal.coe_nonneg.mpr (neg_nonneg.mpr hx)
    have hd := EReal.left_distrib_of_nonneg_of_ne_top hn (EReal.coe_ne_top (-x)) a q
    have hr : ((-x : ℝ) : EReal) * (q : EReal) = ((-x * q : ℝ) : EReal) := (EReal.coe_mul (-x) q).symm
    have hq := EReal.neg_add (x := ((-x : ℝ) : EReal) * a) (y := ((-x : ℝ) : EReal) * (q : EReal))
      (Or.inr (by rw [hr]; exact EReal.coe_ne_top _)) (Or.inr (by rw [hr]; exact EReal.coe_ne_bot _))
    have hx' : ∀ z : EReal, (x : EReal) * z = -(((-x : ℝ) : EReal) * z) := fun z => by
      rw [EReal.coe_neg, EReal.neg_mul, neg_neg]
    rw [hx', hx', hx', hd, hq, sub_eq_add_neg]

/-- A sum over the features is a sum over the two halves' sixteen rows of 64. -/
theorem sum_features (G : Fin 2048 → EReal) :
    ∑ f, G f = (∑ l : Fin 16, ∑ k : Fin 64, G ⟨0 + 64 * l.val + k.val, by omega⟩) + ∑ l : Fin 16, ∑ k : Fin 64, G ⟨1024 + 64 * l.val + k.val, by omega⟩ := by
  have h1 : ∑ f, G f = ∑ l : Fin (16 + 16), ∑ k : Fin 64, G ⟨64 * l.val + k.val, by omega⟩ := by
    refine ((finProdFinEquiv (m := 32) (n := 64)).sum_comp (fun f : Fin (32 * 64) => G f)).symm.trans ((Fintype.sum_prod_type _).trans ?_)
    exact Finset.sum_congr rfl fun l _ => Finset.sum_congr rfl fun k _ => congrArg G (Fin.ext (Nat.add_comm _ _))
  rw [h1, Fin.sum_univ_add]
  refine congrArg₂ (· + ·) ?_ ?_
  · exact Finset.sum_congr rfl fun l _ => Finset.sum_congr rfl fun k _ => congrArg G (Fin.ext (by show 64 * l.val + k.val = 0 + 64 * l.val + k.val; omega))
  · exact Finset.sum_congr rfl fun l _ => Finset.sum_congr rfl fun k _ => congrArg G (Fin.ext (by show 64 * (16 + l.val) + k.val = 1024 + 64 * l.val + k.val; omega))

/-! ## The equation -/

section Cells

variable (kv : FVec Ideal Cert.CmpIdeal.S16384x512 .f32) (pos : FVec Ideal Cert.CmpIdeal.S2x32x64 .f32)
  (w1 : FVec Ideal Cert.CmpIdeal.S2x2048x256 .f32) (w2 : FVec Ideal Cert.CmpIdeal.S2x256x64 .f32)
  (hp : ∀ s l k, pos (ix3 s l k) ≠ ⊤ ∧ pos (ix3 s l k) ≠ ⊥) (hw : ∀ s f e, w1 (ix3 s f e) ≠ ⊤ ∧ w1 (ix3 s f e) ≠ ⊥)

include hp hw

theorem hidden_eq (r : Fin 1023) (s : Fin 2) (g : Fin 4) (e : Fin 256) :
    hiddenRef kv pos w1 (ix4 r s g e) = hidAt kv pos w1 s g ⟨r.val, by omega⟩ e := by
  have h1 : hiddenRef kv pos w1 (ix4 r s g e)
      = ∑ f : Fin 2048, (kv (ix2 ⟨16 * r.val + f.val / 64, by omega⟩ ⟨256 * s.val + 64 * g.val + f.val % 64, by omega⟩) * w1 (ix3 s f e)
          + pos (ix3 s ⟨f.val / 64, by omega⟩ ⟨f.val % 64, by omega⟩) * w1 (ix3 s f e)) := by
    refine (hiddenRef_apply kv pos w1 r s g e).trans (Finset.sum_congr rfl fun f _ => ?_)
    rw [blocks_apply kv pos r s g f]
    exact mul_add_real _ _ _ (hw s f e) (hp s _ _)
  rw [h1, Finset.sum_add_distrib, sum_features]
  refine congrArg₂ (· + ·) (congrArg₂ (· + ·) ?_ ?_) rfl
  · refine Finset.sum_congr rfl fun l _ => Finset.sum_congr rfl fun k _ => congrArg (· * w1 (ix3 s _ e)) (congrArg₂ (fun a b => kv (ix2 a b)) (Fin.ext ?_) (Fin.ext ?_))
    · show 16 * r.val + (0 + 64 * l.val + k.val) / 64 = 16 * r.val + l.val; omega
    · show 256 * s.val + 64 * g.val + (0 + 64 * l.val + k.val) % 64 = 256 * s.val + 64 * g.val + k.val; omega
  · refine Finset.sum_congr rfl fun l _ => Finset.sum_congr rfl fun k _ => congrArg (· * w1 (ix3 s _ e)) (congrArg₂ (fun a b => kv (ix2 a b)) (Fin.ext ?_) (Fin.ext ?_))
    · show 16 * r.val + (1024 + 64 * l.val + k.val) / 64 = 16 * ((r.val + 1) % 1024) + l.val; omega
    · show 256 * s.val + 64 * g.val + (1024 + 64 * l.val + k.val) % 64 = 256 * s.val + 64 * g.val + k.val; omega

theorem row_eq (s : Fin 2) (g : Fin 4) (r : Fin 1024) (d : Fin 64) :
    compressed (hiddenRef kv pos w1) w2 (ix4 s g r d) = rowAt kv pos w1 w2 s g r d := by
  refine (compressed_apply _ w2 s g r d).trans ?_
  unfold rowAt
  by_cases h : r.val < 1023
  · rw [dif_pos h, if_pos h]
    refine Finset.sum_congr rfl fun e _ => ?_
    rw [hidden_eq kv pos w1 hp hw ⟨r.val, h⟩ s g e]
    exact mul_comm _ _
  · rw [dif_neg h, if_neg h]

theorem rows_whole : rowsRef (compressed (hiddenRef kv pos w1) w2) = rowsAll kv pos w1 w2 := by
  funext i
  have hi : i = ix4 (i 0) (i 1) (i 2) (i 3) := eq_ix4 (n0 := 2) (n1 := 4) (n2 := 1024) (n3 := 64) i
  refine (congrArg (rowsRef _) hi).trans ?_
  exact row_eq kv pos w1 w2 hp hw (i 0) (i 1) (i 2) (i 3)
theorem cols_whole : colsRef (compressed (hiddenRef kv pos w1) w2) = colsAll kv pos w1 w2 := by
  funext i
  have hi : i = ix4 (i 0) (i 1) (i 2) (i 3) := eq_ix4 (n0 := 2) (n1 := 4) (n2 := 80) (n3 := 1024) i
  refine (congrArg (colsRef _) hi).trans ((colsRef_apply _ (i 0) (i 1) (i 2) (i 3)).trans ?_)
  exact dite_congr rfl (fun h => row_eq kv pos w1 w2 hp hw (i 0) (i 1) (i 3) ⟨(i 2).val, h⟩) (fun _ => rfl)

end Cells

set_option maxHeartbeats 4000000 in
/-- The compression. -/
theorem algebraic_cmp [Cert.Pre_positions_finite.Facts] :
    Cert.algebraic_CmpIdeal_CmpRefIdeal_pre_positions_finite (hCmpIdeal := Cert.CmpIdeal.Gen.facts) (hCmpRefIdeal := Cert.CmpRefIdeal.Gen.facts) := by
  intro m ρ m' ρ' hpre hagree
  refine ⟨fun c => (Cert.CmpIdeal.Gen.dats m 0 c).arrAt 4 Cert.CmpIdeal.cfg0.N,
    fun c => (Cert.CmpIdeal.Gen.dats m 0 c).arrAt 5 Cert.CmpIdeal.cfg0.N, Cert.CmpIdeal.Value.run_blocks (F := Ideal) m ρ, ?_⟩
  refine (θ_run Cert.CmpRefIdeal.defs _ _).mono (fun _ h c => ⟨(h c).1.trans ?_, (h c).2.1.trans ?_, (h c).2.2⟩) (Cert.CmpRefIdeal.Cmp.run m' ρ')
  all_goals
    obtain ⟨h0, h1, h2, h3⟩ := hagree c
    obtain ⟨hp, hw⟩ := real_of_pre _ _ _ _ (hpre c)
    unfold Cert.CmpRefIdeal.Cmp.compressedOf
    rw [h0, h1, h2, h3]
  · exact (rows_whole _ _ _ _ hp hw).trans (Cert.CmpIdeal.Cmp.array4_eq m c).symm
  · exact (cols_whole _ _ _ _ hp hw).trans (Cert.CmpIdeal.Cmp.array5_eq m c).symm

end Cert.Cmp

end
-- ==== Proof.lean ====
module

public import proofs.«01_k».proof.Defs
public import proofs.«01_k».proof.Proof.Kernel.Frame
public import proofs.«01_k».proof.Proof.KernelIdeal.Frame
public import proofs.«01_k».proof.Proof.Value.Equation
public import proofs.«01_k».proof.Proof.Mlp.Equation
public import proofs.«01_k».proof.Proof.Qkv.Equation
public import proofs.«01_k».proof.Proof.Kvq.Equation
public import proofs.«01_k».proof.Proof.Cmp.Equation
public import proofs.«01_k».proof.Proof.Gen.Out.Frame
public import proofs.«01_k».proof.Proof.Gen.Mid.Frame
public import proofs.«01_k».proof.Proof.Gen.Qkv.Frame
public import proofs.«01_k».proof.Proof.Gen.Kvq.Frame
public import proofs.«01_k».proof.Proof.Gen.Cmp.Frame
public import proofs.«01_k».proof.Proof.Gen.CmpIdeal.Value
public import proofs.«01_k».proof.Proof.Gen.CmpRefIdeal.Run
public import Idealize.ShloMosaic.Adequacy
public import Idealize.ShloMosaic.Init

@[expose] public section

noncomputable section

namespace Cert.Proof

open Idealize.ShloMosaic Idealize.SL.Sem

/-- The preconditions' side conditions. -/
theorem facts_logits_finite : Cert.Pre_logits_finite.Facts := ⟨by decide, by decide, by decide⟩
theorem facts_positions_finite : Cert.Pre_positions_finite.Facts := ⟨by decide, by decide⟩

attribute [local instance] facts_logits_finite facts_positions_finite

/-- The reference leaves its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is minus infinity. -/
theorem preserves : Cert.preserves_Kernel_KernelIdeal :=
  ⟨rfl, fun _ => IdealRules.named_const.ideal_named _ _ _ _ rfl, IdealRules.named_const.ideal_named_scalar _ _ _ _ rfl⟩

/-- The attention is its reference. -/
theorem algebraic : Cert.algebraic_KernelIdeal_ReferenceIdeal_pre_logits_finite := by
  intro m ρ m' ρ' hpre hagree
  refine ⟨fun c => (Cert.KernelIdeal.Sb.dats m 0 c).arrAt 4 (Cert.KernelIdeal.cfg0 (F := Ideal)).N, ?_, ?_⟩
  · exact (θ_run Cert.KernelIdeal.defs _ _).mono (fun _ h => h.1) (Cert.KernelIdeal.Sb.run (F := Ideal) m ρ)
  · exact (θ_run Cert.ReferenceIdeal.defs _ _).mono
      (fun _ h c => ⟨(h c).1.trans (Cert.Sb.array_eq_reference m m' hpre c (hagree c).1 (hagree c).2.1 (hagree c).2.2), (h c).2⟩)
      (Cert.ReferenceIdeal.Value.run (F := Ideal) m' ρ')

/-- The references of the other calls leave their arguments unchanged; they have no counters. -/
theorem frame_out_reference : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)
theorem frame_mid_reference : Cert.quiescent_MidRefIdeal (hMidRefIdeal := Cert.MidRefIdeal.Gen.facts) := fun m ρ _ =>
  (θ_run Cert.MidRefIdeal.defs _ _).mono (fun r h => ⟨fun c => (h c).2, sem_eq_zero_of_no_sems (by decide) r.2⟩)
    (Cert.MidRefIdeal.Value.run (F := Ideal) m ρ)
theorem frame_qkv_reference : Cert.quiescent_QkvRefIdeal (hQkvRefIdeal := Cert.QkvRefIdeal.Gen.facts) := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)
theorem frame_kvq_reference : Cert.quiescent_KvqRefIdeal (hKvqRefIdeal := Cert.KvqRefIdeal.Gen.facts) := fun m ρ _ =>
  (θ_run Cert.KvqRefIdeal.defs _ _).mono (fun r h => ⟨fun c => (h c).2.2.2.2.2.2.2.2, sem_eq_zero_of_no_sems (by decide) r.2⟩)
    (Cert.KvqRefIdeal.Value.run (F := Ideal) m ρ)
theorem frame_cmp_reference : Cert.quiescent_CmpRefIdeal (hCmpRefIdeal := Cert.CmpRefIdeal.Gen.facts) := fun m ρ _ =>
  (θ_run Cert.CmpRefIdeal.defs _ _).mono (fun r h => ⟨fun c => (h c).2.2, sem_eq_zero_of_no_sems (by decide) r.2⟩)
    (Cert.CmpRefIdeal.Value.run (F := Ideal) m ρ)

theorem claim : Cert.Claim :=
  ⟨Cert.Kernel.Gen.facts, Cert.KernelIdeal.Gen.facts, Cert.ReferenceIdeal.Gen.facts,
    Cert.Out.Gen.facts, Cert.OutIdeal.Gen.facts, Cert.OutRefIdeal.Gen.facts,
    Cert.Mid.Gen.facts, Cert.MidIdeal.Gen.facts, Cert.MidRefIdeal.Gen.facts,
    Cert.Qkv.Gen.facts, Cert.QkvIdeal.Gen.facts, Cert.QkvRefIdeal.Gen.facts,
    Cert.Kvq.Gen.facts, Cert.KvqIdeal.Gen.facts, Cert.KvqRefIdeal.Gen.facts,
    Cert.Cmp.Gen.facts, Cert.CmpIdeal.Gen.facts, Cert.CmpRefIdeal.Gen.facts, facts_logits_finite, facts_positions_finite,
    fun m ρ _ => Cert.Kernel.Sb.frame_main m ρ, fun m ρ _ => Cert.KernelIdeal.Sb.frame_main m ρ,
    fun m ρ _ => Cert.KernelIdeal.Sb.frame_main m ρ, frame_reference, fun m ρ _ => frame_reference m ρ trivial,
    fun m ρ _ => Cert.Out.Gen.frame m ρ, fun m ρ _ => Cert.OutIdeal.Gen.frame m ρ, frame_out_reference,
    fun m ρ _ => Cert.Mid.Gen.frame m ρ, fun m ρ _ => Cert.MidIdeal.Gen.frame m ρ, frame_mid_reference,
    fun m ρ _ => Cert.Qkv.Gen.frame m ρ, fun m ρ _ => Cert.QkvIdeal.Gen.frame m ρ, frame_qkv_reference,
    fun m ρ _ => Cert.Kvq.Gen.frame m ρ, fun m ρ _ => Cert.KvqIdeal.Gen.frame m ρ, frame_kvq_reference,
    fun m ρ _ => Cert.Cmp.Gen.frame m ρ, fun m ρ _ => Cert.CmpIdeal.Gen.frame m ρ, fun m ρ _ => Cert.CmpIdeal.Gen.frame m ρ,
    frame_cmp_reference, fun m ρ _ => frame_cmp_reference m ρ trivial,
    preserves, algebraic, trivial, Cert.Mlp.algebraic_out, trivial, Cert.Mlp.algebraic_mid, trivial, Cert.Qkv.algebraic_qkv,
    trivial, Cert.Kvq.algebraic_kvq, trivial, Cert.Cmp.algebraic_cmp⟩

end Cert.Proof

end
